-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S128x256x50 : Shape := ⟨3, ![128, 256, 50]⟩
abbrev S128x256 : Shape := ⟨2, ![128, 256]⟩
abbrev S50x50 : Shape := ⟨2, ![50, 50]⟩
abbrev S_ : Shape := ⟨0, ![]⟩

class Facts : Prop where
  bcast_S_S128x256x50 : S_.BroadcastsInDim S128x256x50 (![] : Fin 0 → Fin S128x256x50.rank)
  reducesTo_S128x256x50_S_d0_1_2 : S128x256x50.ReducesTo [0, 1, 2] S_
  h_S_ : 0 < S_.numel
  bcast_S_S50x50 : S_.BroadcastsInDim S50x50 (![] : Fin 0 → Fin S50x50.rank)
  reducesTo_S50x50_S_d0_1 : S50x50.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg2 : IVec S128x256 32) (main_v12 : IVec S_ 1) (main_v14 : IVec S128x256 1) (main_v15 : IVec S128x256 32) : IVec S_ 1 :=
  let main_v16 : IVec S128x256 1 := cmpi .slt main_arg2 main_v15
  let main_v17 : IVec S128x256 1 := andi main_v14 main_v16
  let main_c_6 : IVec S_ 1 := constantI S_ 1 1#1
  let main_v18 : IVec S_ 1 := (fun x v => Host.reduce IntOp.andi x v reducesTo_S128x256_S_d0_1 h_S_) main_v17 main_c_6
  let main_v19 : IVec S_ 1 := andi main_v12 main_v18
  main_v19

def fn {F : FTy → Type} [FloatOps F] (main_arg0 : FVec F S128x256x50 .f32) (main_arg1 : IVec S128x256 32) (main_arg2 : IVec S128x256 32) (main_arg3 : FVec F S50x50 .f32) : IVec S_ 1 :=
  let main_v0 : FVec F S128x256x50 .f32 := Host.absf main_arg0
  let main_cst : FVec F S_ .f32 := constant S_ .f32 0x7F800000#32
  let main_v1 : FVec F S128x256x50 .f32 := broadcastInDim S128x256x50 ![] bcast_S_S128x256x50 main_cst
  let main_v2 : IVec S128x256x50 1 := cmpf .olt main_v0 main_v1
  let main_c : IVec S_ 1 := constantI S_ 1 1#1
  let main_v3 : IVec S_ 1 := (fun x v => Host.reduce IntOp.andi x v reducesTo_S128x256x50_S_d0_1_2 h_S_) main_v2 main_c
  let main_v4 : FVec F S50x50 .f32 := Host.absf main_arg3
  let main_cst_0 : FVec F S_ .f32 := constant S_ .f32 0x7F800000#32
  let main_v5 : FVec F S50x50 .f32 := broadcastInDim S50x50 ![] bcast_S_S50x50 main_cst_0
  let main_v6 : IVec S50x50 1 := cmpf .olt main_v4 main_v5
  let main_c_1 : IVec S_ 1 := constantI S_ 1 1#1
  let main_v7 : IVec S_ 1 := (fun x v => Host.reduce IntOp.andi x v reducesTo_S50x50_S_d0_1 h_S_) main_v6 main_c_1
  let main_v8 : IVec S_ 1 := andi main_v3 main_v7
  let main_c_2 : IVec S_ 32 := constantI S_ 32 1#32
  let main_v9 : IVec S128x256 32 := broadcastInDim S128x256 ![] bcast_S_S128x256 main_c_2
  let main_v10 : IVec S128x256 1 := cmpi .eq main_arg1 main_v9
  let main_c_3 : IVec S_ 1 := constantI S_ 1 1#1
  let main_v11 : IVec S_ 1 := (fun x v => Host.reduce IntOp.andi x v reducesTo_S128x256_S_d0_1 h_S_) main_v10 main_c_3
  let main_v12 : IVec S_ 1 := andi main_v8 main_v11
  let main_c_4 : IVec S_ 32 := constantI S_ 32 0#32
  let main_v13 : IVec S128x256 32 := broadcastInDim S128x256 ![] bcast_S_S128x256 main_c_4
  let main_v14 : IVec S128x256 1 := cmpi .sge main_arg2 main_v13
  let main_c_5 : IVec S_ 32 := constantI S_ 32 50#32
  let main_v15 : IVec S128x256 32 := broadcastInDim S128x256 ![] bcast_S_S128x256 main_c_5
  fn_part1 (F := F) main_arg2 main_v12 main_v14 main_v15
-- ==== Kernel.lean ====
abbrev S128x256x50 : Shape := ⟨3, ![128, 256, 50]⟩
abbrev S128x256 : Shape := ⟨2, ![128, 256]⟩
abbrev S50x50 : Shape := ⟨2, ![50, 50]⟩
abbrev S256x128x50 : Shape := ⟨3, ![256, 128, 50]⟩
abbrev S_ : Shape := ⟨0, ![]⟩
abbrev S128x1 : Shape := ⟨2, ![128, 1]⟩
abbrev S128x255 : Shape := ⟨2, ![128, 255]⟩
abbrev S128x256x1 : Shape := ⟨3, ![128, 256, 1]⟩
abbrev S128x256x2 : Shape := ⟨3, ![128, 256, 2]⟩
abbrev S256x128x2 : Shape := ⟨3, ![256, 128, 2]⟩
abbrev S1x1 : Shape := ⟨2, ![1, 1]⟩
abbrev S32x128x50 : Shape := ⟨3, ![32, 128, 50]⟩
abbrev S32x128x2 : Shape := ⟨3, ![32, 128, 2]⟩
abbrev S128x50 : Shape := ⟨2, ![128, 50]⟩
abbrev S1x128x50 : Shape := ⟨3, ![1, 128, 50]⟩
abbrev S1x50 : Shape := ⟨2, ![1, 50]⟩
abbrev S128 : Shape := ⟨1, ![128]⟩
abbrev S64x50 : Shape := ⟨2, ![64, 50]⟩
abbrev S1x128x1 : Shape := ⟨3, ![1, 128, 1]⟩
abbrev S64 : Shape := ⟨1, ![64]⟩
abbrev S64x1 : Shape := ⟨2, ![64, 1]⟩
abbrev S1 : Shape := ⟨1, ![1]⟩
abbrev S1x1x1 : Shape := ⟨3, ![1, 1, 1]⟩

abbrev nBuf : Space → Nat
  | .hbm => 14
  | .vmem => 11
  | .smem => 0
  | _ => 0

abbrev bufTy : (tb : Table) → Fin (tcTables nBuf tb) → BufTy
  | .hbm, ⟨0, _⟩ => ⟨S128x256x50, .f32⟩
  | .hbm, ⟨1, _⟩ => ⟨S128x256, .i32⟩
  | .hbm, ⟨2, _⟩ => ⟨S128x256, .i32⟩
  | .hbm, ⟨3, _⟩ => ⟨S50x50, .f32⟩
  | .hbm, ⟨4, _⟩ => ⟨S256x128x50, .f32⟩
  | .hbm, ⟨5, _⟩ => ⟨S_, .i32⟩
  | .hbm, ⟨6, _⟩ => ⟨S128x1, .i32⟩
  | .hbm, ⟨7, _⟩ => ⟨S128x255, .i32⟩
  | .hbm, ⟨8, _⟩ => ⟨S128x256, .i32⟩
  | .hbm, ⟨9, _⟩ => ⟨S128x256x1, .i32⟩
  | .hbm, ⟨10, _⟩ => ⟨S128x256x1, .i32⟩
  | .hbm, ⟨11, _⟩ => ⟨S128x256x2, .i32⟩
  | .hbm, ⟨12, _⟩ => ⟨S256x128x2, .i32⟩
  | .hbm, ⟨13, _⟩ => ⟨S1x1, .f32⟩
  | .local _ .vmem, ⟨0, _⟩ => ⟨S32x128x50, .f32⟩
  | .local _ .vmem, ⟨1, _⟩ => ⟨S32x128x50, .f32⟩
  | .local _ .vmem, ⟨2, _⟩ => ⟨S32x128x2, .i32⟩
  | .local _ .vmem, ⟨3, _⟩ => ⟨S32x128x2, .i32⟩
  | .local _ .vmem, ⟨4, _⟩ => ⟨S50x50, .f32⟩
  | .local _ .vmem, ⟨5, _⟩ => ⟨S1x1, .f32⟩
  | .local _ .vmem, ⟨6, _⟩ => ⟨S128x50, .bf16⟩
  | .local _ .vmem, ⟨7, _⟩ => ⟨S128x1, .f32⟩
  | .local _ .vmem, ⟨8, _⟩ => ⟨S50x50, .bf16⟩
  | .local _ .vmem, ⟨9, _⟩ => ⟨S50x50, .bf16⟩
  | .local _ .vmem, ⟨10, _⟩ => ⟨S128x50, .f32⟩
  | _, _ => ⟨S128x256x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c1_i32 : BitVec 32 := 1#32
  let c7_i32_112 : BitVec 32 := 7#32
  let v172 : BitVec 32 := Scalar.addi c1_i32 c7_i32_112
  let c1_i32_113 : BitVec 32 := 1#32
  ⟨c1_i32, v172, c1_i32_113⟩
def k0_off1 (k0_t1 : Fin k0_t1_loop.trips) : Fin 3 → Nat :=
  let c1_i32 : BitVec 32 := 1#32
  let c1_i32_113 : BitVec 32 := 1#32
  let arg10 : BitVec 32 := Scf.iv c1_i32 c1_i32_113 k0_t1
  let c4_i32 : BitVec 32 := 4#32
  let v180 : BitVec 32 := Scalar.muli arg10 c4_i32
  let v181 : Index := Scalar.indexCast v180
  let c0_118 : Index := 0#32
  let c0_119 : Index := 0#32
  ![v181.toNat, 0, 0]
def k0_off2 (k0_t1 : Fin k0_t1_loop.trips) : Fin 3 → Nat :=
  let c1_i32 : BitVec 32 := 1#32
  let c1_i32_113 : BitVec 32 := 1#32
  let arg10 : BitVec 32 := Scf.iv c1_i32 c1_i32_113 k0_t1
  let c4_i32 : BitVec 32 := 4#32
  let v180 : BitVec 32 := Scalar.muli arg10 c4_i32
  let v204 : Index := Scalar.indexCast v180
  let c0_130 : Index := 0#32
  let c0_131 : Index := 0#32
  ![v204.toNat, 0, 0]
def k0_off3 (k0_t1 : Fin k0_t1_loop.trips) : Fin 3 → Nat :=
  let c1_i32 : BitVec 32 := 1#32
  let c1_i32_113 : BitVec 32 := 1#32
  let arg10 : BitVec 32 := Scf.iv c1_i32 c1_i32_113 k0_t1
  let c4_i32 : BitVec 32 := 4#32
  let v180 : BitVec 32 := Scalar.muli arg10 c4_i32
  let v207 : Index := Scalar.indexCast v180
  let c0_132 : Index := 0#32
  let c1_133 : Index := 1#32
  ![v207.toNat, 0, 1]
def k0_off4 (k0_t1 : Fin k0_t1_loop.trips) (c1_i32_142 : BitVec 32) : Fin 3 → Nat :=
  let c1_i32 : BitVec 32 := 1#32
  let c1_i32_113 : BitVec 32 := 1#32
  let arg10 : BitVec 32 := Scf.iv c1_i32 c1_i32_113 k0_t1
  let c4_i32 : BitVec 32 := 4#32
  let v180 : BitVec 32 := Scalar.muli arg10 c4_i32
  let v227 : BitVec 32 := Scalar.addi v180 c1_i32_142
  let v228 : Index := Scalar.indexCast v227
  let c0_143 : Index := 0#32
  let c0_144 : Index := 0#32
  ![v228.toNat, 0, 0]
def k0_off5 (k0_t1 : Fin k0_t1_loop.trips) (c1_i32_151 : BitVec 32) : Fin 3 → Nat :=
  let c1_i32 : BitVec 32 := 1#32
  let c1_i32_113 : BitVec 32 := 1#32
  let arg10 : BitVec 32 := Scf.iv c1_i32 c1_i32_113 k0_t1
  let c4_i32 : BitVec 32 := 4#32
  let v180 : BitVec 32 := Scalar.muli arg10 c4_i32
  let v242 : BitVec 32 := Scalar.addi v180 c1_i32_151
  let v246 : Index := Scalar.indexCast v242
  let c0_154 : Index := 0#32
  let c0_155 : Index := 0#32
  ![v246.toNat, 0, 0]
def k0_off6 (k0_t1 : Fin k0_t1_loop.trips) (c1_i32_151 : BitVec 32) : Fin 3 → Nat :=
  let c1_i32 : BitVec 32 := 1#32
  let c1_i32_113 : BitVec 32 := 1#32
  let arg10 : BitVec 32 := Scf.iv c1_i32 c1_i32_113 k0_t1
  let c4_i32 : BitVec 32 := 4#32
  let v180 : BitVec 32 := Scalar.muli arg10 c4_i32
  let v242 : BitVec 32 := Scalar.addi v180 c1_i32_151
  let v249 : Index := Scalar.indexCast v242
  let c0_156 : Index := 0#32
  let c1_157 : Index := 1#32
  ![v249.toNat, 0, 1]
def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .ne v5 c0_i32_2
  v6

@[reducible] def k0_t2_loop : Scf.Loop 32 :=
  let c0_i32_6 : BitVec 32 := 0#32
  let c8_i32 : BitVec 32 := 8#32
  let v12 : BitVec 32 := Scalar.addi c0_i32_6 c8_i32
  let c1_i32 : BitVec 32 := 1#32
  ⟨c0_i32_6, v12, c1_i32⟩
def k0_off7 (k0_t2 : Fin k0_t2_loop.trips) : Fin 3 → Nat :=
  let c0_i32_6 : BitVec 32 := 0#32
  let c1_i32 : BitVec 32 := 1#32
  let arg10 : BitVec 32 := Scf.iv c0_i32_6 c1_i32 k0_t2
  let c4_i32 : BitVec 32 := 4#32
  let v20 : BitVec 32 := Scalar.muli arg10 c4_i32
  let v21 : Index := Scalar.indexCast v20
  let c0_12 : Index := 0#32
  let c0_13 : Index := 0#32
  ![v21.toNat, 0, 0]
def k0_off8 (k0_t2 : Fin k0_t2_loop.trips) : Fin 3 → Nat :=
  let c0_i32_6 : BitVec 32 := 0#32
  let c1_i32 : BitVec 32 := 1#32
  let arg10 : BitVec 32 := Scf.iv c0_i32_6 c1_i32 k0_t2
  let c4_i32 : BitVec 32 := 4#32
  let v20 : BitVec 32 := Scalar.muli arg10 c4_i32
  let v44 : Index := Scalar.indexCast v20
  let c0_23 : Index := 0#32
  let c0_24 : Index := 0#32
  ![v44.toNat, 0, 0]
def k0_off9 (k0_t2 : Fin k0_t2_loop.trips) : Fin 3 → Nat :=
  let c0_i32_6 : BitVec 32 := 0#32
  let c1_i32 : BitVec 32 := 1#32
  let arg10 : BitVec 32 := Scf.iv c0_i32_6 c1_i32 k0_t2
  let c4_i32 : BitVec 32 := 4#32
  let v20 : BitVec 32 := Scalar.muli arg10 c4_i32
  let v47 : Index := Scalar.indexCast v20
  let c0_25 : Index := 0#32
  let c1 : Index := 1#32
  ![v47.toNat, 0, 1]
def k0_off10 (k0_t2 : Fin k0_t2_loop.trips) (c1_i32_34 : BitVec 32) : Fin 3 → Nat :=
  let c0_i32_6 : BitVec 32 := 0#32
  let c1_i32 : BitVec 32 := 1#32
  let arg10 : BitVec 32 := Scf.iv c0_i32_6 c1_i32 k0_t2
  let c4_i32 : BitVec 32 := 4#32
  let v20 : BitVec 32 := Scalar.muli arg10 c4_i32
  let v67 : BitVec 32 := Scalar.addi v20 c1_i32_34
  let v68 : Index := Scalar.indexCast v67
  let c0_35 : Index := 0#32
  let c0_36 : Index := 0#32
  ![v68.toNat, 0, 0]
def k0_off11 (k0_t2 : Fin k0_t2_loop.trips) (c1_i32_43 : BitVec 32) : Fin 3 → Nat :=
  let c0_i32_6 : BitVec 32 := 0#32
  let c1_i32 : BitVec 32 := 1#32
  let arg10 : BitVec 32 := Scf.iv c0_i32_6 c1_i32 k0_t2
  let c4_i32 : BitVec 32 := 4#32
  let v20 : BitVec 32 := Scalar.muli arg10 c4_i32
  let v82 : BitVec 32 := Scalar.addi v20 c1_i32_43
  let v86 : Index := Scalar.indexCast v82
  let c0_46 : Index := 0#32
  let c0_47 : Index := 0#32
  ![v86.toNat, 0, 0]
def k0_off12 (k0_t2 : Fin k0_t2_loop.trips) (c1_i32_43 : BitVec 32) : Fin 3 → Nat :=
  let c0_i32_6 : BitVec 32 := 0#32
  let c1_i32 : BitVec 32 := 1#32
  let arg10 : BitVec 32 := Scf.iv c0_i32_6 c1_i32 k0_t2
  let c4_i32 : BitVec 32 := 4#32
  let v20 : BitVec 32 := Scalar.muli arg10 c4_i32
  let v82 : BitVec 32 := Scalar.addi v20 c1_i32_43
  let v89 : Index := Scalar.indexCast v82
  let c0_48 : Index := 0#32
  let c1_49 : Index := 1#32
  ![v89.toNat, 0, 1]
def k0_cond3 (i : grid0.Coords) : BitVec 1 :=
  let arg0 : BitVec 32 := BitVec.ofNat 32 (i 0).val
  let c7_i32 : BitVec 32 := 7#32
  let v7 : BitVec 1 := Scalar.cmpi .eq arg0 c7_i32
  let v8 : BitVec 32 := Scalar.extui v7
  let c0_i32_3 : BitVec 32 := 0#32
  let v9 : BitVec 1 := Scalar.cmpi .ne v8 c0_i32_3
  v9

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x128x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S128x256x50 : Shape := ⟨3, ![128, 256, 50]⟩
abbrev S128x256 : Shape := ⟨2, ![128, 256]⟩
abbrev S50x50 : Shape := ⟨2, ![50, 50]⟩
abbrev S256x128x50 : Shape := ⟨3, ![256, 128, 50]⟩
abbrev S256x128x1x50 : Shape := ⟨4, ![256, 128, 1, 50]⟩
abbrev S1x1x50x50 : Shape := ⟨4, ![1, 1, 50, 50]⟩
abbrev S256x128x50x50 : Shape := ⟨4, ![256, 128, 50, 50]⟩
abbrev S256x128 : Shape := ⟨2, ![256, 128]⟩
abbrev S_ : Shape := ⟨0, ![]⟩
abbrev S1x128x50x50 : Shape := ⟨4, ![1, 128, 50, 50]⟩
abbrev S128x50x50 : Shape := ⟨3, ![128, 50, 50]⟩
abbrev S128x1x50 : Shape := ⟨3, ![128, 1, 50]⟩
abbrev S128x50 : Shape := ⟨2, ![128, 50]⟩
abbrev S255x128x50x50 : Shape := ⟨4, ![255, 128, 50, 50]⟩
abbrev S255x128 : Shape := ⟨2, ![255, 128]⟩
abbrev S1x128 : Shape := ⟨2, ![1, 128]⟩
abbrev S128 : Shape := ⟨1, ![128]⟩
abbrev S128x50x1 : Shape := ⟨3, ![128, 50, 1]⟩
abbrev S128x1 : Shape := ⟨2, ![128, 1]⟩
abbrev S1x50x50 : Shape := ⟨3, ![1, 50, 50]⟩
abbrev S128x255 : Shape := ⟨2, ![128, 255]⟩
abbrev S256x128x2500 : Shape := ⟨3, ![256, 128, 2500]⟩
abbrev S256x128x1 : Shape := ⟨3, ![256, 128, 1]⟩
abbrev S256x128x1x1 : Shape := ⟨4, ![256, 128, 1, 1]⟩
abbrev S128x1x1 : Shape := ⟨3, ![128, 1, 1]⟩
abbrev S50x1 : Shape := ⟨2, ![50, 1]⟩
abbrev S50 : Shape := ⟨1, ![50]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S128x256x50, .f32⟩
  | 1 => ⟨S128x256, .i32⟩
  | 2 => ⟨S128x256, .i32⟩
  | 3 => ⟨S50x50, .f32⟩
  | 4 => ⟨S256x128x50, .f32⟩
  | 5 => ⟨S256x128x1x50, .f32⟩
  | 6 => ⟨S1x1x50x50, .f32⟩
  | 7 => ⟨S256x128x50x50, .f32⟩
  | 8 => ⟨S256x128x50x50, .f32⟩
  | 9 => ⟨S256x128x50x50, .f32⟩
  | 10 => ⟨S256x128, .i32⟩
  | 11 => ⟨S_, .i32⟩
  | 12 => ⟨S256x128, .i32⟩
  | 13 => ⟨S256x128, .i1⟩
  | 14 => ⟨S256x128, .i1⟩
  | 15 => ⟨S1x128x50x50, .f32⟩
  | 16 => ⟨S128x50x50, .f32⟩
  | 17 => ⟨S128x1x50, .f32⟩
  | 18 => ⟨S128x50, .f32⟩
  | 19 => ⟨S255x128x50x50, .f32⟩
  | 20 => ⟨S255x128, .i1⟩
  | 21 => ⟨S_, .i32⟩
  | 22 => ⟨S255x128x50x50, .f32⟩
  | 23 => ⟨S255x128, .i1⟩
  | 24 => ⟨S_, .i32⟩
  | 25 => ⟨S128x50, .f32⟩
  | 26 => ⟨S_, .i32⟩
  | 27 => ⟨S_, .i1⟩
  | 28 => ⟨S_, .i32⟩
  | 29 => ⟨S_, .i32⟩
  | 30 => ⟨S_, .i32⟩
  | 31 => ⟨S1x128x50x50, .f32⟩
  | 32 => ⟨S128x50x50, .f32⟩
  | 33 => ⟨S_, .i32⟩
  | 34 => ⟨S1x128, .i1⟩
  | 35 => ⟨S128, .i1⟩
  | 36 => ⟨S128x50x1, .f32⟩
  | 37 => ⟨S128x50x50, .f32⟩
  | 38 => ⟨S128x50x50, .f32⟩
  | 39 => ⟨S_, .f32⟩
  | 40 => ⟨S128x50, .f32⟩
  | 41 => ⟨S128x1x50, .f32⟩
  | 42 => ⟨S128x50x50, .f32⟩
  | 43 => ⟨S128x50x50, .f32⟩
  | 44 => ⟨S128x50x50, .f32⟩
  | 45 => ⟨S_, .f32⟩
  | 46 => ⟨S128x50, .f32⟩
  | 47 => ⟨S128x50, .f32⟩
  | 48 => ⟨S128x50, .f32⟩
  | 49 => ⟨S128x1, .i1⟩
  | 50 => ⟨S128x50, .i1⟩
  | 51 => ⟨S128x50, .f32⟩
  | 52 => ⟨S_, .i32⟩
  | 53 => ⟨S_, .i32⟩
  | 54 => ⟨S1x50x50, .f32⟩
  | 55 => ⟨S128x50x1, .f32⟩
  | 56 => ⟨S128x50x50, .f32⟩
  | 57 => ⟨S128x50x50, .f32⟩
  | 58 => ⟨S128x50x50, .f32⟩
  | 59 => ⟨S_, .f32⟩
  | 60 => ⟨S128x50, .f32⟩
  | 61 => ⟨S128x1x50, .f32⟩
  | 62 => ⟨S128x50x50, .f32⟩
  | 63 => ⟨S128x50x50, .f32⟩
  | 64 => ⟨S128x50x50, .f32⟩
  | 65 => ⟨S_, .f32⟩
  | 66 => ⟨S128x50, .f32⟩
  | 67 => ⟨S128x50, .f32⟩
  | 68 => ⟨S128x50, .f32⟩
  | 69 => ⟨S128x1, .f32⟩
  | 70 => ⟨S128, .f32⟩
  | 71 => ⟨S_, .f32⟩
  | 72 => ⟨S_, .f32⟩
  | 73 => ⟨S256x128x50, .f32⟩
  | 74 => ⟨S256x128x1x50, .f32⟩
  | 75 => ⟨S1x1x50x50, .f32⟩
  | 76 => ⟨S256x128x50x50, .f32⟩
  | 77 => ⟨S256x128x50x50, .f32⟩
  | 78 => ⟨S256x128x50x50, .f32⟩
  | 79 => ⟨S256x128, .i32⟩
  | 80 => ⟨S_, .i32⟩
  | 81 => ⟨S256x128, .i32⟩
  | 82 => ⟨S256x128, .i1⟩
  | 83 => ⟨S256x128, .i1⟩
  | 84 => ⟨S128x1, .i32⟩
  | 85 => ⟨S_, .i32⟩
  | 86 => ⟨S128x1, .i32⟩
  | 87 => ⟨S128x1, .i32⟩
  | 88 => ⟨S128x255, .i32⟩
  | 89 => ⟨S_, .i32⟩
  | 90 => ⟨S128x255, .i32⟩
  | 91 => ⟨S128x255, .i32⟩
  | 92 => ⟨S128x255, .i32⟩
  | 93 => ⟨S128x255, .i32⟩
  | 94 => ⟨S128x256, .i32⟩
  | 95 => ⟨S256x128x2500, .f32⟩
  | 96 => ⟨S256x128, .i32⟩
  | 97 => ⟨S256x128x1, .i32⟩
  | 98 => ⟨S_, .i32⟩
  | 99 => ⟨S256x128x1, .i32⟩
  | 100 => ⟨S256x128x1, .i1⟩
  | 101 => ⟨S_, .i32⟩
  | 102 => ⟨S256x128x1, .i32⟩
  | 103 => ⟨S256x128x1, .i32⟩
  | 104 => ⟨S256x128x1, .i32⟩
  | 105 => ⟨S256x128x1x1, .i32⟩
  | 106 => ⟨S256x128x1, .f32⟩
  | 107 => ⟨S256x128, .f32⟩
  | 108 => ⟨S256x128, .f32⟩
  | 109 => ⟨S256x128, .f32⟩
  | 110 => ⟨S_, .f32⟩
  | 111 => ⟨S_, .f32⟩
  | 112 => ⟨S_, .i32⟩
  | 113 => ⟨S128, .i32⟩
  | 114 => ⟨S_, .i32⟩
  | 115 => ⟨S128, .i32⟩
  | 116 => ⟨S128, .i32⟩
  | 117 => ⟨S128x1, .i32⟩
  | 118 => ⟨S_, .i32⟩
  | 119 => ⟨S128x1, .i32⟩
  | 120 => ⟨S128x1, .i1⟩
  | 121 => ⟨S_, .i32⟩
  | 122 => ⟨S128x1, .i32⟩
  | 123 => ⟨S128x1, .i32⟩
  | 124 => ⟨S128x1, .i32⟩
  | 125 => ⟨S128x1x1, .i32⟩
  | 126 => ⟨S128x1, .i32⟩
  | 127 => ⟨S128, .i32⟩
  | _ => ⟨S128x256x50, .f32⟩

abbrev hbmTy0_1 (i : Nat) : BufTy := match i % 128 with
  | 0 => ⟨S50x1, .f32⟩
  | 1 => ⟨S50, .f32⟩
  | 2 => ⟨S_, .i32⟩
  | 3 => ⟨S128, .i32⟩
  | 4 => ⟨S128, .i1⟩
  | 5 => ⟨S_, .i32⟩
  | 6 => ⟨S128, .i32⟩
  | 7 => ⟨S128, .i32⟩
  | 8 => ⟨S128, .i32⟩
  | 9 => ⟨S128x1, .i32⟩
  | 10 => ⟨S128, .f32⟩
  | 11 => ⟨S_, .f32⟩
  | 12 => ⟨S_, .f32⟩
  | 13 => ⟨S_, .f32⟩
  | 14 => ⟨S_, .f32⟩
  | 15 => ⟨S1x1, .f32⟩
  | _ => ⟨S128x256x50, .f32⟩

abbrev hbmTy (i : Nat) : BufTy := match i / 128 with
  | 0 => hbmTy0_0 i
  | 1 => hbmTy0_1 i
  | _ => ⟨S128x256x50, .f32⟩

abbrev bufTy : (tb : Table) → Fin (tcTables nBuf tb) → BufTy
  | .hbm, ⟨i, _⟩ => hbmTy i
  | _, _ => ⟨S128x256x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_while0c_c_13 : Ref sig .tc := ⟨.hbm, 26, rfl⟩
abbrev main_while0c_v73 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_c_1 : Ref sig .tc := ⟨.hbm, 30, rfl⟩
abbrev main_while0b_call0_v0 : Ref sig .tc := ⟨.hbm, 31, rfl⟩
abbrev main_while0b_v73 : Ref sig .tc := ⟨.hbm, 32, rfl⟩
abbrev main_while0b_call1_c : Ref sig .tc := ⟨.hbm, 33, rfl⟩
abbrev main_while0b_call1_v0 : Ref sig .tc := ⟨.hbm, 34, rfl⟩
abbrev main_while0b_v74 : Ref sig .tc := ⟨.hbm, 35, rfl⟩
abbrev main_while0b_v75 : Ref sig .tc := ⟨.hbm, 36, rfl⟩
abbrev main_while0b_v76 : Ref sig .tc := ⟨.hbm, 37, rfl⟩
abbrev main_while0b_v77 : Ref sig .tc := ⟨.hbm, 38, rfl⟩
abbrev main_while0b_cst_13 : Ref sig .tc := ⟨.hbm, 39, rfl⟩
abbrev main_while0b_v78 : Ref sig .tc := ⟨.hbm, 40, rfl⟩
abbrev main_while0b_v79 : Ref sig .tc := ⟨.hbm, 41, rfl⟩
abbrev main_while0b_v80 : Ref sig .tc := ⟨.hbm, 42, rfl⟩
abbrev main_while0b_v81 : Ref sig .tc := ⟨.hbm, 43, rfl⟩
abbrev main_while0b_v82 : Ref sig .tc := ⟨.hbm, 44, rfl⟩
abbrev main_while0b_cst_14 : Ref sig .tc := ⟨.hbm, 45, rfl⟩
abbrev main_while0b_v83 : Ref sig .tc := ⟨.hbm, 46, rfl⟩
abbrev main_while0b_v84 : Ref sig .tc := ⟨.hbm, 47, rfl⟩
abbrev main_while0b_v85 : Ref sig .tc := ⟨.hbm, 48, rfl⟩
abbrev main_while0b_v86 : Ref sig .tc := ⟨.hbm, 49, rfl⟩
abbrev main_while0b_call2_v0 : Ref sig .tc := ⟨.hbm, 50, rfl⟩
abbrev main_while0b_v87 : Ref sig .tc := ⟨.hbm, 51, rfl⟩
abbrev main_while0b_c_15 : Ref sig .tc := ⟨.hbm, 52, rfl⟩
abbrev main_while0b_v88 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_2 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_c_3 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_4 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_c_5 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_call3_c : Ref sig .tc := ⟨.hbm, 98, rfl⟩
abbrev main_call3_v0 : Ref sig .tc := ⟨.hbm, 99, rfl⟩
abbrev main_call3_v1 : Ref sig .tc := ⟨.hbm, 100, rfl⟩
abbrev main_call3_c_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_cst_6 : Ref sig .tc := ⟨.hbm, 110, rfl⟩
abbrev main_v59 : Ref sig .tc := ⟨.hbm, 111, rfl⟩
abbrev main_c_7 : Ref sig .tc := ⟨.hbm, 112, rfl⟩
abbrev main_v60 : Ref sig .tc := ⟨.hbm, 113, rfl⟩
abbrev main_c_8 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_call4_c : Ref sig .tc := ⟨.hbm, 118, rfl⟩
abbrev main_call4_v0 : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_call5_c : Ref sig .tc := ⟨.hbm, 130, rfl⟩
abbrev main_call5_v0 : Ref sig .tc := ⟨.hbm, 131, rfl⟩
abbrev main_call5_v1 : Ref sig .tc := ⟨.hbm, 132, rfl⟩
abbrev main_call5_c_0 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_v68 : Ref sig .tc := ⟨.hbm, 138, rfl⟩
abbrev main_cst_9 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩

abbrev nD : Nat := 1
abbrev τ : Topo := Topo.v7x

variable {F : FTy → Type} [FloatOps F]

abbrev main_while0_count : Scf.Loop 32 := ⟨0#32, 255#32, 1#32⟩
-- ==== Proof.KI.BodyMid.lean ====
module

public import proofs.«01_k».proof.Proof.Gen.KernelIdeal.Frame
public import proofs.«01_k».proof.Proof.Gen.KernelIdeal.Loops
public import Idealize.ShloMosaic.Lib.Tactic

/-!
What one grid point of the kernel does to the buffers it is given, in three runs: the first point (`runFirst`), a point
that is neither the first nor the last (`runMid`), the last point (`runLast`). Each states what the written buffers hold
afterwards as functions of what they held before; the inputs' staging buffers are left as they were.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer held whole at given contents. -/
abbrev held (c : Dev nD) {S : Shape} {e : EltTy} (M : Memref sig .tc .vmem S e) (f : BufTy.Contents (Elt F) M.view.ty) : sProp 𝕄 :=
  M.view.loc (c : Thread nD τ) ↦[M.view.set]{fullShare} f

set_option maxHeartbeats 4000000 in
/-- A point that is neither the first nor the last: eight trips of the counted loop, then the two halves of `q` stored. -/
@[irreducible] def runMid (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)
    (h1 : ¬ k0_cond1 i = 1#1) (h2 : k0_cond2 i = 1#1) (h3 : ¬ k0_cond3 i = 1#1) (x1 : BufTy.Contents (Elt F) arg1.view.ty) (x2 : BufTy.Contents (Elt F) arg2.view.ty) (x7 : BufTy.Contents (Elt F) arg7.view.ty) (x8 : BufTy.Contents (Elt F) arg8.view.ty) :
    Σ' (g5 : BufTy.Contents (Elt F) arg5.view.ty → BufTy.Contents (Elt F) arg6.view.ty → BufTy.Contents (Elt F) arg9.view.ty → BufTy.Contents (Elt F) arg5.view.ty) (g6 : BufTy.Contents (Elt F) arg5.view.ty → BufTy.Contents (Elt F) arg6.view.ty → BufTy.Contents (Elt F) arg9.view.ty → BufTy.Contents (Elt F) arg6.view.ty), { g9 : BufTy.Contents (Elt F) arg5.view.ty → BufTy.Contents (Elt F) arg6.view.ty → BufTy.Contents (Elt F) arg9.view.ty → BufTy.Contents (Elt F) arg9.view.ty // ∀ (E : Set ℕ) (f5 : BufTy.Contents (Elt F) arg5.view.ty) (f6 : BufTy.Contents (Elt F) arg6.view.ty) (f9 : BufTy.Contents (Elt F) arg9.view.ty) (K : PUnit → sProp 𝕄),
      iprop(held c arg1 x1 ∗ held c arg2 x2 ∗ held c arg5 f5 ∗ held c arg6 f6 ∗ held c arg7 x7 ∗ held c arg8 x8 ∗ held c arg9 f9
        ∗ (iprop(held c arg1 x1 ∗ held c arg2 x2 ∗ held c arg5 (g5 f5 f6 f9) ∗ held c arg6 (g6 f5 f6 f9) ∗ held c arg7 x7 ∗ held c arg8 x8 ∗ held c arg9 (g9 f5 f6 f9)) -∗ K ⟨⟩))
      ⊢ wp frame (wpE (defs₀ (F := F)) Variants.none (c : Thread nD τ) none) E (cc0_kern i arg1 harg1 arg2 harg2 arg3 harg3 arg4 harg4 arg5 harg5 arg6 harg6 arg7 harg7 arg8 harg8 arg9 harg9) K } := by
  refine ⟨?_, ?_, ?_, fun E f5 f6 f9 K => ?run⟩
  case run =>
    simp only [cc0_kern_eq_skeleton]; unfold cc0_kern_skel
    iintro ⟨H1, H2, H5, H6, H7, H8, H9, Hk⟩
    sl_exec (disch := first | exact h1 | exact h2 | exact h3)
    sl_step
    iapply Hk
    isplitl [H1]; · iexact H1
    isplitl [H2]; · iexact H2
    isplitl [H5]; · iexact H5
    isplitl [H6]; · iexact H6
    isplitl [H7]; · iexact H7
    isplitl [H8]; · iexact H8
    iexact H9

set_option maxHeartbeats 4000000 in
/-- The last point: as `runMid`, and the result stored. -/
@[irreducible] def runLast (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)
    (h1 : ¬ k0_cond1 i = 1#1) (h2 : k0_cond2 i = 1#1) (h3 : k0_cond3 i = 1#1) (x1 : BufTy.Contents (Elt F) arg1.view.ty) (x2 : BufTy.Contents (Elt F) arg2.view.ty) (x3 : BufTy.Contents (Elt F) arg3.view.ty) (x7 : BufTy.Contents (Elt F) arg7.view.ty) (x8 : BufTy.Contents (Elt F) arg8.view.ty) :
    Σ' (g4 : BufTy.Contents (Elt F) arg4.view.ty → BufTy.Contents (Elt F) arg5.view.ty → BufTy.Contents (Elt F) arg6.view.ty → BufTy.Contents (Elt F) arg9.view.ty → BufTy.Contents (Elt F) arg4.view.ty) (g5 : BufTy.Contents (Elt F) arg4.view.ty → BufTy.Contents (Elt F) arg5.view.ty → BufTy.Contents (Elt F) arg6.view.ty → BufTy.Contents (Elt F) arg9.view.ty → BufTy.Contents (Elt F) arg5.view.ty) (g6 : BufTy.Contents (Elt F) arg4.view.ty → BufTy.Contents (Elt F) arg5.view.ty → BufTy.Contents (Elt F) arg6.view.ty → BufTy.Contents (Elt F) arg9.view.ty → BufTy.Contents (Elt F) arg6.view.ty), { g9 : BufTy.Contents (Elt F) arg4.view.ty → BufTy.Contents (Elt F) arg5.view.ty → BufTy.Contents (Elt F) arg6.view.ty → BufTy.Contents (Elt F) arg9.view.ty → BufTy.Contents (Elt F) arg9.view.ty // ∀ (E : Set ℕ) (f4 : BufTy.Contents (Elt F) arg4.view.ty) (f5 : BufTy.Contents (Elt F) arg5.view.ty) (f6 : BufTy.Contents (Elt F) arg6.view.ty) (f9 : BufTy.Contents (Elt F) arg9.view.ty) (K : PUnit → sProp 𝕄),
      iprop(held c arg1 x1 ∗ held c arg2 x2 ∗ held c arg3 x3 ∗ held c arg4 f4 ∗ held c arg5 f5 ∗ held c arg6 f6 ∗ held c arg7 x7 ∗ held c arg8 x8 ∗ held c arg9 f9
        ∗ (iprop(held c arg1 x1 ∗ held c arg2 x2 ∗ held c arg3 x3 ∗ held c arg4 (g4 f4 f5 f6 f9) ∗ held c arg5 (g5 f4 f5 f6 f9) ∗ held c arg6 (g6 f4 f5 f6 f9) ∗ held c arg7 x7 ∗ held c arg8 x8 ∗ held c arg9 (g9 f4 f5 f6 f9)) -∗ K ⟨⟩))
      ⊢ wp frame (wpE (defs₀ (F := F)) Variants.none (c : Thread nD τ) none) E (cc0_kern i arg1 harg1 arg2 harg2 arg3 harg3 arg4 harg4 arg5 harg5 arg6 harg6 arg7 harg7 arg8 harg8 arg9 harg9) K } := by
  refine ⟨?_, ?_, ?_, ?_, fun E f4 f5 f6 f9 K => ?run⟩
  case run =>
    simp only [cc0_kern_eq_skeleton]; unfold cc0_kern_skel
    iintro ⟨H1, H2, H3, H4, H5, H6, H7, H8, H9, Hk⟩
    sl_exec (disch := first | exact h1 | exact h2 | exact h3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.KernelIdeal.Hand

end
-- ==== Proof.KI.BodyFirst.lean ====
module

public import proofs.«01_k».proof.Proof.Gen.KernelIdeal.Frame
public import proofs.«01_k».proof.Proof.Gen.KernelIdeal.Loops
public import proofs.«01_k».proof.Proof.KI.BodyMid
public import Idealize.ShloMosaic.Lib.Tactic

/-!
What one grid point of the kernel does to the buffers it is given, in three runs: the first point (`runFirst`), a point
that is neither the first nor the last (`runMid`), the last point (`runLast`). Each states what the written buffers hold
afterwards as functions of what they held before; the inputs' staging buffers are left as they were.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The first point: the scratch buffers set up, three single steps, seven trips of the counted loop, the two halves of `q` stored. -/
@[irreducible] def runFirst (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)
    (h1 : k0_cond1 i = 1#1) (h2 : ¬ k0_cond2 i = 1#1) (h3 : ¬ k0_cond3 i = 1#1) (x1 : BufTy.Contents (Elt F) arg1.view.ty) (x2 : BufTy.Contents (Elt F) arg2.view.ty) (x3 : BufTy.Contents (Elt F) arg3.view.ty) :
    Σ' (g5 : BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg5.view.ty) (g6 : BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg6.view.ty) (g7 : BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg7.view.ty) (g8 : BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg8.view.ty), { g9 : BufTy.Contents (Elt F) arg5.view.ty → BufTy.Contents (Elt F) arg6.view.ty → BufTy.Contents (Elt F) arg7.view.ty → BufTy.Contents (Elt F) arg8.view.ty → BufTy.Contents (Elt F) arg9.view.ty → BufTy.Contents (Elt F) arg9.view.ty // ∀ (E : Set ℕ) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (K : PUnit → sProp 𝕄),
      iprop(held c arg1 x1 ∗ held c arg2 x2 ∗ held c arg3 x3 ∗ held c arg5 f5 ∗ held c arg6 f6 ∗ held c arg7 f7 ∗ held c arg8 f8 ∗ held c arg9 f9
        ∗ (iprop(held c arg1 x1 ∗ held c arg2 x2 ∗ held c arg3 x3 ∗ held c arg5 (g5 f5 f6 f7 f8 f9) ∗ held c arg6 (g6 f5 f6 f7 f8 f9) ∗ held c arg7 (g7 f5 f6 f7 f8 f9) ∗ held c arg8 (g8 f5 f6 f7 f8 f9) ∗ held c arg9 (g9 f5 f6 f7 f8 f9)) -∗ K ⟨⟩))
      ⊢ wp frame (wpE (defs₀ (F := F)) Variants.none (c : Thread nD τ) none) E (cc0_kern i arg1 harg1 arg2 harg2 arg3 harg3 arg4 harg4 arg5 harg5 arg6 harg6 arg7 harg7 arg8 harg8 arg9 harg9) K } := by
  refine ⟨?_, ?_, ?_, ?_, ?_, fun E f5 f6 f7 f8 f9 K => ?run⟩
  case run =>
    simp only [cc0_kern_eq_skeleton]; unfold cc0_kern_skel
    iintro ⟨H1, H2, H3, H5, H6, H7, H8, H9, Hk⟩
    sl_exec (disch := first | exact h1 | exact h2 | exact h3)
    sl_step
    iapply Hk
    isplitl [H1]; · iexact H1
    isplitl [H2]; · iexact H2
    isplitl [H3]; · iexact H3
    isplitl [H5]; · iexact H5
    isplitl [H6]; · iexact H6
    isplitl [H7]; · iexact H7
    isplitl [H8]; · iexact H8
    iexact H9

end Cert.KernelIdeal.Hand

end
-- ==== Proof.KI.Steps.lean ====
module

public import proofs.«01_k».proof.Proof.Gen.KernelIdeal.Frame
public import proofs.«01_k».proof.Proof.KI.BodyFirst
public import Idealize.ShloMosaic.Lib.Tactic
public import Idealize.ShloMosaic.Lib.Pipeline.Frame

/-!
The kernel's run. `Scr` is what the five scratch buffers hold between two grid points; `Tracks` says that a property of
it, indexed by the number of points done, is kept by every point and that the last point leaves a result with a given
property. `run_main`: if a property is tracked, every run ends with the result array holding a value that has the
result's property, the other arrays as they were and the semaphore counters at zero.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the five scratch buffers hold. -/
structure Scr (F : FTy → Type) where
  q : BufTy.Contents (Elt F) cc0_scratch0.ty
  o : BufTy.Contents (Elt F) cc0_scratch1.ty
  e : BufTy.Contents (Elt F) cc0_scratch2.ty
  b : BufTy.Contents (Elt F) cc0_scratch3.ty
  g : BufTy.Contents (Elt F) cc0_scratch4.ty

section steps
variable (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole)

/-- The scratch after the first point. -/
@[irreducible] def sFirst (h1 : k0_cond1 i = 1#1) (h2 : ¬ k0_cond2 i = 1#1) (h3 : ¬ k0_cond3 i = 1#1) (x1 : BufTy.Contents (Elt F) arg1.view.ty) (x2 : BufTy.Contents (Elt F) arg2.view.ty) (x3 : BufTy.Contents (Elt F) arg3.view.ty) (s : Scr F) : Scr F :=
  let R := runFirst c i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 x3
  ⟨R.1 s.q s.o s.e s.b s.g, R.2.1 s.q s.o s.e s.b s.g, R.2.2.1 s.q s.o s.e s.b s.g, R.2.2.2.1 s.q s.o s.e s.b s.g, R.2.2.2.2.1 s.q s.o s.e s.b s.g⟩

/-- The scratch after a point that is neither the first nor the last. -/
@[irreducible] def sMid (h1 : ¬ k0_cond1 i = 1#1) (h2 : k0_cond2 i = 1#1) (h3 : ¬ k0_cond3 i = 1#1) (x1 : BufTy.Contents (Elt F) arg1.view.ty) (x2 : BufTy.Contents (Elt F) arg2.view.ty) (s : Scr F) : Scr F :=
  let R := runMid c i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 s.e s.b
  ⟨R.1 s.q s.o s.g, R.2.1 s.q s.o s.g, s.e, s.b, R.2.2.1 s.q s.o s.g⟩

/-- The scratch after the last point, -/
@[irreducible] def sLast (h1 : ¬ k0_cond1 i = 1#1) (h2 : k0_cond2 i = 1#1) (h3 : k0_cond3 i = 1#1) (x1 : BufTy.Contents (Elt F) arg1.view.ty) (x2 : BufTy.Contents (Elt F) arg2.view.ty) (x3 : BufTy.Contents (Elt F) arg3.view.ty) (f4 : BufTy.Contents (Elt F) arg4.view.ty) (s : Scr F) : Scr F :=
  let R := runLast c i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 x3 s.e s.b
  ⟨R.2.1 f4 s.q s.o s.g, R.2.2.1 f4 s.q s.o s.g, s.e, s.b, R.2.2.2.1 f4 s.q s.o s.g⟩

/-- and the result's staging buffer after it. -/
@[irreducible] def oLast (h1 : ¬ k0_cond1 i = 1#1) (h2 : k0_cond2 i = 1#1) (h3 : k0_cond3 i = 1#1) (x1 : BufTy.Contents (Elt F) arg1.view.ty) (x2 : BufTy.Contents (Elt F) arg2.view.ty) (x3 : BufTy.Contents (Elt F) arg3.view.ty) (f4 : BufTy.Contents (Elt F) arg4.view.ty) (s : Scr F) : BufTy.Contents (Elt F) arg4.view.ty :=
  (runLast c i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 x3 s.e s.b).1 f4 s.q s.o s.g

end steps

/-- The property `Inv n` of the scratch holds after `n` points whatever the scratch held at first, and the last point leaves
    a result with the property `Out`. -/
structure Tracks (c : Dev nD) (Inv : ℕ → Scr F → Prop) (Out : ((cfg0.win 3).block.Idx → Elt F (cfg0.win 3).elt) → Prop) : Prop where
  start : ∀ s, Inv 0 s
  first : ∀ (t : Fin cfg0.N) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) h1 h2 h3 x1 x2 x3 s, t.val = 0 →
    arg1.view.read (Elt F) x1 = iblk m c 0 t → arg2.view.read (Elt F) x2 = iblk m c 1 t → arg3.view.read (Elt F) x3 = iblk m c 2 t →
    Inv 1 (sFirst c (grid0.coords t) arg1 harg1 arg2 harg2 arg3 harg3 arg4 harg4 h1 h2 h3 x1 x2 x3 s)
  mid : ∀ (t : Fin cfg0.N) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) h1 h2 h3 x1 x2 s, 0 < t.val → t.val < 7 →
    arg1.view.read (Elt F) x1 = iblk m c 0 t → arg2.view.read (Elt F) x2 = iblk m c 1 t → Inv t.val s →
    Inv (t.val + 1) (sMid c (grid0.coords t) arg1 harg1 arg2 harg2 arg3 harg3 arg4 harg4 h1 h2 h3 x1 x2 s)
  last : ∀ (t : Fin cfg0.N) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) h1 h2 h3 x1 x2 x3 f4 s, t.val = 7 →
    arg1.view.read (Elt F) x1 = iblk m c 0 t → arg2.view.read (Elt F) x2 = iblk m c 1 t → arg3.view.read (Elt F) x3 = iblk m c 2 t → Inv 7 s →
    Inv 8 (sLast c (grid0.coords t) arg1 harg1 arg2 harg2 arg3 harg3 arg4 harg4 h1 h2 h3 x1 x2 x3 f4 s)
      ∧ Out (arg4.view.read (Elt F) (oLast c (grid0.coords t) arg1 harg1 arg2 harg2 arg3 harg3 arg4 harg4 h1 h2 h3 x1 x2 x3 f4 s))

variable (Inv : Dev nD → ℕ → Scr F → Prop) (Out : Dev nD → ((cfg0.win 3).block.Idx → Elt F (cfg0.win 3).elt) → Prop)

/-- The five scratch buffers at given contents. -/
def scr (c : Dev nD) (s : Scr F) : sProp 𝕄 :=
  iprop(held c (Memref.whole cc0_scratch0) s.q ∗ held c (Memref.whole cc0_scratch1) s.o ∗ held c (Memref.whole cc0_scratch2) s.e
    ∗ held c (Memref.whole cc0_scratch3) s.b ∗ held c (Memref.whole cc0_scratch4) s.g)

theorem held_whole (c : Dev nD) (b : Ref sig .tc) (f : BufTy.Contents (Elt F) b.ty) :
    (((Memref.whole b).view.loc (c : Thread nD τ)) ↦[(Memref.whole b).view.set]{fullShare} f : sProp 𝕄) = ((c : Thread nD τ).loc b ↦{fullShare} f) := by
  rw [← owns_whole (c : Thread nD τ) b fullShare f]
  refine BI.equiv_iff.mp ⟨owns_intro (c : Thread nD τ) (Memref.whole b) fullShare f, ?_⟩
  rw [owns_whole, View.set_whole]

theorem scr_eq (c : Dev nD) (s : Scr F) : scr c s = iprop(((c : Thread nD τ).loc cc0_scratch0 ↦{fullShare} s.q) ∗ ((c : Thread nD τ).loc cc0_scratch1 ↦{fullShare} s.o) ∗ ((c : Thread nD τ).loc cc0_scratch2 ↦{fullShare} s.e)
    ∗ ((c : Thread nD τ).loc cc0_scratch3 ↦{fullShare} s.b) ∗ ((c : Thread nD τ).loc cc0_scratch4 ↦{fullShare} s.g)) := by
  unfold scr; rw [show held c (Memref.whole cc0_scratch0) s.q = _ from held_whole c cc0_scratch0 s.q, show held c (Memref.whole cc0_scratch1) s.o = _ from held_whole c cc0_scratch1 s.o,
    show held c (Memref.whole cc0_scratch2) s.e = _ from held_whole c cc0_scratch2 s.e, show held c (Memref.whole cc0_scratch3) s.b = _ from held_whole c cc0_scratch3 s.b, show held c (Memref.whole cc0_scratch4) s.g = _ from held_whole c cc0_scratch4 s.g]

/-- Between two points: the scratch at some contents with the property, and the generator register. -/
def Phi (c : Dev nD) (n : ℕ) : sProp 𝕄 := iprop((∃ s, ⌜Inv c n s⌝ ∗ scr c s) ∗ ∃ r, prngReg c r)

/-- What the body may leave in a window's staging buffer: an input's block as it was, the result with its property at the last point. -/
def aft (c : Dev nD) : (w : Fin cfg0.W) → Fin cfg0.N → (Y X : (cfg0.win w).block.Idx → Elt F (cfg0.win w).elt) → Prop
  | ⟨0, _⟩, _, Y, X => X = Y
  | ⟨1, _⟩, _, Y, X => X = Y
  | ⟨2, _⟩, _, Y, X => X = Y
  | ⟨3, _⟩, t, _, X => t.val = 7 → Out c X

/-- The proof data. -/
def rdat (c : Dev nD) : RDat τ (Elt F) Unit ℕ (UR sig nD τ) ℕ cfg0 c where
  A w := V m c (Pipeline.arrRef spec0 w)
  after w t Y X := aft Out c w t Y X
  Φ n := Phi Inv c n.val
  q _ := fullShare
  owed _ := 0

theorem rA_eq (c : Dev nD) (w : Fin cfg0.W) : (rdat m Inv Out c).A w = V m c (Pipeline.arrRef spec0 w) := by dsimp only [rdat]

theorem finds_0 (c : Dev nD) (t : Fin cfg0.N) (Y) (h : (rdat m Inv Out c).Finds 0 t Y) : Y = iblk m c 0 t := by
  obtain ⟨d, hd⟩ := (rdat m Inv Out c).finds_in_eq_fetched 0 rfl (fun _ _ _ => rfl) (fun _ _ _ h => h) t Y h
  rw [hd]; unfold RDat.fetched RDat.blockOf iblk; rw [rA_eq]; try rfl

theorem finds_1 (c : Dev nD) (t : Fin cfg0.N) (Y) (h : (rdat m Inv Out c).Finds 1 t Y) : Y = iblk m c 1 t := by
  obtain ⟨d, hd⟩ := (rdat m Inv Out c).finds_in_eq_fetched 1 rfl (fun _ _ _ => rfl) (fun _ _ _ h => h) t Y h
  rw [hd]; unfold RDat.fetched RDat.blockOf iblk; rw [rA_eq]; try rfl

theorem finds_2 (c : Dev nD) (t : Fin cfg0.N) (Y) (h : (rdat m Inv Out c).Finds 2 t Y) : Y = iblk m c 2 t := by
  obtain ⟨d, hd⟩ := (rdat m Inv Out c).finds_in_eq_fetched 2 rfl (fun _ _ _ => rfl) (fun _ _ _ h => h) t Y h
  rw [hd]; unfold RDat.fetched RDat.blockOf iblk; rw [rA_eq]; try rfl

/-- The point's run, on the scratch as one. -/
theorem wpFirst (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (h1 : k0_cond1 i = 1#1) (h2 : ¬ k0_cond2 i = 1#1) (h3 : ¬ k0_cond3 i = 1#1) (x1 : BufTy.Contents (Elt F) arg1.view.ty) (x2 : BufTy.Contents (Elt F) arg2.view.ty) (x3 : BufTy.Contents (Elt F) arg3.view.ty) (s : Scr F) (K : PUnit → sProp 𝕄) :
    iprop(held c arg1 x1 ∗ held c arg2 x2 ∗ held c arg3 x3 ∗ scr c s ∗ (held c arg1 x1 ∗ held c arg2 x2 ∗ held c arg3 x3 ∗ scr c (sFirst c i arg1 harg1 arg2 harg2 arg3 harg3 arg4 harg4 h1 h2 h3 x1 x2 x3 s) -∗ K ⟨⟩))
      ⊢ wp frame (wpE (defs₀ (F := F)) Variants.none c none) Set.univ (cc0_kern i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) K := by
  have R := (runFirst c i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 x3).2.2.2.2.2 Set.univ s.q s.o s.e s.b s.g K
  refine BIBase.Entails.trans ?_ R
  unfold scr sFirst
  iintro ⟨H1, H2, H3, ⟨H5, H6, H7, H8, H9⟩, Hk⟩
  isplitl [H1]; · iexact H1
  isplitl [H2]; · iexact H2
  isplitl [H3]; · iexact H3
  isplitl [H5]; · iexact H5
  isplitl [H6]; · iexact H6
  isplitl [H7]; · iexact H7
  isplitl [H8]; · iexact H8
  isplitl [H9]; · iexact H9
  iintro ⟨H1, H2, H3, H5, H6, H7, H8, H9⟩
  iapply Hk
  isplitl [H1]; · iexact H1
  isplitl [H2]; · iexact H2
  isplitl [H3]; · iexact H3
  isplitl [H5]; · iexact H5
  isplitl [H6]; · iexact H6
  isplitl [H7]; · iexact H7
  isplitl [H8]; · iexact H8
  iexact H9

/-- The point's run, on the scratch as one. -/
theorem wpMid (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (h1 : ¬ k0_cond1 i = 1#1) (h2 : k0_cond2 i = 1#1) (h3 : ¬ k0_cond3 i = 1#1) (x1 : BufTy.Contents (Elt F) arg1.view.ty) (x2 : BufTy.Contents (Elt F) arg2.view.ty) (s : Scr F) (K : PUnit → sProp 𝕄) :
    iprop(held c arg1 x1 ∗ held c arg2 x2 ∗ scr c s ∗ (held c arg1 x1 ∗ held c arg2 x2 ∗ scr c (sMid c i arg1 harg1 arg2 harg2 arg3 harg3 arg4 harg4 h1 h2 h3 x1 x2 s) -∗ K ⟨⟩))
      ⊢ wp frame (wpE (defs₀ (F := F)) Variants.none c none) Set.univ (cc0_kern i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) K := by
  have R := (runMid c i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 s.e s.b).2.2.2 Set.univ s.q s.o s.g K
  refine BIBase.Entails.trans ?_ R
  unfold scr sMid
  iintro ⟨H1, H2, ⟨H5, H6, H7, H8, H9⟩, Hk⟩
  isplitl [H1]; · iexact H1
  isplitl [H2]; · iexact H2
  isplitl [H5]; · iexact H5
  isplitl [H6]; · iexact H6
  isplitl [H7]; · iexact H7
  isplitl [H8]; · iexact H8
  isplitl [H9]; · iexact H9
  iintro ⟨H1, H2, H5, H6, H7, H8, H9⟩
  iapply Hk
  isplitl [H1]; · iexact H1
  isplitl [H2]; · iexact H2
  isplitl [H5]; · iexact H5
  isplitl [H6]; · iexact H6
  isplitl [H7]; · iexact H7
  isplitl [H8]; · iexact H8
  iexact H9

/-- The point's run, on the scratch as one. -/
theorem wpLast (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (h1 : ¬ k0_cond1 i = 1#1) (h2 : k0_cond2 i = 1#1) (h3 : k0_cond3 i = 1#1) (x1 : BufTy.Contents (Elt F) arg1.view.ty) (x2 : BufTy.Contents (Elt F) arg2.view.ty) (x3 : BufTy.Contents (Elt F) arg3.view.ty) (f4 : BufTy.Contents (Elt F) arg4.view.ty) (s : Scr F) (K : PUnit → sProp 𝕄) :
    iprop(held c arg1 x1 ∗ held c arg2 x2 ∗ held c arg3 x3 ∗ held c arg4 f4 ∗ scr c s ∗ (held c arg1 x1 ∗ held c arg2 x2 ∗ held c arg3 x3 ∗ held c arg4 (oLast c i arg1 harg1 arg2 harg2 arg3 harg3 arg4 harg4 h1 h2 h3 x1 x2 x3 f4 s) ∗ scr c (sLast c i arg1 harg1 arg2 harg2 arg3 harg3 arg4 harg4 h1 h2 h3 x1 x2 x3 f4 s) -∗ K ⟨⟩))
      ⊢ wp frame (wpE (defs₀ (F := F)) Variants.none c none) Set.univ (cc0_kern i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)) K := by
  have R := (runLast c i arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 x3 s.e s.b).2.2.2.2 Set.univ f4 s.q s.o s.g K
  refine BIBase.Entails.trans ?_ R
  unfold scr sLast oLast
  iintro ⟨H1, H2, H3, H4, ⟨H5, H6, H7, H8, H9⟩, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Hand

end
-- ==== Proof.KI.Run.lean ====
module

public import proofs.«01_k».proof.Proof.Gen.KernelIdeal.Frame
public import proofs.«01_k».proof.Proof.KI.Steps
public import Idealize.ShloMosaic.Lib.Tactic
public import Idealize.ShloMosaic.Lib.Pipeline.Frame

/-!
The kernel's run: if a property is tracked, every run ends with the result array holding a value that has the result's
property, the other arrays as they were and the semaphore counters at zero.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (Inv : Dev nD → ℕ → Scr F → Prop) (Out : Dev nD → ((cfg0.win 3).block.Idx → Elt F (cfg0.win 3).elt) → Prop)

/-- Which of the three runs a point takes. -/
theorem cond1_iff : ∀ t : Fin cfg0.N, (k0_cond1 (grid0.coords t) = 1#1 ↔ t.val = 0) := by decide +kernel
theorem cond2_iff : ∀ t : Fin cfg0.N, (k0_cond2 (grid0.coords t) = 1#1 ↔ 0 < t.val) := by decide +kernel
theorem cond3_iff : ∀ t : Fin cfg0.N, (k0_cond3 (grid0.coords t) = 1#1 ↔ t.val = 7) := by decide +kernel

theorem defs₀_row (t : Fin cfg0.N) : defs₀ (F := F) .tc cfg0.body (cfg0.bodyArgs t (cfg0.slots t)) = bodyAt0 t := by
  unfold defs₀; rw [Defs.onTc_tc]

set_option maxHeartbeats 400000 in
/-- The body obligation of a tracked property. -/
theorem body_obligation (c : Dev nD) (H : Tracks m c (Inv c) (Out c)) :
    (rdat m Inv Out c).BodyObligation (defs₀ (F := F)) Variants.none () Set.univ := by
  intro t Y hY
  have hr1 := finds_0 m Inv Out c t (Y 0) (hY 0)
  have hr2 := finds_1 m Inv Out c t (Y 1) (hY 1)
  have hr3 := finds_2 m Inv Out c t (Y 2) (hY 2)
  rw [bigSep_W0, bigSep_W0, defs₀_row]
  unfold owns
  rw [show (rdat m Inv Out c).Φ t.castSucc = Phi Inv c t.val from rfl, show (rdat m Inv Out c).Φ t.succ = Phi Inv c (t.val + 1) from rfl,
    show (rdat m Inv Out c).owesAt () t.succ = (rdat m Inv Out c).owesAt () t.castSucc from rfl]
  unfold Phi bodyAt0
  iintro ⟨⟨⟨%s, %hs, Hs⟩, ⟨%g, Hg⟩⟩, Howes, ⟨%x1, %hx1, H1⟩, ⟨%x2, %hx2, H2⟩, ⟨%x3, %hx3, H3⟩, ⟨%x4, %hx4, H4⟩⟩
  have hr1 := hx1; have hr2 := hx2; have hr3 := hx3
  rw [finds_0 m Inv Out c t (Y 0) (hY 0)] at hx1; rw [finds_1 m Inv Out c t (Y 1) (hY 1)] at hx2; rw [finds_2 m Inv Out c t (Y 2) (hY 2)] at hx3
  by_cases h0 : t.val = 0
  · have h1 := (cond1_iff t).2 h0
    have h2 : ¬ k0_cond2 (grid0.coords t) = 1#1 := fun h => absurd ((cond2_iff t).1 h) (by omega)
    have h3 : ¬ k0_cond3 (grid0.coords t) = 1#1 := fun h => absurd ((cond3_iff t).1 h) (by omega)
    have hI := (H.first t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) h1 h2 h3 x1 x2 x3 s h0 hx1 hx2 hx3)
    iapply (wpFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) h1 h2 h3 x1 x2 x3 s _)
    isplitl [H1]; · iexact H1
    isplitl [H2]; · iexact H2
    isplitl [H3]; · iexact H3
    isplitl [Hs]; · iexact Hs
    iintro ⟨H1, H2, H3, Hs⟩
    isplitl [Hs Hg]
    · isplitl [Hs]
      · iexists _; isplitr; swap; · iexact Hs
        ipureintro; rw [h0]; exact hI
      iexists _; iexact Hg
    isplitl [Howes]; · iexact Howes
    isplitl [H1]
    · iexists _; isplitr; · ipureintro; rfl
      iexists _; isplitr; swap; · iexact H1
      ipureintro; exact hr1
    isplitl [H2]
    · iexists _; isplitr; · ipureintro; rfl
      iexists _; isplitr; swap; · iexact H2
      ipureintro; exact hr2
    isplitl [H3]
    · iexists _; isplitr; · ipureintro; rfl
      iexists _; isplitr; swap; · iexact H3
      ipureintro; exact hr3
    iexists _; isplitr; swap
    · iexists _; isplitr; swap; · iexact H4
      ipureintro; rfl
    ipureintro; intro h; rw [h0] at h; exact absurd h (by decide)
  have h1 : ¬ k0_cond1 (grid0.coords t) = 1#1 := fun h => h0 ((cond1_iff t).1 h)
  have h2 := (cond2_iff t).2 (Nat.pos_of_ne_zero h0)
  by_cases h7 : t.val = 7
  · have h3 := (cond3_iff t).2 h7
    have hI := (H.last t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) h1 h2 h3 x1 x2 x3 x4 s h7 hx1 hx2 hx3 (h7 ▸ hs))
    iapply (wpLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) h1 h2 h3 x1 x2 x3 x4 s _)
    isplitl [H1]; · iexact H1
    isplitl [H2]; · iexact H2
    isplitl [H3]; · iexact H3
    isplitl [H4]; · iexact H4
    isplitl [Hs]; · iexact Hs
    iintro ⟨H1, H2, H3, H4, Hs⟩
    isplitl [Hs Hg]
    · isplitl [Hs]
      · iexists _; isplitr; swap; · iexact Hs
        ipureintro; rw [h7]; exact hI.1
      iexists _; iexact Hg
    isplitl [Howes]; · iexact Howes
    isplitl [H1]
    · iexists _; isplitr; · ipureintro; rfl
      iexists _; isplitr; swap; · iexact H1
      ipureintro; exact hr1
    isplitl [H2]
    · iexists _; isplitr; · ipureintro; rfl
      iexists _; isplitr; swap; · iexact H2
      ipureintro; exact hr2
    isplitl [H3]
    · iexists _; isplitr; · ipureintro; rfl
      iexists _; isplitr; swap; · iexact H3
      ipureintro; exact hr3
    iexists _; isplitr; swap
    · iexists _; isplitr; swap; · iexact H4
      ipureintro; rfl
    ipureintro; intro _; exact hI.2
  · have h3 : ¬ k0_cond3 (grid0.coords t) = 1#1 := fun h => h7 ((cond3_iff t).1 h)
    have hI := (H.mid t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) h1 h2 h3 x1 x2 s (Nat.pos_of_ne_zero h0) (by have := t.isLt; have : cfg0.N = 8 := N_0; omega) hx1 hx2 hs)
    iapply (wpMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) h1 h2 h3 x1 x2 s _)
    isplitl [H1]; · iexact H1
    isplitl [H2]; · iexact H2
    isplitl [Hs]; · iexact Hs
    iintro ⟨H1, H2, Hs⟩
    isplitl [Hs Hg]
    · isplitl [Hs]
      · iexists _; isplitr; swap; · iexact Hs
        ipureintro; exact hI
      iexists _; iexact Hg
    isplitl [Howes]; · iexact Howes
    isplitl [H1]
    · iexists _; isplitr; · ipureintro; rfl
      iexists _; isplitr; swap; · iexact H1
      ipureintro; exact hr1
    isplitl [H2]
    · iexists _; isplitr; · ipureintro; rfl
      iexists _; isplitr; swap; · iexact H2
      ipureintro; exact hr2
    isplitl [H3]
    · iexists _; isplitr; · ipureintro; rfl
      iexists _; isplitr; swap; · iexact H3
      ipureintro; exact hr3
    iexists _; isplitr; swap
    · iexists _; isplitr; swap; · iexact H4
      ipureintro; rfl
    ipureintro; intro h; exact absurd h h7

set_option backward.isDefEq.respectTransparency.types false in
/-- The run of a tracked property. -/
theorem run_main (H : ∀ c, Tracks m c (Inv c) (Out c)) :
    θ_run defs (onTc (τ := τ) (main (F := F))) (s₀ m ρ)
      (fun r => RDat.FramePost (cfgs 0) (rdat m Inv Out) (V m) r ∧ r.2.sem = fun _ => 0) :=
  RDat.θ_run_frame_track (Q' := _) cfgs (0 : Fin 1) launch0 defs₀ Variants.none (rdat m Inv Out) m ρ main
    (hbody := fun c => body_obligation m Inv Out c (H c)) (hshare := fun c w => by unfold RDat.share; split <;> rfl)
    (howed := fun _ _ => rfl) (V := V m) (hmain := hmain m Variants.none) (hA := rA_eq m Inv Out)
    (hin := fun c => by
      rw [show (rdat m Inv Out c).Φ 0 = Phi Inv c 0 from rfl]; unfold Pipeline.ΦA Phi; rw [scopedRest0_eq]
      iintro ⟨⟨⟨%f5, H5⟩, ⟨%f6, H6⟩, ⟨%f7, H7⟩, ⟨%f8, H8⟩, ⟨%f9, H9⟩⟩, Hg⟩
      isplitr [Hg]
      · iexists (⟨f5, f6, f7, f8, f9⟩ : Scr F)
        isplitr; · ipureintro; exact (H c).start _
        rw [scr_eq]
        isplitl [H5]; · iexact H5
        isplitl [H6]; · iexact H6
        isplitl [H7]; · iexact H7
        isplitl [H8]; · iexact H8
        iexact H9
      iexact Hg)
    (hout := fun c => by
      rw [show (rdat m Inv Out c).Φ (Fin.last cfg0.N) = Phi Inv c cfg0.N from rfl]; unfold Pipeline.ΦA Phi; rw [scopedRest0_eq]; simp only [scr_eq]
      iintro ⟨⟨%s, -, H5, H6, H7, H8, H9⟩, Hg⟩
      isplitr [Hg]
      · isplitl [H5]; · iexists _; iexact H5
        isplitl [H6]; · iexists _; iexact H6
        isplitl [H7]; · iexists _; iexact H7
        isplitl [H8]; · iexists _; iexact H8
        iexists _; iexact H9
      iexact Hg)
    (hQ' := fun _ h => h)

/-- The arguments after the run. -/
theorem args_kept {r : PUnit × MemSt nD τ sig (Elt F)} (h : RDat.FramePost (cfgs 0) (rdat m Inv Out) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (show _ = (rdat m Inv Out c).A 2 from (congrFun ((rdat m Inv Out c).ArrAt_in 2 rfl _) _).mp ((h c).1 2)).trans ((rA_eq m Inv Out c 2).trans (V_main_arg3 m c))⟩

/-- The kernel's frame: it ends, faulting nowhere, its arguments unchanged and its semaphore counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => args_kept m (fun _ _ _ => True) (fun _ _ => True) h.1 c, h.2⟩)
    (run_main m ρ (fun _ _ _ => True) (fun _ _ => True) fun c =>
      ⟨fun _ => trivial, by intros; trivial, by intros; trivial, by intros; exact ⟨trivial, trivial⟩⟩)

end Cert.KernelIdeal.Hand

end
-- ==== Proof.Ref.RunA.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-!
The reference program's operations, its loop's step and what each operation leaves where it was: the part of the reference's run up to the operations after the loop.
-/

@[expose] public section

set_option maxRecDepth 1088

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 22 host operations of @main, in order. -/
abbrev hostOps0 : List (HloOp τ sig (Elt F)) :=
  [ StableHlo.unary main_arg0 main_v0 ((transpose S256x128x50 [1, 0, 2] · transposes_S128x256x50_S256x128x50_1_0_2) : (⟨S128x256x50, .f32⟩ : BufTy).Contents (Elt F) → (⟨S256x128x50, .f32⟩ : BufTy).Contents (Elt F)),
    StableHlo.unary main_v0 main_v1 (broadcastInDim S256x128x1x50 ![0, 1, 3] bcast_S256x128x50_S256x128x1x50_0_1_3 : (⟨S256x128x50, .f32⟩ : BufTy).Contents (Elt F) → (⟨S256x128x1x50, .f32⟩ : BufTy).Contents (Elt F)),
    StableHlo.unary main_arg3 main_v2 (broadcastInDim S1x1x50x50 ![2, 3] bcast_S50x50_S1x1x50x50_2_3 : (⟨S50x50, .f32⟩ : BufTy).Contents (Elt F) → (⟨S1x1x50x50, .f32⟩ : BufTy).Contents (Elt F)),
    StableHlo.unary main_v1 main_v3 (broadcastInDim S256x128x50x50 ![0, 1, 2, 3] bcast_S256x128x1x50_S256x128x50x50_0_1_2_3 : (⟨S256x128x1x50, .f32⟩ : BufTy).Contents (Elt F) → (⟨S256x128x50x50, .f32⟩ : BufTy).Contents (Elt F)),
    StableHlo.unary main_v2 main_v4 (broadcastInDim S256x128x50x50 ![0, 1, 2, 3] bcast_S1x1x50x50_S256x128x50x50_0_1_2_3 : (⟨S1x1x50x50, .f32⟩ : BufTy).Contents (Elt F) → (⟨S256x128x50x50, .f32⟩ : BufTy).Contents (Elt F)),
    StableHlo.binary main_v3 main_v4 main_v5 (addf : (⟨S256x128x50x50, .f32⟩ : BufTy).Contents (Elt F) → (⟨S256x128x50x50, .f32⟩ : BufTy).Contents (Elt F) → (⟨S256x128x50x50, .f32⟩ : BufTy).Contents (Elt F)),
    StableHlo.unary main_arg1 main_v6 ((transpose S256x128 [1, 0] · transposes_S128x256_S256x128_1_0) : (⟨S128x256, .i32⟩ : BufTy).Contents (Elt F) → (⟨S256x128, .i32⟩ : BufTy).Contents (Elt F)),
    StableHlo.nullary main_c (constantI S_ 32 0#32),
    StableHlo.unary main_c main_v7 (broadcastInDim S256x128 ![] bcast_S_S256x128 : (⟨S_, .i32⟩ : BufTy).Contents (Elt F) → (⟨S256x128, .i32⟩ : BufTy).Contents (Elt F)),
    StableHlo.binary main_v6 main_v7 main_v8 (cmpi .ne : (⟨S256x128, .i32⟩ : BufTy).Contents (Elt F) → (⟨S256x128, .i32⟩ : BufTy).Contents (Elt F) → (⟨S256x128, .i1⟩ : BufTy).Contents (Elt F)),
    StableHlo.unary main_v8 main_v9 (id : (⟨S256x128, .i1⟩ : BufTy).Contents (Elt F) → (⟨S256x128, .i1⟩ : BufTy).Contents (Elt F)),
    StableHlo.unary main_v5 main_v10 ((extractStridedSlice S1x128x50x50 ![0, 0, 0, 0] · slices_S256x128x50x50_S1x128x50x50_0_0_0_0) : (⟨S256x128x50x50, .f32⟩ : BufTy).Contents (Elt F) → (⟨S1x128x50x50, .f32⟩ : BufTy).Contents (Elt F)),
    StableHlo.reshape main_v10 main_v11 (rfl : (.f32 : EltTy) = .f32) shapeCasts_S1x128x50x50_S128x50x50,
    StableHlo.unary main_v11 main_v12 ((extractStridedSlice S128x1x50 ![0, 48, 0] · slices_S128x50x50_S128x1x50_0_48_0) : (⟨S128x50x50, .f32⟩ : BufTy).Contents (Elt F) → (⟨S128x1x50, .f32⟩ : BufTy).Contents (Elt F)),
    StableHlo.reshape main_v12 main_v13 (rfl : (.f32 : EltTy) = .f32) shapeCasts_S128x1x50_S128x50,
    StableHlo.unary main_v5 main_v14 ((extractStridedSlice S255x128x50x50 ![1, 0, 0, 0] · slices_S256x128x50x50_S255x128x50x50_1_0_0_0) : (⟨S256x128x50x50, .f32⟩ : BufTy).Contents (Elt F) → (⟨S255x128x50x50, .f32⟩ : BufTy).Contents (Elt F)),
    StableHlo.unary main_v9 main_v15 ((extractStridedSlice S255x128 ![1, 0] · slices_S256x128_S255x128_1_0) : (⟨S256x128, .i1⟩ : BufTy).Contents (Elt F) → (⟨S255x128, .i1⟩ : BufTy).Contents (Elt F)),
    StableHlo.nullary main_c_0 (constantI S_ 32 0#32),
    StableHlo.unary main_v14 main_v16_0 id,
    StableHlo.unary main_v15 main_v16_1 id,
    StableHlo.unary main_c_0 main_v16_2 id,
    StableHlo.unary main_v13 main_v16_3 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub ..⟩
/-- 44 host operations of @main, in order. -/
abbrev hostOps0_1 : List (HloOp τ sig (Elt F)) :=
  ( StableHlo.unary main_arg3 main_v17 (broadcastInDim S1x50x50 ![1, 2] bcast_S50x50_S1x50x50_1_2 : (⟨S50x50, .f32⟩ : BufTy).Contents (Elt F) → (⟨S1x50x50, .f32⟩ : BufTy).Contents (Elt F))
  :: StableHlo.unary main_v16_3 main_v18 (broadcastInDim S128x50x1 ![0, 1] bcast_S128x50_S128x50x1_0_1 : (⟨S128x50, .f32⟩ : BufTy).Contents (Elt F) → (⟨S128x50x1, .f32⟩ : BufTy).Contents (Elt F))
  :: StableHlo.unary main_v17 main_v19 (broadcastInDim S128x50x50 ![0, 1, 2] bcast_S1x50x50_S128x50x50_0_1_2 : (⟨S1x50x50, .f32⟩ : BufTy).Contents (Elt F) → (⟨S128x50x50, .f32⟩ : BufTy).Contents (Elt F))
  :: StableHlo.unary main_v18 main_v20 (broadcastInDim S128x50x50 ![0, 1, 2] bcast_S128x50x1_S128x50x50_0_1_2 : (⟨S128x50x1, .f32⟩ : BufTy).Contents (Elt F) → (⟨S128x50x50, .f32⟩ : BufTy).Contents (Elt F))
  :: StableHlo.binary main_v19 main_v20 main_v21 (addf : (⟨S128x50x50, .f32⟩ : BufTy).Contents (Elt F) → (⟨S128x50x50, .f32⟩ : BufTy).Contents (Elt F) → (⟨S128x50x50, .f32⟩ : BufTy).Contents (Elt F))
  :: StableHlo.nullary main_cst (constant S_ .f32 0xFF800000#32)
  :: StableHlo.binary main_v21 main_cst main_v22 ((fun x v => Host.reduce FloatOps.maximumf x v reducesTo_S128x50x50_S128x50_d1 h_S_) : (⟨S128x50x50, .f32⟩ : BufTy).Contents (Elt F) → (⟨S_, .f32⟩ : BufTy).Contents (Elt F) → (⟨S128x50, .f32⟩ : BufTy).Contents (Elt F))
  :: StableHlo.unary main_v22 main_v23 (broadcastInDim S128x1x50 ![0, 2] bcast_S128x50_S128x1x50_0_2 : (⟨S128x50, .f32⟩ : BufTy).Contents (Elt F) → (⟨S128x1x50, .f32⟩ : BufTy).Contents (Elt F))
  :: StableHlo.unary main_v23 main_v24 (broadcastInDim S128x50x50 ![0, 1, 2] bcast_S128x1x50_S128x50x50_0_1_2 : (⟨S128x1x50, .f32⟩ : BufTy).Contents (Elt F) → (⟨S128x50x50, .f32⟩ : BufTy).Contents (Elt F))
  :: StableHlo.binary main_v21 main_v24 main_v25 (subf : (⟨S128x50x50, .f32⟩ : BufTy).Contents (Elt F) → (⟨S128x50x50, .f32⟩ : BufTy).Contents (Elt F) → (⟨S128x50x50, .f32⟩ : BufTy).Contents (Elt F))
  :: StableHlo.unary main_v25 main_v26 (Host.exp : (⟨S128x50x50, .f32⟩ : BufTy).Contents (Elt F) → (⟨S128x50x50, .f32⟩ : BufTy).Contents (Elt F))
  :: StableHlo.nullary main_cst_1 (constant S_ .f32 0x00000000#32)
  :: StableHlo.binary main_v26 main_cst_1 main_v27 ((fun x v => Host.reduceAdd x v reducesTo_S128x50x50_S128x50_d1 h_S_) : (⟨S128x50x50, .f32⟩ : BufTy).Contents (Elt F) → (⟨S_, .f32⟩ : BufTy).Contents (Elt F) → (⟨S128x50, .f32⟩ : BufTy).Contents (Elt F))
  :: StableHlo.unary main_v27 main_v28 (Host.log : (⟨S128x50, .f32⟩ : BufTy).Contents (Elt F) → (⟨S128x50, .f32⟩ : BufTy).Contents (Elt F))
  :: StableHlo.binary main_v28 main_v22 main_v29 (addf : (⟨S128x50, .f32⟩ : BufTy).Contents (Elt F) → (⟨S128x50, .f32⟩ : BufTy).Contents (Elt F) → (⟨S128x50, .f32⟩ : BufTy).Contents (Elt F))
  :: StableHlo.unary main_v29 main_v30 ((extractStridedSlice S128x1 ![0, 49] · slices_S128x50_S128x1_0_49) : (⟨S128x50, .f32⟩ : BufTy).Contents (Elt F) → (⟨S128x1, .f32⟩ : BufTy).Contents (Elt F))
  :: StableHlo.reshape main_v30 main_v31 (rfl : (.f32 : EltTy) = .f32) shapeCasts_S128x1_S128
  :: StableHlo.nullary main_cst_2 (constant S_ .f32 0x00000000#32)
  :: StableHlo.binary main_v31 main_cst_2 main_v32 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F))
  :: StableHlo.unary main_arg0 main_v33 ((transpose S256x128x50 [1, 0, 2] · transposes_S128x256x50_S256x128x50_1_0_2) : (⟨S128x256x50, .f32⟩ : BufTy).Contents (Elt F) → (⟨S256x128x50, .f32⟩ : BufTy).Contents (Elt F))
  :: StableHlo.unary main_v33 main_v34 (broadcastInDim S256x128x1x50 ![0, 1, 3] bcast_S256x128x50_S256x128x1x50_0_1_3 : (⟨S256x128x50, .f32⟩ : BufTy).Contents (Elt F) → (⟨S256x128x1x50, .f32⟩ : BufTy).Contents (Elt F))
  :: StableHlo.unary main_arg3 main_v35 (broadcastInDim S1x1x50x50 ![2, 3] bcast_S50x50_S1x1x50x50_2_3 : (⟨S50x50, .f32⟩ : BufTy).Contents (Elt F) → (⟨S1x1x50x50, .f32⟩ : BufTy).Contents (Elt F))
  :: StableHlo.unary main_v34 main_v36 (broadcastInDim S256x128x50x50 ![0, 1, 2, 3] bcast_S256x128x1x50_S256x128x50x50_0_1_2_3 : (⟨S256x128x1x50, .f32⟩ : BufTy).Contents (Elt F) → (⟨S256x128x50x50, .f32⟩ : BufTy).Contents (Elt F))
  :: StableHlo.unary main_v35 main_v37 (broadcastInDim S256x128x50x50 ![0, 1, 2, 3] bcast_S1x1x50x50_S256x128x50x50_0_1_2_3 : (⟨S1x1x50x50, .f32⟩ : BufTy).Contents (Elt F) → (⟨S256x128x50x50, .f32⟩ : BufTy).Contents (Elt F))
  :: StableHlo.binary main_v36 main_v37 main_v38 (addf : (⟨S256x128x50x50, .f32⟩ : BufTy).Contents (Elt F) → (⟨S256x128x50x50, .f32⟩ : BufTy).Contents (Elt F) → (⟨S256x128x50x50, .f32⟩ : BufTy).Contents (Elt F))
  :: StableHlo.unary main_arg1 main_v39 ((transpose S256x128 [1, 0] · transposes_S128x256_S256x128_1_0) : (⟨S128x256, .i32⟩ : BufTy).Contents (Elt F) → (⟨S256x128, .i32⟩ : BufTy).Contents (Elt F))
  :: StableHlo.nullary main_c_3 (constantI S_ 32 0#32)
  :: StableHlo.unary main_c_3 main_v40 (broadcastInDim S256x128 ![] bcast_S_S256x128 : (⟨S_, .i32⟩ : BufTy).Contents (Elt F) → (⟨S256x128, .i32⟩ : BufTy).Contents (Elt F))
  :: StableHlo.binary main_v39 main_v40 main_v41 (cmpi .ne : (⟨S256x128, .i32⟩ : BufTy).Contents (Elt F) → (⟨S256x128, .i32⟩ : BufTy).Contents (Elt F) → (⟨S256x128, .i1⟩ : BufTy).Contents (Elt F))
  :: StableHlo.unary main_v41 main_v42 (id : (⟨S256x128, .i1⟩ : BufTy).Contents (Elt F) → (⟨S256x128, .i1⟩ : BufTy).Contents (Elt F))
  :: StableHlo.unary main_arg2 main_v43 ((extractStridedSlice S128x1 ![0, 0] · slices_S128x256_S128x1_0_0) : (⟨S128x256, .i32⟩ : BufTy).Contents (Elt F) → (⟨S128x1, .i32⟩ : BufTy).Contents (Elt F))
  :: StableHlo.nullary main_c_4 (constantI S_ 32 2400#32)
  :: StableHlo.unary main_c_4 main_v44 (broadcastInDim S128x1 ![] bcast_S_S128x1 : (⟨S_, .i32⟩ : BufTy).Contents (Elt F) → (⟨S128x1, .i32⟩ : BufTy).Contents (Elt F))
  :: StableHlo.binary main_v44 main_v43 main_v45 (addi : (⟨S128x1, .i32⟩ : BufTy).Contents (Elt F) → (⟨S128x1, .i32⟩ : BufTy).Contents (Elt F) → (⟨S128x1, .i32⟩ : BufTy).Contents (Elt F))
  :: StableHlo.unary main_arg2 main_v46 ((extractStridedSlice S128x255 ![0, 0] · slices_S128x256_S128x255_0_0) : (⟨S128x256, .i32⟩ : BufTy).Contents (Elt F) → (⟨S128x255, .i32⟩ : BufTy).Contents (Elt F))
  :: StableHlo.nullary main_c_5 (constantI S_ 32 50#32)
  :: StableHlo.unary main_c_5 main_v47 (broadcastInDim S128x255 ![] bcast_S_S128x255 : (⟨S_, .i32⟩ : BufTy).Contents (Elt F) → (⟨S128x255, .i32⟩ : BufTy).Contents (Elt F))
  :: StableHlo.binary main_v46 main_v47 main_v48 (muli : (⟨S128x255, .i32⟩ : BufTy).Contents (Elt F) → (⟨S128x255, .i32⟩ : BufTy).Contents (Elt F) → (⟨S128x255, .i32⟩ : BufTy).Contents (Elt F))
  :: StableHlo.unary main_arg2 main_v49 ((extractStridedSlice S128x255 ![0, 1] · slices_S128x256_S128x255_0_1) : (⟨S128x256, .i32⟩ : BufTy).Contents (Elt F) → (⟨S128x255, .i32⟩ : BufTy).Contents (Elt F))
  :: StableHlo.binary main_v48 main_v49 main_v50 (addi : (⟨S128x255, .i32⟩ : BufTy).Contents (Elt F) → (⟨S128x255, .i32⟩ : BufTy).Contents (Elt F) → (⟨S128x255, .i32⟩ : BufTy).Contents (Elt F))
  :: StableHlo.binary main_v45 main_v50 main_v51 ((fun a b => concatenate S128x256 1 [⟨S128x1, a⟩, ⟨S128x255, b⟩] concatenates_S128x1_S128x255_S128x256_d1) : (⟨S128x1, .i32⟩ : BufTy).Contents (Elt F) → (⟨S128x255, .i32⟩ : BufTy).Contents (Elt F) → (⟨S128x256, .i32⟩ : BufTy).Contents (Elt F))
  :: StableHlo.reshape main_v38 main_v52 (rfl : (.f32 : EltTy) = .f32) shapeCasts_S256x128x50x50_S256x128x2500
  :: StableHlo.unary main_v51 main_v53 ((transpose S256x128 [1, 0] · transposes_S128x256_S256x128_1_0) : (⟨S128x256, .i32⟩ : BufTy).Contents (Elt F) → (⟨S256x128, .i32⟩ : BufTy).Contents (Elt F))
  :: StableHlo.unary main_v53 main_v54 (broadcastInDim S256x128x1 ![0, 1] bcast_S256x128_S256x128x1_0_1 : (⟨S256x128, .i32⟩ : BufTy).Contents (Elt F) → (⟨S256x128x1, .i32⟩ : BufTy).Contents (Elt F))
  :: [] )
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.reshape_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.reshape_bufs_sub .., StableHlo.unary_bufs_sub .., StableHlo.unary_bufs_sub ..⟩
/-- 9 host operations of @take_along_axis (main_call3), in order. -/
abbrev hostOps0_2 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S256x128x1, .i32⟩) (broadcastInDim S256x128x1 ![] bcast_S_S256x128x1),
    StableHlo.TRef.binary (.of main_v54 : StableHlo.TRef sig ⟨S256x128x1, .i32⟩) (.of main_call3_v0 : StableHlo.TRef sig ⟨S256x128x1, .i32⟩) (.of main_call3_v1 : StableHlo.TRef sig ⟨S256x128x1, .i1⟩) (cmpi .slt),
    StableHlo.TRef.nullary (.of main_call3_c_0 : StableHlo.TRef sig ⟨S_, .i32⟩) (constantI S_ 32 2500#32),
    StableHlo.TRef.unary (.of main_call3_c_0 : StableHlo.TRef sig ⟨S_, .i32⟩) (.of main_call3_v2 : StableHlo.TRef sig ⟨S256x128x1, .i32⟩) (broadcastInDim S256x128x1 ![] bcast_S_S256x128x1),
    StableHlo.TRef.binary (.of main_v54 : StableHlo.TRef sig ⟨S256x128x1, .i32⟩) (.of main_call3_v2 : StableHlo.TRef sig ⟨S256x128x1, .i32⟩) (.of main_call3_v3 : StableHlo.TRef sig ⟨S256x128x1, .i32⟩) addi,
    StableHlo.TRef.ternary (.of main_call3_v1 : StableHlo.TRef sig ⟨S256x128x1, .i1⟩) (.of main_call3_v3 : StableHlo.TRef sig ⟨S256x128x1, .i32⟩) (.of main_v54 : StableHlo.TRef sig ⟨S256x128x1, .i32⟩) (.of main_call3_v4 : StableHlo.TRef sig ⟨S256x128x1, .i32⟩) select,
    StableHlo.TRef.reshape (.of main_call3_v4 : StableHlo.TRef sig ⟨S256x128x1, .i32⟩) (.of main_call3_v5 : StableHlo.TRef sig ⟨S256x128x1x1, .i32⟩) (rfl : (.i32 : EltTy) = .i32) shapeCasts_S256x128x1_S256x128x1x1,
    StableHlo.TRef.binary (.of main_v52 : StableHlo.TRef sig ⟨S256x128x2500, .f32⟩) (.of main_call3_v5 : StableHlo.TRef sig ⟨S256x128x1x1, .i32⟩) (.of main_v55 : StableHlo.TRef sig ⟨S256x128x1, .f32⟩) (fun x i => Host.gather gather_S256x128x2500_S256x128x1x1_S256x128x1_n_2_01_01_2_3_111 x i) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 11 host operations of @main, in order. -/
abbrev hostOps0_3 : List (HloOp τ sig (Elt F)) :=
  [ StableHlo.reshape main_v55 main_v56 (rfl : (.f32 : EltTy) = .f32) shapeCasts_S256x128x1_S256x128,
    StableHlo.unary main_v42 main_v57 (uitofp .f32 : (⟨S256x128, .i1⟩ : BufTy).Contents (Elt F) → (⟨S256x128, .f32⟩ : BufTy).Contents (Elt F)),
    StableHlo.binary main_v56 main_v57 main_v58 (mulf : (⟨S256x128, .f32⟩ : BufTy).Contents (Elt F) → (⟨S256x128, .f32⟩ : BufTy).Contents (Elt F) → (⟨S256x128, .f32⟩ : BufTy).Contents (Elt F)),
    StableHlo.nullary main_cst_6 (constant S_ .f32 0x00000000#32),
    StableHlo.binary main_v58 main_cst_6 main_v59 ((fun x v => Host.reduceAdd x v reducesTo_S256x128_S_d0_1 h_S_) : (⟨S256x128, .f32⟩ : BufTy).Contents (Elt F) → (⟨S_, .f32⟩ : BufTy).Contents (Elt F) → (⟨S_, .f32⟩ : BufTy).Contents (Elt F)),
    StableHlo.nullary main_c_7 (constantI S_ 32 0#32),
    StableHlo.binary main_arg1 main_c_7 main_v60 ((fun x v => Host.reduce IntOp.addi x v reducesTo_S128x256_S128_d1 h_S_) : (⟨S128x256, .i32⟩ : BufTy).Contents (Elt F) → (⟨S_, .i32⟩ : BufTy).Contents (Elt F) → (⟨S128, .i32⟩ : BufTy).Contents (Elt F)),
    StableHlo.nullary main_c_8 (constantI S_ 32 1#32),
    StableHlo.unary main_c_8 main_v61 (broadcastInDim S128 ![] bcast_S_S128 : (⟨S_, .i32⟩ : BufTy).Contents (Elt F) → (⟨S128, .i32⟩ : BufTy).Contents (Elt F)),
    StableHlo.binary main_v60 main_v61 main_v62 (subi : (⟨S128, .i32⟩ : BufTy).Contents (Elt F) → (⟨S128, .i32⟩ : BufTy).Contents (Elt F) → (⟨S128, .i32⟩ : BufTy).Contents (Elt F)),
    StableHlo.unary main_v62 main_v63 (broadcastInDim S128x1 ![0] bcast_S128_S128x1_0 : (⟨S128, .i32⟩ : BufTy).Contents (Elt F) → (⟨S128x1, .i32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.reshape_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub ..⟩
/-- 9 host operations of @take_along_axis_1 (main_call4), in order. -/
abbrev hostOps0_4 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S128x1, .i32⟩) (broadcastInDim S128x1 ![] bcast_S_S128x1),
    StableHlo.TRef.binary (.of main_v63 : StableHlo.TRef sig ⟨S128x1, .i32⟩) (.of main_call4_v0 : StableHlo.TRef sig ⟨S128x1, .i32⟩) (.of main_call4_v1 : StableHlo.TRef sig ⟨S128x1, .i1⟩) (cmpi .slt),
    StableHlo.TRef.nullary (.of main_call4_c_0 : StableHlo.TRef sig ⟨S_, .i32⟩) (constantI S_ 32 256#32),
    StableHlo.TRef.unary (.of main_call4_c_0 : StableHlo.TRef sig ⟨S_, .i32⟩) (.of main_call4_v2 : StableHlo.TRef sig ⟨S128x1, .i32⟩) (broadcastInDim S128x1 ![] bcast_S_S128x1),
    StableHlo.TRef.binary (.of main_v63 : StableHlo.TRef sig ⟨S128x1, .i32⟩) (.of main_call4_v2 : StableHlo.TRef sig ⟨S128x1, .i32⟩) (.of main_call4_v3 : StableHlo.TRef sig ⟨S128x1, .i32⟩) addi,
    StableHlo.TRef.ternary (.of main_call4_v1 : StableHlo.TRef sig ⟨S128x1, .i1⟩) (.of main_call4_v3 : StableHlo.TRef sig ⟨S128x1, .i32⟩) (.of main_v63 : StableHlo.TRef sig ⟨S128x1, .i32⟩) (.of main_call4_v4 : StableHlo.TRef sig ⟨S128x1, .i32⟩) select,
    StableHlo.TRef.reshape (.of main_call4_v4 : StableHlo.TRef sig ⟨S128x1, .i32⟩) (.of main_call4_v5 : StableHlo.TRef sig ⟨S128x1x1, .i32⟩) (rfl : (.i32 : EltTy) = .i32) shapeCasts_S128x1_S128x1x1,
    StableHlo.TRef.binary (.of main_arg2 : StableHlo.TRef sig ⟨S128x256, .i32⟩) (.of main_call4_v5 : StableHlo.TRef sig ⟨S128x1x1, .i32⟩) (.of main_v64 : StableHlo.TRef sig ⟨S128x1, .i32⟩) (fun x i => Host.gather gather_S128x256_S128x1x1_S128x1_n_1_0_0_1_2_11 x i) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 3 host operations of @main, in order. -/
abbrev hostOps0_5 : List (HloOp τ sig (Elt F)) :=
  [ StableHlo.reshape main_v64 main_v65 (rfl : (.i32 : EltTy) = .i32) shapeCasts_S128x1_S128,
    StableHlo.unary main_arg3 main_v66 ((extractStridedSlice S50x1 ![0, 49] · slices_S50x50_S50x1_0_49) : (⟨S50x50, .f32⟩ : BufTy).Contents (Elt F) → (⟨S50x1, .f32⟩ : BufTy).Contents (Elt F)),
    StableHlo.reshape main_v66 main_v67 (rfl : (.f32 : EltTy) = .f32) shapeCasts_S50x1_S50 ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.reshape_bufs_sub .., StableHlo.unary_bufs_sub .., StableHlo.reshape_bufs_sub ..⟩
/-- 9 host operations of @take_along_axis_2 (main_call5), in order. -/
abbrev hostOps0_6 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S128, .i32⟩) (broadcastInDim S128 ![] bcast_S_S128),
    StableHlo.TRef.binary (.of main_v65 : StableHlo.TRef sig ⟨S128, .i32⟩) (.of main_call5_v0 : StableHlo.TRef sig ⟨S128, .i32⟩) (.of main_call5_v1 : StableHlo.TRef sig ⟨S128, .i1⟩) (cmpi .slt),
    StableHlo.TRef.nullary (.of main_call5_c_0 : StableHlo.TRef sig ⟨S_, .i32⟩) (constantI S_ 32 50#32),
    StableHlo.TRef.unary (.of main_call5_c_0 : StableHlo.TRef sig ⟨S_, .i32⟩) (.of main_call5_v2 : StableHlo.TRef sig ⟨S128, .i32⟩) (broadcastInDim S128 ![] bcast_S_S128),
    StableHlo.TRef.binary (.of main_v65 : StableHlo.TRef sig ⟨S128, .i32⟩) (.of main_call5_v2 : StableHlo.TRef sig ⟨S128, .i32⟩) (.of main_call5_v3 : StableHlo.TRef sig ⟨S128, .i32⟩) addi,
    StableHlo.TRef.ternary (.of main_call5_v1 : StableHlo.TRef sig ⟨S128, .i1⟩) (.of main_call5_v3 : StableHlo.TRef sig ⟨S128, .i32⟩) (.of main_v65 : StableHlo.TRef sig ⟨S128, .i32⟩) (.of main_call5_v4 : StableHlo.TRef sig ⟨S128, .i32⟩) select,
    StableHlo.TRef.reshape (.of main_call5_v4 : StableHlo.TRef sig ⟨S128, .i32⟩) (.of main_call5_v5 : StableHlo.TRef sig ⟨S128x1, .i32⟩) (rfl : (.i32 : EltTy) = .i32) shapeCasts_S128_S128x1,
    StableHlo.TRef.binary (.of main_v67 : StableHlo.TRef sig ⟨S50, .f32⟩) (.of main_call5_v5 : StableHlo.TRef sig ⟨S128x1, .i32⟩) (.of main_v68 : StableHlo.TRef sig ⟨S128, .f32⟩) (fun x i => Host.gather gather_S50_S128x1_S128_n_0_n_n_0_1_1 x i) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 5 host operations of @main, in order. -/
abbrev hostOps0_7 : List (HloOp τ sig (Elt F)) :=
  [ StableHlo.nullary main_cst_9 (constant S_ .f32 0x00000000#32),
    StableHlo.binary main_v68 main_cst_9 main_v69 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.binary main_v59 main_v69 main_v70 (addf : (⟨S_, .f32⟩ : BufTy).Contents (Elt F) → (⟨S_, .f32⟩ : BufTy).Contents (Elt F) → (⟨S_, .f32⟩ : BufTy).Contents (Elt F)),
    StableHlo.binary main_v32 main_v70 main_v71 (subf : (⟨S_, .f32⟩ : BufTy).Contents (Elt F) → (⟨S_, .f32⟩ : BufTy).Contents (Elt F) → (⟨S_, .f32⟩ : BufTy).Contents (Elt F)),
    StableHlo.reshape main_v71 main_v72 (rfl : (.f32 : EltTy) = .f32) shapeCasts_S_S1x1 ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.nullary_bufs_sub .., StableHlo.binary_bufs_sub .., StableHlo.binary_bufs_sub .., StableHlo.binary_bufs_sub .., StableHlo.reshape_bufs_sub ..⟩
/-- 22 host operations of @main, window 0 (statements 1 … 60), in order. -/
abbrev main_part0_ops0 : List (HloOp τ sig (Elt F)) :=
  [ StableHlo.unary main_arg0 main_v0 ((transpose S256x128x50 [1, 0, 2] · transposes_S128x256x50_S256x128x50_1_0_2) : (⟨S128x256x50, .f32⟩ : BufTy).Contents (Elt F) → (⟨S256x128x50, .f32⟩ : BufTy).Contents (Elt F)),
    StableHlo.unary main_v0 main_v1 (broadcastInDim S256x128x1x50 ![0, 1, 3] bcast_S256x128x50_S256x128x1x50_0_1_3 : (⟨S256x128x50, .f32⟩ : BufTy).Contents (Elt F) → (⟨S256x128x1x50, .f32⟩ : BufTy).Contents (Elt F)),
    StableHlo.unary main_arg3 main_v2 (broadcastInDim S1x1x50x50 ![2, 3] bcast_S50x50_S1x1x50x50_2_3 : (⟨S50x50, .f32⟩ : BufTy).Contents (Elt F) → (⟨S1x1x50x50, .f32⟩ : BufTy).Contents (Elt F)),
    StableHlo.unary main_v1 main_v3 (broadcastInDim S256x128x50x50 ![0, 1, 2, 3] bcast_S256x128x1x50_S256x128x50x50_0_1_2_3 : (⟨S256x128x1x50, .f32⟩ : BufTy).Contents (Elt F) → (⟨S256x128x50x50, .f32⟩ : BufTy).Contents (Elt F)),
    StableHlo.unary main_v2 main_v4 (broadcastInDim S256x128x50x50 ![0, 1, 2, 3] bcast_S1x1x50x50_S256x128x50x50_0_1_2_3 : (⟨S1x1x50x50, .f32⟩ : BufTy).Contents (Elt F) → (⟨S256x128x50x50, .f32⟩ : BufTy).Contents (Elt F)),
    StableHlo.binary main_v3 main_v4 main_v5 (addf : (⟨S256x128x50x50, .f32⟩ : BufTy).Contents (Elt F) → (⟨S256x128x50x50, .f32⟩ : BufTy).Contents (Elt F) → (⟨S256x128x50x50, .f32⟩ : BufTy).Contents (Elt F)),
    StableHlo.unary main_arg1 main_v6 ((transpose S256x128 [1, 0] · transposes_S128x256_S256x128_1_0) : (⟨S128x256, .i32⟩ : BufTy).Contents (Elt F) → (⟨S256x128, .i32⟩ : BufTy).Contents (Elt F)),
    StableHlo.nullary main_c (constantI S_ 32 0#32),
    StableHlo.unary main_c main_v7 (broadcastInDim S256x128 ![] bcast_S_S256x128 : (⟨S_, .i32⟩ : BufTy).Contents (Elt F) → (⟨S256x128, .i32⟩ : BufTy).Contents (Elt F)),
    StableHlo.binary main_v6 main_v7 main_v8 (cmpi .ne : (⟨S256x128, .i32⟩ : BufTy).Contents (Elt F) → (⟨S256x128, .i32⟩ : BufTy).Contents (Elt F) → (⟨S256x128, .i1⟩ : BufTy).Contents (Elt F)),
    StableHlo.unary main_v8 main_v9 (id : (⟨S256x128, .i1⟩ : BufTy).Contents (Elt F) → (⟨S256x128, .i1⟩ : BufTy).Contents (Elt F)),
    StableHlo.unary main_v5 main_v10 ((extractStridedSlice S1x128x50x50 ![0, 0, 0, 0] · slices_S256x128x50x50_S1x128x50x50_0_0_0_0) : (⟨S256x128x50x50, .f32⟩ : BufTy).Contents (Elt F) → (⟨S1x128x50x50, .f32⟩ : BufTy).Contents (Elt F)),
    StableHlo.reshape main_v10 main_v11 (rfl : (.f32 : EltTy) = .f32) shapeCasts_S1x128x50x50_S128x50x50,
    StableHlo.unary main_v11 main_v12 ((extractStridedSlice S128x1x50 ![0, 48, 0] · slices_S128x50x50_S128x1x50_0_48_0) : (⟨S128x50x50, .f32⟩ : BufTy).Contents (Elt F) → (⟨S128x1x50, .f32⟩ : BufTy).Contents (Elt F)),
    StableHlo.reshape main_v12 main_v13 (rfl : (.f32 : EltTy) = .f32) shapeCasts_S128x1x50_S128x50,
    StableHlo.unary main_v5 main_v14 ((extractStridedSlice S255x128x50x50 ![1, 0, 0, 0] · slices_S256x128x50x50_S255x128x50x50_1_0_0_0) : (⟨S256x128x50x50, .f32⟩ : BufTy).Contents (Elt F) → (⟨S255x128x50x50, .f32⟩ : BufTy).Contents (Elt F)),
    StableHlo.unary main_v9 main_v15 ((extractStridedSlice S255x128 ![1, 0] · slices_S256x128_S255x128_1_0) : (⟨S256x128, .i1⟩ : BufTy).Contents (Elt F) → (⟨S255x128, .i1⟩ : BufTy).Contents (Elt F)),
    StableHlo.nullary main_c_0 (constantI S_ 32 0#32),
    StableHlo.unary main_v14 main_v16_0 id,
    StableHlo.unary main_v15 main_v16_1 id,
    StableHlo.unary main_c_0 main_v16_2 id,
    StableHlo.unary main_v13 main_v16_3 id ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub ..⟩
/-- 37 host operations of @main, window 0 (statements 1 … 60), in order. -/
abbrev main_part0_ops1 : List (HloOp τ sig (Elt F)) :=
  ( StableHlo.unary main_arg3 main_v17 (broadcastInDim S1x50x50 ![1, 2] bcast_S50x50_S1x50x50_1_2 : (⟨S50x50, .f32⟩ : BufTy).Contents (Elt F) → (⟨S1x50x50, .f32⟩ : BufTy).Contents (Elt F))
  :: StableHlo.unary main_v16_3 main_v18 (broadcastInDim S128x50x1 ![0, 1] bcast_S128x50_S128x50x1_0_1 : (⟨S128x50, .f32⟩ : BufTy).Contents (Elt F) → (⟨S128x50x1, .f32⟩ : BufTy).Contents (Elt F))
  :: StableHlo.unary main_v17 main_v19 (broadcastInDim S128x50x50 ![0, 1, 2] bcast_S1x50x50_S128x50x50_0_1_2 : (⟨S1x50x50, .f32⟩ : BufTy).Contents (Elt F) → (⟨S128x50x50, .f32⟩ : BufTy).Contents (Elt F))
  :: StableHlo.unary main_v18 main_v20 (broadcastInDim S128x50x50 ![0, 1, 2] bcast_S128x50x1_S128x50x50_0_1_2 : (⟨S128x50x1, .f32⟩ : BufTy).Contents (Elt F) → (⟨S128x50x50, .f32⟩ : BufTy).Contents (Elt F))
  :: StableHlo.binary main_v19 main_v20 main_v21 (addf : (⟨S128x50x50, .f32⟩ : BufTy).Contents (Elt F) → (⟨S128x50x50, .f32⟩ : BufTy).Contents (Elt F) → (⟨S128x50x50, .f32⟩ : BufTy).Contents (Elt F))
  :: StableHlo.nullary main_cst (constant S_ .f32 0xFF800000#32)
  :: StableHlo.binary main_v21 main_cst main_v22 ((fun x v => Host.reduce FloatOps.maximumf x v reducesTo_S128x50x50_S128x50_d1 h_S_) : (⟨S128x50x50, .f32⟩ : BufTy).Contents (Elt F) → (⟨S_, .f32⟩ : BufTy).Contents (Elt F) → (⟨S128x50, .f32⟩ : BufTy).Contents (Elt F))
  :: StableHlo.unary main_v22 main_v23 (broadcastInDim S128x1x50 ![0, 2] bcast_S128x50_S128x1x50_0_2 : (⟨S128x50, .f32⟩ : BufTy).Contents (Elt F) → (⟨S128x1x50, .f32⟩ : BufTy).Contents (Elt F))
  :: StableHlo.unary main_v23 main_v24 (broadcastInDim S128x50x50 ![0, 1, 2] bcast_S128x1x50_S128x50x50_0_1_2 : (⟨S128x1x50, .f32⟩ : BufTy).Contents (Elt F) → (⟨S128x50x50, .f32⟩ : BufTy).Contents (Elt F))
  :: StableHlo.binary main_v21 main_v24 main_v25 (subf : (⟨S128x50x50, .f32⟩ : BufTy).Contents (Elt F) → (⟨S128x50x50, .f32⟩ : BufTy).Contents (Elt F) → (⟨S128x50x50, .f32⟩ : BufTy).Contents (Elt F))
  :: StableHlo.unary main_v25 main_v26 (Host.exp : (⟨S128x50x50, .f32⟩ : BufTy).Contents (Elt F) → (⟨S128x50x50, .f32⟩ : BufTy).Contents (Elt F))
  :: StableHlo.nullary main_cst_1 (constant S_ .f32 0x00000000#32)
  :: StableHlo.binary main_v26 main_cst_1 main_v27 ((fun x v => Host.reduceAdd x v reducesTo_S128x50x50_S128x50_d1 h_S_) : (⟨S128x50x50, .f32⟩ : BufTy).Contents (Elt F) → (⟨S_, .f32⟩ : BufTy).Contents (Elt F) → (⟨S128x50, .f32⟩ : BufTy).Contents (Elt F))
  :: StableHlo.unary main_v27 main_v28 (Host.log : (⟨S128x50, .f32⟩ : BufTy).Contents (Elt F) → (⟨S128x50, .f32⟩ : BufTy).Contents (Elt F))
  :: StableHlo.binary main_v28 main_v22 main_v29 (addf : (⟨S128x50, .f32⟩ : BufTy).Contents (Elt F) → (⟨S128x50, .f32⟩ : BufTy).Contents (Elt F) → (⟨S128x50, .f32⟩ : BufTy).Contents (Elt F))
  :: StableHlo.unary main_v29 main_v30 ((extractStridedSlice S128x1 ![0, 49] · slices_S128x50_S128x1_0_49) : (⟨S128x50, .f32⟩ : BufTy).Contents (Elt F) → (⟨S128x1, .f32⟩ : BufTy).Contents (Elt F))
  :: StableHlo.reshape main_v30 main_v31 (rfl : (.f32 : EltTy) = .f32) shapeCasts_S128x1_S128
  :: StableHlo.nullary main_cst_2 (constant S_ .f32 0x00000000#32)
  :: StableHlo.binary main_v31 main_cst_2 main_v32 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F))
  :: StableHlo.unary main_arg0 main_v33 ((transpose S256x128x50 [1, 0, 2] · transposes_S128x256x50_S256x128x50_1_0_2) : (⟨S128x256x50, .f32⟩ : BufTy).Contents (Elt F) → (⟨S256x128x50, .f32⟩ : BufTy).Contents (Elt F))
  :: StableHlo.unary main_v33 main_v34 (broadcastInDim S256x128x1x50 ![0, 1, 3] bcast_S256x128x50_S256x128x1x50_0_1_3 : (⟨S256x128x50, .f32⟩ : BufTy).Contents (Elt F) → (⟨S256x128x1x50, .f32⟩ : BufTy).Contents (Elt F))
  :: StableHlo.unary main_arg3 main_v35 (broadcastInDim S1x1x50x50 ![2, 3] bcast_S50x50_S1x1x50x50_2_3 : (⟨S50x50, .f32⟩ : BufTy).Contents (Elt F) → (⟨S1x1x50x50, .f32⟩ : BufTy).Contents (Elt F))
  :: StableHlo.unary main_v34 main_v36 (broadcastInDim S256x128x50x50 ![0, 1, 2, 3] bcast_S256x128x1x50_S256x128x50x50_0_1_2_3 : (⟨S256x128x1x50, .f32⟩ : BufTy).Contents (Elt F) → (⟨S256x128x50x50, .f32⟩ : BufTy).Contents (Elt F))
  :: StableHlo.unary main_v35 main_v37 (broadcastInDim S256x128x50x50 ![0, 1, 2, 3] bcast_S1x1x50x50_S256x128x50x50_0_1_2_3 : (⟨S1x1x50x50, .f32⟩ : BufTy).Contents (Elt F) → (⟨S256x128x50x50, .f32⟩ : BufTy).Contents (Elt F))
  :: StableHlo.binary main_v36 main_v37 main_v38 (addf : (⟨S256x128x50x50, .f32⟩ : BufTy).Contents (Elt F) → (⟨S256x128x50x50, .f32⟩ : BufTy).Contents (Elt F) → (⟨S256x128x50x50, .f32⟩ : BufTy).Contents (Elt F))
  :: StableHlo.unary main_arg1 main_v39 ((transpose S256x128 [1, 0] · transposes_S128x256_S256x128_1_0) : (⟨S128x256, .i32⟩ : BufTy).Contents (Elt F) → (⟨S256x128, .i32⟩ : BufTy).Contents (Elt F))
  :: StableHlo.nullary main_c_3 (constantI S_ 32 0#32)
  :: StableHlo.unary main_c_3 main_v40 (broadcastInDim S256x128 ![] bcast_S_S256x128 : (⟨S_, .i32⟩ : BufTy).Contents (Elt F) → (⟨S256x128, .i32⟩ : BufTy).Contents (Elt F))
  :: StableHlo.binary main_v39 main_v40 main_v41 (cmpi .ne : (⟨S256x128, .i32⟩ : BufTy).Contents (Elt F) → (⟨S256x128, .i32⟩ : BufTy).Contents (Elt F) → (⟨S256x128, .i1⟩ : BufTy).Contents (Elt F))
  :: StableHlo.unary main_v41 main_v42 (id : (⟨S256x128, .i1⟩ : BufTy).Contents (Elt F) → (⟨S256x128, .i1⟩ : BufTy).Contents (Elt F))
  :: StableHlo.unary main_arg2 main_v43 ((extractStridedSlice S128x1 ![0, 0] · slices_S128x256_S128x1_0_0) : (⟨S128x256, .i32⟩ : BufTy).Contents (Elt F) → (⟨S128x1, .i32⟩ : BufTy).Contents (Elt F))
  :: StableHlo.nullary main_c_4 (constantI S_ 32 2400#32)
  :: StableHlo.unary main_c_4 main_v44 (broadcastInDim S128x1 ![] bcast_S_S128x1 : (⟨S_, .i32⟩ : BufTy).Contents (Elt F) → (⟨S128x1, .i32⟩ : BufTy).Contents (Elt F))
  :: StableHlo.binary main_v44 main_v43 main_v45 (addi : (⟨S128x1, .i32⟩ : BufTy).Contents (Elt F) → (⟨S128x1, .i32⟩ : BufTy).Contents (Elt F) → (⟨S128x1, .i32⟩ : BufTy).Contents (Elt F))
  :: StableHlo.unary main_arg2 main_v46 ((extractStridedSlice S128x255 ![0, 0] · slices_S128x256_S128x255_0_0) : (⟨S128x256, .i32⟩ : BufTy).Contents (Elt F) → (⟨S128x255, .i32⟩ : BufTy).Contents (Elt F))
  :: StableHlo.nullary main_c_5 (constantI S_ 32 50#32)
  :: StableHlo.unary main_c_5 main_v47 (broadcastInDim S128x255 ![] bcast_S_S128x255 : (⟨S_, .i32⟩ : BufTy).Contents (Elt F) → (⟨S128x255, .i32⟩ : BufTy).Contents (Elt F))
  :: [] )
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.reshape_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0 ]
  (StableHlo.seq main_part0_ops1) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons]
  chain_rfl

/-- 7 host operations of @main, window 1 (statements 61 … 90), in order. -/
abbrev main_part1_ops0 : List (HloOp τ sig (Elt F)) :=
  [ StableHlo.binary main_v46 main_v47 main_v48 (muli : (⟨S128x255, .i32⟩ : BufTy).Contents (Elt F) → (⟨S128x255, .i32⟩ : BufTy).Contents (Elt F) → (⟨S128x255, .i32⟩ : BufTy).Contents (Elt F)),
    StableHlo.unary main_arg2 main_v49 ((extractStridedSlice S128x255 ![0, 1] · slices_S128x256_S128x255_0_1) : (⟨S128x256, .i32⟩ : BufTy).Contents (Elt F) → (⟨S128x255, .i32⟩ : BufTy).Contents (Elt F)),
    StableHlo.binary main_v48 main_v49 main_v50 (addi : (⟨S128x255, .i32⟩ : BufTy).Contents (Elt F) → (⟨S128x255, .i32⟩ : BufTy).Contents (Elt F) → (⟨S128x255, .i32⟩ : BufTy).Contents (Elt F)),
    StableHlo.binary main_v45 main_v50 main_v51 ((fun a b => concatenate S128x256 1 [⟨S128x1, a⟩, ⟨S128x255, b⟩] concatenates_S128x1_S128x255_S128x256_d1) : (⟨S128x1, .i32⟩ : BufTy).Contents (Elt F) → (⟨S128x255, .i32⟩ : BufTy).Contents (Elt F) → (⟨S128x256, .i32⟩ : BufTy).Contents (Elt F)),
    StableHlo.reshape main_v38 main_v52 (rfl : (.f32 : EltTy) = .f32) shapeCasts_S256x128x50x50_S256x128x2500,
    StableHlo.unary main_v51 main_v53 ((transpose S256x128 [1, 0] · transposes_S128x256_S256x128_1_0) : (⟨S128x256, .i32⟩ : BufTy).Contents (Elt F) → (⟨S256x128, .i32⟩ : BufTy).Contents (Elt F)),
    StableHlo.unary main_v53 main_v54 (broadcastInDim S256x128x1 ![0, 1] bcast_S256x128_S256x128x1_0_1 : (⟨S256x128, .i32⟩ : BufTy).Contents (Elt F) → (⟨S256x128x1, .i32⟩ : BufTy).Contents (Elt F)) ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.reshape_bufs_sub .., StableHlo.unary_bufs_sub .., StableHlo.unary_bufs_sub ..⟩
/-- 9 host operations of @take_along_axis (main_call3), window 1 (statements 61 … 90), in order. -/
abbrev main_part1_ops1 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S256x128x1, .i32⟩) (broadcastInDim S256x128x1 ![] bcast_S_S256x128x1),
    StableHlo.TRef.binary (.of main_v54 : StableHlo.TRef sig ⟨S256x128x1, .i32⟩) (.of main_call3_v0 : StableHlo.TRef sig ⟨S256x128x1, .i32⟩) (.of main_call3_v1 : StableHlo.TRef sig ⟨S256x128x1, .i1⟩) (cmpi .slt),
    StableHlo.TRef.nullary (.of main_call3_c_0 : StableHlo.TRef sig ⟨S_, .i32⟩) (constantI S_ 32 2500#32),
    StableHlo.TRef.unary (.of main_call3_c_0 : StableHlo.TRef sig ⟨S_, .i32⟩) (.of main_call3_v2 : StableHlo.TRef sig ⟨S256x128x1, .i32⟩) (broadcastInDim S256x128x1 ![] bcast_S_S256x128x1),
    StableHlo.TRef.binary (.of main_v54 : StableHlo.TRef sig ⟨S256x128x1, .i32⟩) (.of main_call3_v2 : StableHlo.TRef sig ⟨S256x128x1, .i32⟩) (.of main_call3_v3 : StableHlo.TRef sig ⟨S256x128x1, .i32⟩) addi,
    StableHlo.TRef.ternary (.of main_call3_v1 : StableHlo.TRef sig ⟨S256x128x1, .i1⟩) (.of main_call3_v3 : StableHlo.TRef sig ⟨S256x128x1, .i32⟩) (.of main_v54 : StableHlo.TRef sig ⟨S256x128x1, .i32⟩) (.of main_call3_v4 : StableHlo.TRef sig ⟨S256x128x1, .i32⟩) select,
    StableHlo.TRef.reshape (.of main_call3_v4 : StableHlo.TRef sig ⟨S256x128x1, .i32⟩) (.of main_call3_v5 : StableHlo.TRef sig ⟨S256x128x1x1, .i32⟩) (rfl : (.i32 : EltTy) = .i32) shapeCasts_S256x128x1_S256x128x1x1,
    StableHlo.TRef.binary (.of main_v52 : StableHlo.TRef sig ⟨S256x128x2500, .f32⟩) (.of main_call3_v5 : StableHlo.TRef sig ⟨S256x128x1x1, .i32⟩) (.of main_v55 : StableHlo.TRef sig ⟨S256x128x1, .f32⟩) (fun x i => Host.gather gather_S256x128x2500_S256x128x1x1_S256x128x1_n_2_01_01_2_3_111 x i) ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 11 host operations of @main, window 1 (statements 61 … 90), in order. -/
abbrev main_part1_ops2 : List (HloOp τ sig (Elt F)) :=
  [ StableHlo.reshape main_v55 main_v56 (rfl : (.f32 : EltTy) = .f32) shapeCasts_S256x128x1_S256x128,
    StableHlo.unary main_v42 main_v57 (uitofp .f32 : (⟨S256x128, .i1⟩ : BufTy).Contents (Elt F) → (⟨S256x128, .f32⟩ : BufTy).Contents (Elt F)),
    StableHlo.binary main_v56 main_v57 main_v58 (mulf : (⟨S256x128, .f32⟩ : BufTy).Contents (Elt F) → (⟨S256x128, .f32⟩ : BufTy).Contents (Elt F) → (⟨S256x128, .f32⟩ : BufTy).Contents (Elt F)),
    StableHlo.nullary main_cst_6 (constant S_ .f32 0x00000000#32),
    StableHlo.binary main_v58 main_cst_6 main_v59 ((fun x v => Host.reduceAdd x v reducesTo_S256x128_S_d0_1 h_S_) : (⟨S256x128, .f32⟩ : BufTy).Contents (Elt F) → (⟨S_, .f32⟩ : BufTy).Contents (Elt F) → (⟨S_, .f32⟩ : BufTy).Contents (Elt F)),
    StableHlo.nullary main_c_7 (constantI S_ 32 0#32),
    StableHlo.binary main_arg1 main_c_7 main_v60 ((fun x v => Host.reduce IntOp.addi x v reducesTo_S128x256_S128_d1 h_S_) : (⟨S128x256, .i32⟩ : BufTy).Contents (Elt F) → (⟨S_, .i32⟩ : BufTy).Contents (Elt F) → (⟨S128, .i32⟩ : BufTy).Contents (Elt F)),
    StableHlo.nullary main_c_8 (constantI S_ 32 1#32),
    StableHlo.unary main_c_8 main_v61 (broadcastInDim S128 ![] bcast_S_S128 : (⟨S_, .i32⟩ : BufTy).Contents (Elt F) → (⟨S128, .i32⟩ : BufTy).Contents (Elt F)),
    StableHlo.binary main_v60 main_v61 main_v62 (subi : (⟨S128, .i32⟩ : BufTy).Contents (Elt F) → (⟨S128, .i32⟩ : BufTy).Contents (Elt F) → (⟨S128, .i32⟩ : BufTy).Contents (Elt F)),
    StableHlo.unary main_v62 main_v63 (broadcastInDim S128x1 ![0] bcast_S128_S128x1_0 : (⟨S128, .i32⟩ : BufTy).Contents (Elt F) → (⟨S128x1, .i32⟩ : BufTy).Contents (Elt F)) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.reshape_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub ..⟩
/-- 9 host operations of @take_along_axis_1 (main_call4), window 1 (statements 61 … 90), in order. -/
abbrev main_part1_ops3 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S128x1, .i32⟩) (broadcastInDim S128x1 ![] bcast_S_S128x1),
    StableHlo.TRef.binary (.of main_v63 : StableHlo.TRef sig ⟨S128x1, .i32⟩) (.of main_call4_v0 : StableHlo.TRef sig ⟨S128x1, .i32⟩) (.of main_call4_v1 : StableHlo.TRef sig ⟨S128x1, .i1⟩) (cmpi .slt),
    StableHlo.TRef.nullary (.of main_call4_c_0 : StableHlo.TRef sig ⟨S_, .i32⟩) (constantI S_ 32 256#32),
    StableHlo.TRef.unary (.of main_call4_c_0 : StableHlo.TRef sig ⟨S_, .i32⟩) (.of main_call4_v2 : StableHlo.TRef sig ⟨S128x1, .i32⟩) (broadcastInDim S128x1 ![] bcast_S_S128x1),
    StableHlo.TRef.binary (.of main_v63 : StableHlo.TRef sig ⟨S128x1, .i32⟩) (.of main_call4_v2 : StableHlo.TRef sig ⟨S128x1, .i32⟩) (.of main_call4_v3 : StableHlo.TRef sig ⟨S128x1, .i32⟩) addi,
    StableHlo.TRef.ternary (.of main_call4_v1 : StableHlo.TRef sig ⟨S128x1, .i1⟩) (.of main_call4_v3 : StableHlo.TRef sig ⟨S128x1, .i32⟩) (.of main_v63 : StableHlo.TRef sig ⟨S128x1, .i32⟩) (.of main_call4_v4 : StableHlo.TRef sig ⟨S128x1, .i32⟩) select,
    StableHlo.TRef.reshape (.of main_call4_v4 : StableHlo.TRef sig ⟨S128x1, .i32⟩) (.of main_call4_v5 : StableHlo.TRef sig ⟨S128x1x1, .i32⟩) (rfl : (.i32 : EltTy) = .i32) shapeCasts_S128x1_S128x1x1,
    StableHlo.TRef.binary (.of main_arg2 : StableHlo.TRef sig ⟨S128x256, .i32⟩) (.of main_call4_v5 : StableHlo.TRef sig ⟨S128x1x1, .i32⟩) (.of main_v64 : StableHlo.TRef sig ⟨S128x1, .i32⟩) (fun x i => Host.gather gather_S128x256_S128x1x1_S128x1_n_1_0_0_1_2_11 x i) ]
/-- Each touches TensorCore references only (`HostSeg.ofOps` over `StableHlo.tcRefs`, or a subset by `sub_ucRefs`). -/
theorem main_part1_ops3_sub : (main_part1_ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 3 host operations of @main, window 1 (statements 61 … 90), in order. -/
abbrev main_part1_ops4 : List (HloOp τ sig (Elt F)) :=
  [ StableHlo.reshape main_v64 main_v65 (rfl : (.i32 : EltTy) = .i32) shapeCasts_S128x1_S128,
    StableHlo.unary main_arg3 main_v66 ((extractStridedSlice S50x1 ![0, 49] · slices_S50x50_S50x1_0_49) : (⟨S50x50, .f32⟩ : BufTy).Contents (Elt F) → (⟨S50x1, .f32⟩ : BufTy).Contents (Elt F)),
    StableHlo.reshape main_v66 main_v67 (rfl : (.f32 : EltTy) = .f32) shapeCasts_S50x1_S50 ]
/-- Each touches TensorCore references only (`HostSeg.ofOps` over `StableHlo.tcRefs`, or a subset by `sub_ucRefs`). -/
theorem main_part1_ops4_sub : (main_part1_ops4 : List (HloOp τ sig (Elt F))).Forall fun op => op.bufs ⊆ StableHlo.tcRefs τ sig :=
  ⟨StableHlo.reshape_bufs_sub .., StableHlo.unary_bufs_sub .., StableHlo.reshape_bufs_sub ..⟩
/-- 9 host operations of @take_along_axis_2 (main_call5), window 1 (statements 61 … 90), in order. -/
abbrev main_part1_ops5 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S128, .i32⟩) (broadcastInDim S128 ![] bcast_S_S128),
    StableHlo.TRef.binary (.of main_v65 : StableHlo.TRef sig ⟨S128, .i32⟩) (.of main_call5_v0 : StableHlo.TRef sig ⟨S128, .i32⟩) (.of main_call5_v1 : StableHlo.TRef sig ⟨S128, .i1⟩) (cmpi .slt),
    StableHlo.TRef.nullary (.of main_call5_c_0 : StableHlo.TRef sig ⟨S_, .i32⟩) (constantI S_ 32 50#32),
    StableHlo.TRef.unary (.of main_call5_c_0 : StableHlo.TRef sig ⟨S_, .i32⟩) (.of main_call5_v2 : StableHlo.TRef sig ⟨S128, .i32⟩) (broadcastInDim S128 ![] bcast_S_S128),
    StableHlo.TRef.binary (.of main_v65 : StableHlo.TRef sig ⟨S128, .i32⟩) (.of main_call5_v2 : StableHlo.TRef sig ⟨S128, .i32⟩) (.of main_call5_v3 : StableHlo.TRef sig ⟨S128, .i32⟩) addi,
    StableHlo.TRef.ternary (.of main_call5_v1 : StableHlo.TRef sig ⟨S128, .i1⟩) (.of main_call5_v3 : StableHlo.TRef sig ⟨S128, .i32⟩) (.of main_v65 : StableHlo.TRef sig ⟨S128, .i32⟩) (.of main_call5_v4 : StableHlo.TRef sig ⟨S128, .i32⟩) select,
    StableHlo.TRef.reshape (.of main_call5_v4 : StableHlo.TRef sig ⟨S128, .i32⟩) (.of main_call5_v5 : StableHlo.TRef sig ⟨S128x1, .i32⟩) (rfl : (.i32 : EltTy) = .i32) shapeCasts_S128_S128x1,
    StableHlo.TRef.binary (.of main_v67 : StableHlo.TRef sig ⟨S50, .f32⟩) (.of main_call5_v5 : StableHlo.TRef sig ⟨S128x1, .i32⟩) (.of main_v68 : StableHlo.TRef sig ⟨S128, .f32⟩) (fun x i => Host.gather gather_S50_S128x1_S128_n_0_n_n_0_1_1 x i) ]
/-- Each touches TensorCore references only (`HostSeg.ofOps` over `StableHlo.tcRefs`, or a subset by `sub_ucRefs`). -/
theorem main_part1_ops5_sub : (main_part1_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 5 host operations of @main, window 1 (statements 61 … 90), in order. -/
abbrev main_part1_ops6 : List (HloOp τ sig (Elt F)) :=
  [ StableHlo.nullary main_cst_9 (constant S_ .f32 0x00000000#32),
    StableHlo.binary main_v68 main_cst_9 main_v69 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.binary main_v59 main_v69 main_v70 (addf : (⟨S_, .f32⟩ : BufTy).Contents (Elt F) → (⟨S_, .f32⟩ : BufTy).Contents (Elt F) → (⟨S_, .f32⟩ : BufTy).Contents (Elt F)),
    StableHlo.binary main_v32 main_v70 main_v71 (subf : (⟨S_, .f32⟩ : BufTy).Contents (Elt F) → (⟨S_, .f32⟩ : BufTy).Contents (Elt F) → (⟨S_, .f32⟩ : BufTy).Contents (Elt F)),
    StableHlo.reshape main_v71 main_v72 (rfl : (.f32 : EltTy) = .f32) shapeCasts_S_S1x1 ]
/-- Each touches TensorCore references only (`HostSeg.ofOps` over `StableHlo.tcRefs`, or a subset by `sub_ucRefs`). -/
theorem main_part1_ops6_sub : (main_part1_ops6 : List (HloOp τ sig (Elt F))).Forall fun op => op.bufs ⊆ StableHlo.tcRefs τ sig :=
  ⟨StableHlo.nullary_bufs_sub .., StableHlo.binary_bufs_sub .., StableHlo.binary_bufs_sub .., StableHlo.binary_bufs_sub .., StableHlo.reshape_bufs_sub ..⟩
/-- The last window of `main` (`main_part1`, statements 61 … 90) is the chain of ITS items, each item aligned with the window's
    statements, then `chain_rfl`. -/
theorem main_part1_chain (c : Dev nD) : main_part1 (F := F) c = (Pipeline.chain
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1, main_part1_ops0],
    .ops [main_part1_ops1],
    .ops [main_part1_ops2],
    .ops [main_part1_ops3],
    .ops [main_part1_ops4],
    .ops [main_part1_ops5],
    .ops [main_part1_ops6] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 5 host operations of @dynamic_index_in_dim (main_while0b_call0), in order. -/
abbrev while0Ops0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v16_0 : StableHlo.TRef sig ⟨S255x128x50x50, .f32⟩) ![(.of main_v16_2 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x128x50x50, .f32⟩) (fun x i => Host.dynamicSlice S1x128x50x50 x (fun k => (i k (Shape.Idx.first h_S_)).toInt) sliceFits_S255x128x50x50_S1x128x50x50),
    StableHlo.TRef.reshape (.of main_while0b_call0_v0 : StableHlo.TRef sig ⟨S1x128x50x50, .f32⟩) (.of main_while0b_v73 : StableHlo.TRef sig ⟨S128x50x50, .f32⟩) (rfl : (.f32 : EltTy) = .f32) shapeCasts_S1x128x50x50_S128x50x50 ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
/-- 3 host operations of @dynamic_index_in_dim_0 (main_while0b_call1), in order. -/
abbrev while0Ops0_1 : List (HloOp τ sig (Elt F)) :=
  [ StableHlo.TRef.nullary (.of main_while0b_call1_c : StableHlo.TRef sig ⟨S_, .i32⟩) (constantI S_ 32 0#32),
    StableHlo.TRef.unaryIndexed (.of main_v16_1 : StableHlo.TRef sig ⟨S255x128, .i1⟩) ![(.of main_v16_2 : StableHlo.TRef sig ⟨S_, .i32⟩), (.of main_while0b_call1_c : StableHlo.TRef sig ⟨S_, .i32⟩)] (.of main_while0b_call1_v0 : StableHlo.TRef sig ⟨S1x128, .i1⟩) (fun x i => Host.dynamicSlice S1x128 x (fun k => (i k (Shape.Idx.first h_S_)).toInt) sliceFits_S255x128_S1x128),
    StableHlo.TRef.reshape (.of main_while0b_call1_v0 : StableHlo.TRef sig ⟨S1x128, .i1⟩) (.of main_while0b_v74 : StableHlo.TRef sig ⟨S128, .i1⟩) (rfl : (.i1 : EltTy) = .i1) shapeCasts_S1x128_S128 ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.unaryIndexed_bufs_sub .., StableHlo.reshape_bufs_sub ..⟩
/-- 14 host operations of host loop 0's body region, in order. -/
abbrev while0Ops0_2 : List (HloOp τ sig (Elt F)) :=
  [ StableHlo.unary main_v16_3 main_while0b_v75 (broadcastInDim S128x50x1 ![0, 1] bcast_S128x50_S128x50x1_0_1 : (⟨S128x50, .f32⟩ : BufTy).Contents (Elt F) → (⟨S128x50x1, .f32⟩ : BufTy).Contents (Elt F)),
    StableHlo.unary main_while0b_v75 main_while0b_v76 (broadcastInDim S128x50x50 ![0, 1, 2] bcast_S128x50x1_S128x50x50_0_1_2 : (⟨S128x50x1, .f32⟩ : BufTy).Contents (Elt F) → (⟨S128x50x50, .f32⟩ : BufTy).Contents (Elt F)),
    StableHlo.binary main_while0b_v73 main_while0b_v76 main_while0b_v77 (addf : (⟨S128x50x50, .f32⟩ : BufTy).Contents (Elt F) → (⟨S128x50x50, .f32⟩ : BufTy).Contents (Elt F) → (⟨S128x50x50, .f32⟩ : BufTy).Contents (Elt F)),
    StableHlo.nullary main_while0b_cst_13 (constant S_ .f32 0xFF800000#32),
    StableHlo.binary main_while0b_v77 main_while0b_cst_13 main_while0b_v78 ((fun x v => Host.reduce FloatOps.maximumf x v reducesTo_S128x50x50_S128x50_d1 h_S_) : (⟨S128x50x50, .f32⟩ : BufTy).Contents (Elt F) → (⟨S_, .f32⟩ : BufTy).Contents (Elt F) → (⟨S128x50, .f32⟩ : BufTy).Contents (Elt F)),
    StableHlo.unary main_while0b_v78 main_while0b_v79 (broadcastInDim S128x1x50 ![0, 2] bcast_S128x50_S128x1x50_0_2 : (⟨S128x50, .f32⟩ : BufTy).Contents (Elt F) → (⟨S128x1x50, .f32⟩ : BufTy).Contents (Elt F)),
    StableHlo.unary main_while0b_v79 main_while0b_v80 (broadcastInDim S128x50x50 ![0, 1, 2] bcast_S128x1x50_S128x50x50_0_1_2 : (⟨S128x1x50, .f32⟩ : BufTy).Contents (Elt F) → (⟨S128x50x50, .f32⟩ : BufTy).Contents (Elt F)),
    StableHlo.binary main_while0b_v77 main_while0b_v80 main_while0b_v81 (subf : (⟨S128x50x50, .f32⟩ : BufTy).Contents (Elt F) → (⟨S128x50x50, .f32⟩ : BufTy).Contents (Elt F) → (⟨S128x50x50, .f32⟩ : BufTy).Contents (Elt F)),
    StableHlo.unary main_while0b_v81 main_while0b_v82 (Host.exp : (⟨S128x50x50, .f32⟩ : BufTy).Contents (Elt F) → (⟨S128x50x50, .f32⟩ : BufTy).Contents (Elt F)),
    StableHlo.nullary main_while0b_cst_14 (constant S_ .f32 0x00000000#32),
    StableHlo.binary main_while0b_v82 main_while0b_cst_14 main_while0b_v83 ((fun x v => Host.reduceAdd x v reducesTo_S128x50x50_S128x50_d1 h_S_) : (⟨S128x50x50, .f32⟩ : BufTy).Contents (Elt F) → (⟨S_, .f32⟩ : BufTy).Contents (Elt F) → (⟨S128x50, .f32⟩ : BufTy).Contents (Elt F)),
    StableHlo.unary main_while0b_v83 main_while0b_v84 (Host.log : (⟨S128x50, .f32⟩ : BufTy).Contents (Elt F) → (⟨S128x50, .f32⟩ : BufTy).Contents (Elt F)),
    StableHlo.binary main_while0b_v84 main_while0b_v78 main_while0b_v85 (addf : (⟨S128x50, .f32⟩ : BufTy).Contents (Elt F) → (⟨S128x50, .f32⟩ : BufTy).Contents (Elt F) → (⟨S128x50, .f32⟩ : BufTy).Contents (Elt F)),
    StableHlo.unary main_while0b_v74 main_while0b_v86 (broadcastInDim S128x1 ![0] bcast_S128_S128x1_0 : (⟨S128, .i1⟩ : BufTy).Contents (Elt F) → (⟨S128x1, .i1⟩ : BufTy).Contents (Elt F)) ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub ..⟩
/-- 2 host operations of @_where (main_while0b_call2), in order. -/
abbrev while0Ops0_3 : List (HloOp τ sig (Elt F)) :=
  [ StableHlo.TRef.unary (.of main_while0b_v86 : StableHlo.TRef sig ⟨S128x1, .i1⟩) (.of main_while0b_call2_v0 : StableHlo.TRef sig ⟨S128x50, .i1⟩) (broadcastInDim S128x50 ![0, 1] bcast_S128x1_S128x50_0_1),
    StableHlo.TRef.ternary (.of main_while0b_call2_v0 : StableHlo.TRef sig ⟨S128x50, .i1⟩) (.of main_while0b_v85 : StableHlo.TRef sig ⟨S128x50, .f32⟩) (.of main_v16_3 : StableHlo.TRef sig ⟨S128x50, .f32⟩) (.of main_while0b_v87 : StableHlo.TRef sig ⟨S128x50, .f32⟩) select ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.ternary_bufs_sub ..⟩
/-- 4 host operations of host loop 0's body region, in order. -/
abbrev while0Ops0_4 : List (HloOp τ sig (Elt F)) :=
  [ StableHlo.nullary main_while0b_c_15 (constantI S_ 32 1#32),
    StableHlo.binary main_v16_2 main_while0b_c_15 main_while0b_v88 (addi : (⟨S_, .i32⟩ : BufTy).Contents (Elt F) → (⟨S_, .i32⟩ : BufTy).Contents (Elt F) → (⟨S_, .i32⟩ : BufTy).Contents (Elt F)),
    StableHlo.unary main_while0b_v88 main_v16_2 id,
    StableHlo.unary main_while0b_v87 main_v16_3 id ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4 ] : Prog (TpuEff nD τ sig (Elt F) (HostLoop.Sig (Pipeline.Sig Λ₀ (Fin 0) fun p => (pcfgs (F := F) p).Adm) 1) .tc) PUnit) := by
  rewrite [Pipeline.chain_cons, Pipeline.chain_cons, StableHlo.chain_seq_cons, Pipeline.chain_cons, StableHlo.chain_seq_cons]
  chain_rfl

end Cert.ReferenceIdeal.Gen

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_v5, main_v6, main_c, main_v7, main_v8, main_v9, main_v10, main_v11, main_v12, main_v13, main_v14, main_v15, main_c_0, main_v16_0, main_v16_1, main_v16_2, main_v16_3]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_c, main_while0b_call0_c_0, main_while0b_call0_c_1, main_while0b_call0_v0, main_while0b_v73]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_call1_c, main_while0b_call1_v0, main_while0b_v74]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_v75, main_while0b_v76, main_while0b_v77, main_while0b_cst_13, main_while0b_v78, main_while0b_v79, main_while0b_v80, main_while0b_v81, main_while0b_v82, main_while0b_cst_14, main_while0b_v83, main_while0b_v84, main_while0b_v85, main_while0b_v86]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_call2_v0, main_while0b_v87]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_c_15, main_while0b_v88, main_v16_2, main_v16_3]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl
/-- The reference each operation of `hostOps0_1` writes, in order. -/
abbrev hostOps0_1_W : List (Ref sig .tc) := [main_v17, main_v18, main_v19, main_v20, main_v21, main_cst, main_v22, main_v23, main_v24, main_v25, main_v26, main_cst_1, main_v27, main_v28, main_v29, main_v30, main_v31, main_cst_2, main_v32, main_v33, main_v34, main_v35, main_v36, main_v37, main_v38, main_v39, main_c_3, main_v40, main_v41, main_v42, main_v43, main_c_4, main_v44, main_v45, main_v46, main_c_5, main_v47, main_v48, main_v49, main_v50, main_v51, main_v52, main_v53, main_v54]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call3_c, main_call3_v0, main_call3_v1, main_call3_c_0, main_call3_v2, main_call3_v3, main_call3_v4, main_call3_v5, main_v55]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v56, main_v57, main_v58, main_cst_6, main_v59, main_c_7, main_v60, main_c_8, main_v61, main_v62, main_v63]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call4_c, main_call4_v0, main_call4_v1, main_call4_c_0, main_call4_v2, main_call4_v3, main_call4_v4, main_call4_v5, main_v64]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_v65, main_v66, main_v67]
theorem hostOps0_5_writes : (hostOps0_5 : List (HloOp τ sig (Elt F))).Forall fun op => op.writes ⊆ (hostOps0_5_W.map (Proc.devRef (τ := τ) .tc)).toFinset :=
  StableHlo.forall_writes_sub_of_map rfl
/-- The reference each operation of `hostOps0_6` writes, in order. -/
abbrev hostOps0_6_W : List (Ref sig .tc) := [main_call5_c, main_call5_v0, main_call5_v1, main_call5_c_0, main_call5_v2, main_call5_v3, main_call5_v4, main_call5_v5, main_v68]
theorem hostOps0_6_writes : (hostOps0_6 : List (HloOp τ sig (Elt F))).Forall fun op => op.writes ⊆ (hostOps0_6_W.map (Proc.devRef (τ := τ) .tc)).toFinset :=
  StableHlo.forall_writes_sub_of_map rfl
/-- The reference each operation of `hostOps0_7` writes, in order. -/
abbrev hostOps0_7_W : List (Ref sig .tc) := [main_cst_9, main_v69, main_v70, main_v71, main_v72]
theorem hostOps0_7_writes : (hostOps0_7 : List (HloOp τ sig (Elt F))).Forall fun op => op.writes ⊆ (hostOps0_7_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_13 (constantI S_ 32 255#32),
    StableHlo.binary main_v16_2 main_while0c_c_13 main_while0c_v73 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4]
abbrev postI : List (List (HloOp τ sig (Elt F))) := [hostOps0_1, hostOps0_2, hostOps0_3, hostOps0_4, hostOps0_5, hostOps0_6, hostOps0_7]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.nil)))))))

/-- The reference each operation of `condOps` writes, in order. -/
abbrev condOps_W : List (Ref sig .tc) := [main_while0c_c_13, main_while0c_v73]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v16_2`) is written by one stretch of the body, `while0Ops0_4`: not by the condition, nor by the
    body's other stretches. -/
theorem ctr_cond (V : Valuation τ sig (Elt F)) : after condOps V (Proc.devRef .tc main_v16_2) = V (Proc.devRef .tc main_v16_2) :=
  after_of_writes_sub condOps V condOps_writes (by decide +kernel)
theorem ctr_while0Ops0 (V : Valuation τ sig (Elt F)) : after while0Ops0 V (Proc.devRef .tc main_v16_2) = V (Proc.devRef .tc main_v16_2) :=
  after_of_writes_sub while0Ops0 V while0Ops0_writes (by decide +kernel)
theorem ctr_while0Ops0_1 (V : Valuation τ sig (Elt F)) : after while0Ops0_1 V (Proc.devRef .tc main_v16_2) = V (Proc.devRef .tc main_v16_2) :=
  after_of_writes_sub while0Ops0_1 V while0Ops0_1_writes (by decide +kernel)
theorem ctr_while0Ops0_2 (V : Valuation τ sig (Elt F)) : after while0Ops0_2 V (Proc.devRef .tc main_v16_2) = V (Proc.devRef .tc main_v16_2) :=
  after_of_writes_sub while0Ops0_2 V while0Ops0_2_writes (by decide +kernel)
theorem ctr_while0Ops0_3 (V : Valuation τ sig (Elt F)) : after while0Ops0_3 V (Proc.devRef .tc main_v16_2) = V (Proc.devRef .tc main_v16_2) :=
  after_of_writes_sub while0Ops0_3 V while0Ops0_3_writes (by decide +kernel)

set_option maxRecDepth 100000 in
/-- `while0Ops0_4` leaves the counter one step on. -/
theorem ctr_step (X : Valuation τ sig (Elt F)) :
    after while0Ops0_4 X (Proc.devRef .tc main_v16_2) = addi (X (Proc.devRef .tc main_v16_2)) (constantI S_ 32 1#32) := by
  after_results
  rfl

/-- The counter is the loop's lower bound at the loop's entry: its last writer before the loop read back. -/
theorem ctr_entry (c : Dev nD) : entryContents preI m c (Proc.devRef .tc main_v16_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v16_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_3, ctr_while0Ops0_2, ctr_while0Ops0_1, ctr_while0Ops0, ctr_cond, atK_ctr c k, Scf.iv_succ]
    rfl

set_option backward.isDefEq.respectTransparency.types false in
/-- The condition's specification at the fold. -/
theorem cond_spec : CondSpec (pcfgs (F := F)) defs₀ loops (main_while0_cond (F := F)) condOps bodyI (entryContents preI m) 255 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v16_2 HostLoop.idx0)
        (HloOp.result _ (atK m k c) main_while0c_c_13 HostLoop.idx0) = 1#1) (k < 255)
    rw [nullary_result_ne _ _ _ _ (by decide), nullary_result, hctr]
    exact Scf.cmpi_slt_iv_ub_iff (lb := 0#32) (ub := 255#32) (st := 1#32) (by decide) (show k ≤ Scf.trips 0#32 255#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 255 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 255 m ρ (cond_spec m)

/-! ## One trip's values -/

/-- The body's operations 1 … 4 of 28. -/
abbrev trip_w0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v16_0 : StableHlo.TRef sig ⟨S255x128x50x50, .f32⟩) ![(.of main_v16_2 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x128x50x50, .f32⟩) (fun x i => Host.dynamicSlice S1x128x50x50 x (fun k => (i k (Shape.Idx.first h_S_)).toInt) sliceFits_S255x128x50x50_S1x128x50x50) ]

/-- The body's operations 5 … 5 of 28. -/
abbrev trip_w1 : List (HloOp τ sig (Elt F)) :=
  [ StableHlo.TRef.reshape (.of main_while0b_call0_v0 : StableHlo.TRef sig ⟨S1x128x50x50, .f32⟩) (.of main_while0b_v73 : StableHlo.TRef sig ⟨S128x50x50, .f32⟩) (rfl : (.f32 : EltTy) = .f32) shapeCasts_S1x128x50x50_S128x50x50 ]

/-- The body's operations 6 … 7 of 28. -/
abbrev trip_w2 : List (HloOp τ sig (Elt F)) :=
  [ StableHlo.TRef.nullary (.of main_while0b_call1_c : StableHlo.TRef sig ⟨S_, .i32⟩) (constantI S_ 32 0#32),
    StableHlo.TRef.unaryIndexed (.of main_v16_1 : StableHlo.TRef sig ⟨S255x128, .i1⟩) ![(.of main_v16_2 : StableHlo.TRef sig ⟨S_, .i32⟩), (.of main_while0b_call1_c : StableHlo.TRef sig ⟨S_, .i32⟩)] (.of main_while0b_call1_v0 : StableHlo.TRef sig ⟨S1x128, .i1⟩) (fun x i => Host.dynamicSlice S1x128 x (fun k => (i k (Shape.Idx.first h_S_)).toInt) sliceFits_S255x128_S1x128) ]

/-- The body's operations 8 … 8 of 28. -/
abbrev trip_w3 : List (HloOp τ sig (Elt F)) :=
  [ StableHlo.TRef.reshape (.of main_while0b_call1_v0 : StableHlo.TRef sig ⟨S1x128, .i1⟩) (.of main_while0b_v74 : StableHlo.TRef sig ⟨S128, .i1⟩) (rfl : (.i1 : EltTy) = .i1) shapeCasts_S1x128_S128 ]

/-- The body's operations 9 … 22 of 28. -/
abbrev trip_w4 : List (HloOp τ sig (Elt F)) :=
  [ StableHlo.unary main_v16_3 main_while0b_v75 (broadcastInDim S128x50x1 ![0, 1] bcast_S128x50_S128x50x1_0_1 : (⟨S128x50, .f32⟩ : BufTy).Contents (Elt F) → (⟨S128x50x1, .f32⟩ : BufTy).Contents (Elt F)),
    StableHlo.unary main_while0b_v75 main_while0b_v76 (broadcastInDim S128x50x50 ![0, 1, 2] bcast_S128x50x1_S128x50x50_0_1_2 : (⟨S128x50x1, .f32⟩ : BufTy).Contents (Elt F) → (⟨S128x50x50, .f32⟩ : BufTy).Contents (Elt F)),
    StableHlo.binary main_while0b_v73 main_while0b_v76 main_while0b_v77 (addf : (⟨S128x50x50, .f32⟩ : BufTy).Contents (Elt F) → (⟨S128x50x50, .f32⟩ : BufTy).Contents (Elt F) → (⟨S128x50x50, .f32⟩ : BufTy).Contents (Elt F)),
    StableHlo.nullary main_while0b_cst_13 (constant S_ .f32 0xFF800000#32),
    StableHlo.binary main_while0b_v77 main_while0b_cst_13 main_while0b_v78 ((fun x v => Host.reduce FloatOps.maximumf x v reducesTo_S128x50x50_S128x50_d1 h_S_) : (⟨S128x50x50, .f32⟩ : BufTy).Contents (Elt F) → (⟨S_, .f32⟩ : BufTy).Contents (Elt F) → (⟨S128x50, .f32⟩ : BufTy).Contents (Elt F)),
    StableHlo.unary main_while0b_v78 main_while0b_v79 (broadcastInDim S128x1x50 ![0, 2] bcast_S128x50_S128x1x50_0_2 : (⟨S128x50, .f32⟩ : BufTy).Contents (Elt F) → (⟨S128x1x50, .f32⟩ : BufTy).Contents (Elt F)),
    StableHlo.unary main_while0b_v79 main_while0b_v80 (broadcastInDim S128x50x50 ![0, 1, 2] bcast_S128x1x50_S128x50x50_0_1_2 : (⟨S128x1x50, .f32⟩ : BufTy).Contents (Elt F) → (⟨S128x50x50, .f32⟩ : BufTy).Contents (Elt F)),
    StableHlo.binary main_while0b_v77 main_while0b_v80 main_while0b_v81 (subf : (⟨S128x50x50, .f32⟩ : BufTy).Contents (Elt F) → (⟨S128x50x50, .f32⟩ : BufTy).Contents (Elt F) → (⟨S128x50x50, .f32⟩ : BufTy).Contents (Elt F)),
    StableHlo.unary main_while0b_v81 main_while0b_v82 (Host.exp : (⟨S128x50x50, .f32⟩ : BufTy).Contents (Elt F) → (⟨S128x50x50, .f32⟩ : BufTy).Contents (Elt F)),
    StableHlo.nullary main_while0b_cst_14 (constant S_ .f32 0x00000000#32),
    StableHlo.binary main_while0b_v82 main_while0b_cst_14 main_while0b_v83 ((fun x v => Host.reduceAdd x v reducesTo_S128x50x50_S128x50_d1 h_S_) : (⟨S128x50x50, .f32⟩ : BufTy).Contents (Elt F) → (⟨S_, .f32⟩ : BufTy).Contents (Elt F) → (⟨S128x50, .f32⟩ : BufTy).Contents (Elt F)),
    StableHlo.unary main_while0b_v83 main_while0b_v84 (Host.log : (⟨S128x50, .f32⟩ : BufTy).Contents (Elt F) → (⟨S128x50, .f32⟩ : BufTy).Contents (Elt F)),
    StableHlo.binary main_while0b_v84 main_while0b_v78 main_while0b_v85 (addf : (⟨S128x50, .f32⟩ : BufTy).Contents (Elt F) → (⟨S128x50, .f32⟩ : BufTy).Contents (Elt F) → (⟨S128x50, .f32⟩ : BufTy).Contents (Elt F)),
    StableHlo.unary main_while0b_v74 main_while0b_v86 (broadcastInDim S128x1 ![0] bcast_S128_S128x1_0 : (⟨S128, .i1⟩ : BufTy).Contents (Elt F) → (⟨S128x1, .i1⟩ : BufTy).Contents (Elt F)) ]

/-- The body's operations 23 … 24 of 28. -/
abbrev trip_w5 : List (HloOp τ sig (Elt F)) :=
  [ StableHlo.TRef.unary (.of main_while0b_v86 : StableHlo.TRef sig ⟨S128x1, .i1⟩) (.of main_while0b_call2_v0 : StableHlo.TRef sig ⟨S128x50, .i1⟩) (broadcastInDim S128x50 ![0, 1] bcast_S128x1_S128x50_0_1),
    StableHlo.TRef.ternary (.of main_while0b_call2_v0 : StableHlo.TRef sig ⟨S128x50, .i1⟩) (.of main_while0b_v85 : StableHlo.TRef sig ⟨S128x50, .f32⟩) (.of main_v16_3 : StableHlo.TRef sig ⟨S128x50, .f32⟩) (.of main_while0b_v87 : StableHlo.TRef sig ⟨S128x50, .f32⟩) select ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 ++ (trip_w3) := rfl
set_option maxRecDepth 5000 in
/-- `while0Ops0_2` is its windows in order. -/
theorem while0Ops0_2_cut : (while0Ops0_2 : List (HloOp τ sig (Elt F))) = trip_w4 := rfl
set_option maxRecDepth 5000 in
/-- `while0Ops0_3` is its windows in order. -/
theorem while0Ops0_3_cut : (while0Ops0_3 : List (HloOp τ sig (Elt F))) = trip_w5 := rfl

set_option maxRecDepth 8192 in
/-- `main_while0b_v77`'s composed term of the carried buffers (named: it is used 2 times). -/
def res_main_while0b_v77 (V0 : Valuation τ sig (Elt F)) : (Proc.devRef .tc main_while0b_v77 : DevRef τ sig).ty.Contents (Elt F) :=
  addf (shapeCast S128x50x50 (Host.dynamicSlice S1x128x50x50 (V0 (Proc.devRef .tc main_v16_0)) (fun k => (((![V0 (Proc.devRef .tc main_v16_2), constantI S_ 32 0#32, constantI S_ 32 0#32, constantI S_ 32 0#32] : Fin 4 → (⟨S_, .i32⟩ : BufTy).Contents (Elt F))) k (Shape.Idx.first h_S_)).toInt) sliceFits_S255x128x50x50_S1x128x50x50) shapeCasts_S1x128x50x50_S128x50x50) (broadcastInDim S128x50x50 ![0, 1, 2] bcast_S128x50x1_S128x50x50_0_1_2 (broadcastInDim S128x50x1 ![0, 1] bcast_S128x50_S128x50x1_0_1 (V0 (Proc.devRef .tc main_v16_3))))

set_option maxRecDepth 8192 in
/-- `main_while0b_v78`'s composed term of the carried buffers (named: it is used 2 times). -/
def res_main_while0b_v78 (V0 : Valuation τ sig (Elt F)) : (Proc.devRef .tc main_while0b_v78 : DevRef τ sig).ty.Contents (Elt F) :=
  Host.reduce FloatOps.maximumf (res_main_while0b_v77 V0) (constant S_ .f32 0xFF800000#32) reducesTo_S128x50x50_S128x50_d1 h_S_

/-- The device's buffer contents before the body's first window. -/
def val0 (V0 : Valuation τ sig (Elt F)) : Valuation τ sig (Elt F) := V0
theorem val0_main_v16_0 (V0 : Valuation τ sig (Elt F)) : val0 V0 (no_index (Proc.devRef .tc main_v16_0)) = V0 (Proc.devRef .tc main_v16_0) := rfl
theorem val0_main_v16_2 (V0 : Valuation τ sig (Elt F)) : val0 V0 (no_index (Proc.devRef .tc main_v16_2)) = V0 (Proc.devRef .tc main_v16_2) := rfl
theorem val0_main_v16_1 (V0 : Valuation τ sig (Elt F)) : val0 V0 (no_index (Proc.devRef .tc main_v16_1)) = V0 (Proc.devRef .tc main_v16_1) := rfl
theorem val0_main_v16_3 (V0 : Valuation τ sig (Elt F)) : val0 V0 (no_index (Proc.devRef .tc main_v16_3)) = V0 (Proc.devRef .tc main_v16_3) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call0_c, main_while0b_call0_c_0, main_while0b_call0_c_1, main_while0b_call0_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v16_0 (V0 : Valuation τ sig (Elt F)) : val1 V0 (no_index (Proc.devRef .tc main_v16_0)) = V0 (Proc.devRef .tc main_v16_0) :=
  (val1_keep V0 main_v16_0 (by decide)).trans (val0_main_v16_0 V0)
theorem val1_main_v16_2 (V0 : Valuation τ sig (Elt F)) : val1 V0 (no_index (Proc.devRef .tc main_v16_2)) = V0 (Proc.devRef .tc main_v16_2) :=
  (val1_keep V0 main_v16_2 (by decide)).trans (val0_main_v16_2 V0)
theorem val1_main_v16_1 (V0 : Valuation τ sig (Elt F)) : val1 V0 (no_index (Proc.devRef .tc main_v16_1)) = V0 (Proc.devRef .tc main_v16_1) :=
  (val1_keep V0 main_v16_1 (by decide)).trans (val0_main_v16_1 V0)
theorem val1_main_v16_3 (V0 : Valuation τ sig (Elt F)) : val1 V0 (no_index (Proc.devRef .tc main_v16_3)) = V0 (Proc.devRef .tc main_v16_3) :=
  (val1_keep V0 main_v16_3 (by decide)).trans (val0_main_v16_3 V0)
set_option maxRecDepth 8192 in
theorem val1_main_while0b_call0_v0 (V0 : Valuation τ sig (Elt F)) : val1 V0 (no_index (Proc.devRef .tc main_while0b_call0_v0)) = Host.dynamicSlice S1x128x50x50 (V0 (Proc.devRef .tc main_v16_0)) (fun k => (((![V0 (Proc.devRef .tc main_v16_2), constantI S_ 32 0#32, constantI S_ 32 0#32, constantI S_ 32 0#32] : Fin 4 → (⟨S_, .i32⟩ : BufTy).Contents (Elt F))) k (Shape.Idx.first h_S_)).toInt) sliceFits_S255x128x50x50_S1x128x50x50 := by
  unfold val1
  simp only [trip_w0]
  after_results_entrywise [val0_main_v16_2, val0_main_v16_0, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v73]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v16_0 (V0 : Valuation τ sig (Elt F)) : val2 V0 (no_index (Proc.devRef .tc main_v16_0)) = V0 (Proc.devRef .tc main_v16_0) :=
  (val2_keep V0 main_v16_0 (by decide)).trans (val1_main_v16_0 V0)
theorem val2_main_v16_2 (V0 : Valuation τ sig (Elt F)) : val2 V0 (no_index (Proc.devRef .tc main_v16_2)) = V0 (Proc.devRef .tc main_v16_2) :=
  (val2_keep V0 main_v16_2 (by decide)).trans (val1_main_v16_2 V0)
theorem val2_main_v16_1 (V0 : Valuation τ sig (Elt F)) : val2 V0 (no_index (Proc.devRef .tc main_v16_1)) = V0 (Proc.devRef .tc main_v16_1) :=
  (val2_keep V0 main_v16_1 (by decide)).trans (val1_main_v16_1 V0)
theorem val2_main_v16_3 (V0 : Valuation τ sig (Elt F)) : val2 V0 (no_index (Proc.devRef .tc main_v16_3)) = V0 (Proc.devRef .tc main_v16_3) :=
  (val2_keep V0 main_v16_3 (by decide)).trans (val1_main_v16_3 V0)
set_option maxRecDepth 8192 in
theorem val2_main_while0b_v73 (V0 : Valuation τ sig (Elt F)) : val2 V0 (no_index (Proc.devRef .tc main_while0b_v73)) = shapeCast S128x50x50 (Host.dynamicSlice S1x128x50x50 (V0 (Proc.devRef .tc main_v16_0)) (fun k => (((![V0 (Proc.devRef .tc main_v16_2), constantI S_ 32 0#32, constantI S_ 32 0#32, constantI S_ 32 0#32] : Fin 4 → (⟨S_, .i32⟩ : BufTy).Contents (Elt F))) k (Shape.Idx.first h_S_)).toInt) sliceFits_S255x128x50x50_S1x128x50x50) shapeCasts_S1x128x50x50_S128x50x50 := by
  unfold val2
  simp only [trip_w1]
  after_results_entrywise [val1_main_while0b_call0_v0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_call1_c, main_while0b_call1_v0]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v16_0 (V0 : Valuation τ sig (Elt F)) : val3 V0 (no_index (Proc.devRef .tc main_v16_0)) = V0 (Proc.devRef .tc main_v16_0) :=
  (val3_keep V0 main_v16_0 (by decide)).trans (val2_main_v16_0 V0)
theorem val3_main_v16_2 (V0 : Valuation τ sig (Elt F)) : val3 V0 (no_index (Proc.devRef .tc main_v16_2)) = V0 (Proc.devRef .tc main_v16_2) :=
  (val3_keep V0 main_v16_2 (by decide)).trans (val2_main_v16_2 V0)
theorem val3_main_v16_1 (V0 : Valuation τ sig (Elt F)) : val3 V0 (no_index (Proc.devRef .tc main_v16_1)) = V0 (Proc.devRef .tc main_v16_1) :=
  (val3_keep V0 main_v16_1 (by decide)).trans (val2_main_v16_1 V0)
theorem val3_main_v16_3 (V0 : Valuation τ sig (Elt F)) : val3 V0 (no_index (Proc.devRef .tc main_v16_3)) = V0 (Proc.devRef .tc main_v16_3) :=
  (val3_keep V0 main_v16_3 (by decide)).trans (val2_main_v16_3 V0)
theorem val3_main_while0b_v73 (V0 : Valuation τ sig (Elt F)) : val3 V0 (no_index (Proc.devRef .tc main_while0b_v73)) = shapeCast S128x50x50 (Host.dynamicSlice S1x128x50x50 (V0 (Proc.devRef .tc main_v16_0)) (fun k => (((![V0 (Proc.devRef .tc main_v16_2), constantI S_ 32 0#32, constantI S_ 32 0#32, constantI S_ 32 0#32] : Fin 4 → (⟨S_, .i32⟩ : BufTy).Contents (Elt F))) k (Shape.Idx.first h_S_)).toInt) sliceFits_S255x128x50x50_S1x128x50x50) shapeCasts_S1x128x50x50_S128x50x50 :=
  (val3_keep V0 main_while0b_v73 (by decide)).trans (val2_main_while0b_v73 V0)
set_option maxRecDepth 8192 in
theorem val3_main_while0b_call1_v0 (V0 : Valuation τ sig (Elt F)) : val3 V0 (no_index (Proc.devRef .tc main_while0b_call1_v0)) = Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128 := by
  unfold val3
  simp only [trip_w2]
  after_results_entrywise [val2_main_v16_2, val2_main_v16_1, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v74]
set_option maxRecDepth 8192 in
theorem trip_w3_writes : (trip_w3 : List (HloOp τ sig (Elt F))).Forall fun op => op.writes ⊆ (trip_w3_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v16_0 (V0 : Valuation τ sig (Elt F)) : val4 V0 (no_index (Proc.devRef .tc main_v16_0)) = V0 (Proc.devRef .tc main_v16_0) :=
  (val4_keep V0 main_v16_0 (by decide)).trans (val3_main_v16_0 V0)
theorem val4_main_v16_2 (V0 : Valuation τ sig (Elt F)) : val4 V0 (no_index (Proc.devRef .tc main_v16_2)) = V0 (Proc.devRef .tc main_v16_2) :=
  (val4_keep V0 main_v16_2 (by decide)).trans (val3_main_v16_2 V0)
theorem val4_main_v16_1 (V0 : Valuation τ sig (Elt F)) : val4 V0 (no_index (Proc.devRef .tc main_v16_1)) = V0 (Proc.devRef .tc main_v16_1) :=
  (val4_keep V0 main_v16_1 (by decide)).trans (val3_main_v16_1 V0)
theorem val4_main_v16_3 (V0 : Valuation τ sig (Elt F)) : val4 V0 (no_index (Proc.devRef .tc main_v16_3)) = V0 (Proc.devRef .tc main_v16_3) :=
  (val4_keep V0 main_v16_3 (by decide)).trans (val3_main_v16_3 V0)
theorem val4_main_while0b_v73 (V0 : Valuation τ sig (Elt F)) : val4 V0 (no_index (Proc.devRef .tc main_while0b_v73)) = shapeCast S128x50x50 (Host.dynamicSlice S1x128x50x50 (V0 (Proc.devRef .tc main_v16_0)) (fun k => (((![V0 (Proc.devRef .tc main_v16_2), constantI S_ 32 0#32, constantI S_ 32 0#32, constantI S_ 32 0#32] : Fin 4 → (⟨S_, .i32⟩ : BufTy).Contents (Elt F))) k (Shape.Idx.first h_S_)).toInt) sliceFits_S255x128x50x50_S1x128x50x50) shapeCasts_S1x128x50x50_S128x50x50 :=
  (val4_keep V0 main_while0b_v73 (by decide)).trans (val3_main_while0b_v73 V0)
set_option maxRecDepth 8192 in
theorem val4_main_while0b_v74 (V0 : Valuation τ sig (Elt F)) : val4 V0 (no_index (Proc.devRef .tc main_while0b_v74)) = shapeCast S128 (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128) shapeCasts_S1x128_S128 := by
  unfold val4
  simp only [trip_w3]
  after_results_entrywise [val3_main_while0b_call1_v0, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v75, main_while0b_v76, main_while0b_v77, main_while0b_cst_13, main_while0b_v78, main_while0b_v79, main_while0b_v80, main_while0b_v81, main_while0b_v82, main_while0b_cst_14, main_while0b_v83, main_while0b_v84, main_while0b_v85, main_while0b_v86]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v16_0 (V0 : Valuation τ sig (Elt F)) : val5 V0 (no_index (Proc.devRef .tc main_v16_0)) = V0 (Proc.devRef .tc main_v16_0) :=
  (val5_keep V0 main_v16_0 (by decide)).trans (val4_main_v16_0 V0)
theorem val5_main_v16_2 (V0 : Valuation τ sig (Elt F)) : val5 V0 (no_index (Proc.devRef .tc main_v16_2)) = V0 (Proc.devRef .tc main_v16_2) :=
  (val5_keep V0 main_v16_2 (by decide)).trans (val4_main_v16_2 V0)
theorem val5_main_v16_1 (V0 : Valuation τ sig (Elt F)) : val5 V0 (no_index (Proc.devRef .tc main_v16_1)) = V0 (Proc.devRef .tc main_v16_1) :=
  (val5_keep V0 main_v16_1 (by decide)).trans (val4_main_v16_1 V0)
theorem val5_main_v16_3 (V0 : Valuation τ sig (Elt F)) : val5 V0 (no_index (Proc.devRef .tc main_v16_3)) = V0 (Proc.devRef .tc main_v16_3) :=
  (val5_keep V0 main_v16_3 (by decide)).trans (val4_main_v16_3 V0)
set_option maxRecDepth 8192 in
set_option maxHeartbeats 1400000 in
theorem val5_main_while0b_v85 (V0 : Valuation τ sig (Elt F)) : val5 V0 (no_index (Proc.devRef .tc main_while0b_v85)) = addf (Host.log (Host.reduceAdd (Host.exp (subf (res_main_while0b_v77 V0) (broadcastInDim S128x50x50 ![0, 1, 2] bcast_S128x1x50_S128x50x50_0_1_2 (broadcastInDim S128x1x50 ![0, 2] bcast_S128x50_S128x1x50_0_2 (res_main_while0b_v78 V0))))) (constant S_ .f32 0x00000000#32) reducesTo_S128x50x50_S128x50_d1 h_S_)) (res_main_while0b_v78 V0) := by
  unfold val5
  simp only [trip_w4]
  after_results_entrywise [val4_main_v16_3, val4_main_while0b_v73, res_main_while0b_v77, res_main_while0b_v78, cast_eq]
set_option maxRecDepth 8192 in
set_option maxHeartbeats 1400000 in
theorem val5_main_while0b_v86 (V0 : Valuation τ sig (Elt F)) : val5 V0 (no_index (Proc.devRef .tc main_while0b_v86)) = broadcastInDim S128x1 ![0] bcast_S128_S128x1_0 (shapeCast S128 (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128) shapeCasts_S1x128_S128) := by
  unfold val5
  simp only [trip_w4]
  after_results_entrywise [val4_main_while0b_v74, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_call2_v0, main_while0b_v87]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v16_0 (V0 : Valuation τ sig (Elt F)) : val6 V0 (no_index (Proc.devRef .tc main_v16_0)) = V0 (Proc.devRef .tc main_v16_0) :=
  (val6_keep V0 main_v16_0 (by decide)).trans (val5_main_v16_0 V0)
theorem val6_main_v16_2 (V0 : Valuation τ sig (Elt F)) : val6 V0 (no_index (Proc.devRef .tc main_v16_2)) = V0 (Proc.devRef .tc main_v16_2) :=
  (val6_keep V0 main_v16_2 (by decide)).trans (val5_main_v16_2 V0)
theorem val6_main_v16_1 (V0 : Valuation τ sig (Elt F)) : val6 V0 (no_index (Proc.devRef .tc main_v16_1)) = V0 (Proc.devRef .tc main_v16_1) :=
  (val6_keep V0 main_v16_1 (by decide)).trans (val5_main_v16_1 V0)
theorem val6_main_v16_3 (V0 : Valuation τ sig (Elt F)) : val6 V0 (no_index (Proc.devRef .tc main_v16_3)) = V0 (Proc.devRef .tc main_v16_3) :=
  (val6_keep V0 main_v16_3 (by decide)).trans (val5_main_v16_3 V0)
set_option maxRecDepth 8192 in
theorem val6_main_while0b_v87 (V0 : Valuation τ sig (Elt F)) : val6 V0 (no_index (Proc.devRef .tc main_while0b_v87)) = select (broadcastInDim S128x50 ![0, 1] bcast_S128x1_S128x50_0_1 (broadcastInDim S128x1 ![0] bcast_S128_S128x1_0 (shapeCast S128 (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128) shapeCasts_S1x128_S128))) (addf (Host.log (Host.reduceAdd (Host.exp (subf (res_main_while0b_v77 V0) (broadcastInDim S128x50x50 ![0, 1, 2] bcast_S128x1x50_S128x50x50_0_1_2 (broadcastInDim S128x1x50 ![0, 2] bcast_S128x50_S128x1x50_0_2 (res_main_while0b_v78 V0))))) (constant S_ .f32 0x00000000#32) reducesTo_S128x50x50_S128x50_d1 h_S_)) (res_main_while0b_v78 V0)) (V0 (Proc.devRef .tc main_v16_3)) := by
  unfold val6
  simp only [trip_w5]
  after_results_entrywise [val5_main_v16_3, val5_main_while0b_v85, val5_main_while0b_v86, cast_eq]

set_option maxRecDepth 8192 in
/-- The body's stretches before `while0Ops0_4`, from any contents: their windows in order. -/
theorem trip_windows (V0 : Valuation τ sig (Elt F)) : after while0Ops0_3 (after while0Ops0_2 (after while0Ops0_1 (after while0Ops0 (V0)))) = val6 V0 := by
  simp only [while0Ops0_cut, while0Ops0_1_cut, while0Ops0_2_cut, while0Ops0_3_cut, after_append]
  rfl

set_option maxRecDepth 8192 in
set_option maxHeartbeats 2000000 in
/-- `main_v16_0` after one trip's body, from any contents. -/
theorem trip_main_v16_0 (V0 : Valuation τ sig (Elt F)) : afterL bodyI V0 (no_index (Proc.devRef .tc main_v16_0)) = V0 (Proc.devRef .tc main_v16_0) := by
  simp only [bodyI, afterL_cons, afterL_nil, trip_windows]
  after_results
  all_goals (try simp only [val6_main_while0b_v87, val6_main_v16_0, val6_main_v16_1, val6_main_v16_2, val6_main_v16_3]) <;> rfl
set_option maxRecDepth 8192 in
set_option maxHeartbeats 2000000 in
/-- `main_v16_1` after one trip's body, from any contents. -/
theorem trip_main_v16_1 (V0 : Valuation τ sig (Elt F)) : afterL bodyI V0 (no_index (Proc.devRef .tc main_v16_1)) = V0 (Proc.devRef .tc main_v16_1) := by
  simp only [bodyI, afterL_cons, afterL_nil, trip_windows]
  after_results
  all_goals (try simp only [val6_main_while0b_v87, val6_main_v16_0, val6_main_v16_1, val6_main_v16_2, val6_main_v16_3]) <;> rfl
set_option maxRecDepth 8192 in
set_option maxHeartbeats 2000000 in
/-- `main_v16_2` after one trip's body, from any contents. -/
theorem trip_main_v16_2 (V0 : Valuation τ sig (Elt F)) : afterL bodyI V0 (no_index (Proc.devRef .tc main_v16_2)) = id (addi (V0 (Proc.devRef .tc main_v16_2)) (constantI S_ 32 1#32)) := by
  simp only [bodyI, afterL_cons, afterL_nil, trip_windows]
  after_results
  all_goals (try simp only [val6_main_while0b_v87, val6_main_v16_0, val6_main_v16_1, val6_main_v16_2, val6_main_v16_3]) <;> rfl
set_option maxRecDepth 8192 in
set_option maxHeartbeats 2000000 in
/-- `main_v16_3` after one trip's body, from any contents. -/
theorem trip_main_v16_3 (V0 : Valuation τ sig (Elt F)) : afterL bodyI V0 (no_index (Proc.devRef .tc main_v16_3)) = id (select (broadcastInDim S128x50 ![0, 1] bcast_S128x1_S128x50_0_1 (broadcastInDim S128x1 ![0] bcast_S128_S128x1_0 (shapeCast S128 (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128) shapeCasts_S1x128_S128))) (addf (Host.log (Host.reduceAdd (Host.exp (subf (res_main_while0b_v77 V0) (broadcastInDim S128x50x50 ![0, 1, 2] bcast_S128x1x50_S128x50x50_0_1_2 (broadcastInDim S128x1x50 ![0, 2] bcast_S128x50_S128x1x50_0_2 (res_main_while0b_v78 V0))))) (constant S_ .f32 0x00000000#32) reducesTo_S128x50x50_S128x50_d1 h_S_)) (res_main_while0b_v78 V0)) (V0 (Proc.devRef .tc main_v16_3))) := by
  simp only [bodyI, afterL_cons, afterL_nil, trip_windows]
  after_results
  all_goals (try simp only [val6_main_while0b_v87, val6_main_v16_0, val6_main_v16_1, val6_main_v16_2, val6_main_v16_3]) <;> rfl

/-- The loop's carried buffers. -/
abbrev carriedRefs : List (Ref sig .tc) := [main_v16_0, main_v16_1, main_v16_2, main_v16_3]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v77_congr {V0 V0' : Valuation τ sig (Elt F)} (h : Agree V0 V0') : res_main_while0b_v77 V0 = res_main_while0b_v77 V0' := by
  unfold res_main_while0b_v77
  rw [h main_v16_0 (by decide), h main_v16_2 (by decide), h main_v16_3 (by decide)]
set_option maxRecDepth 8192 in
theorem res_main_while0b_v78_congr {V0 V0' : Valuation τ sig (Elt F)} (h : Agree V0 V0') : res_main_while0b_v78 V0 = res_main_while0b_v78 V0' := by
  unfold res_main_while0b_v78
  rw [res_main_while0b_v77_congr h]

set_option maxRecDepth 8192 in
/-- `main_v16_2` after one trip, of the contents before it. -/
def step_main_v16_2 (V0 : Valuation τ sig (Elt F)) : (Proc.devRef .tc main_v16_2 : DevRef τ sig).ty.Contents (Elt F) :=
  id (addi (V0 (Proc.devRef .tc main_v16_2)) (constantI S_ 32 1#32))
set_option maxRecDepth 8192 in
theorem step_main_v16_2_congr {V0 V0' : Valuation τ sig (Elt F)} (h : Agree V0 V0') : step_main_v16_2 V0 = step_main_v16_2 V0' := by
  unfold step_main_v16_2
  rw [h main_v16_2 (by decide)]
set_option maxRecDepth 8192 in
/-- `main_v16_3` after one trip, of the contents before it. -/
def step_main_v16_3 (V0 : Valuation τ sig (Elt F)) : (Proc.devRef .tc main_v16_3 : DevRef τ sig).ty.Contents (Elt F) :=
  id (select (broadcastInDim S128x50 ![0, 1] bcast_S128x1_S128x50_0_1 (broadcastInDim S128x1 ![0] bcast_S128_S128x1_0 (shapeCast S128 (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128) shapeCasts_S1x128_S128))) (addf (Host.log (Host.reduceAdd (Host.exp (subf (res_main_while0b_v77 V0) (broadcastInDim S128x50x50 ![0, 1, 2] bcast_S128x1x50_S128x50x50_0_1_2 (broadcastInDim S128x1x50 ![0, 2] bcast_S128x50_S128x1x50_0_2 (res_main_while0b_v78 V0))))) (constant S_ .f32 0x00000000#32) reducesTo_S128x50x50_S128x50_d1 h_S_)) (res_main_while0b_v78 V0)) (V0 (Proc.devRef .tc main_v16_3)))
set_option maxRecDepth 8192 in
theorem step_main_v16_3_congr {V0 V0' : Valuation τ sig (Elt F)} (h : Agree V0 V0') : step_main_v16_3 V0 = step_main_v16_3 V0' := by
  unfold step_main_v16_3
  rw [res_main_while0b_v77_congr h, res_main_while0b_v78_congr h, h main_v16_1 (by decide), h main_v16_2 (by decide), h main_v16_3 (by decide)]

/-- ONE TRIP on the carried buffers: the buffers the body writes step, everything else is as it was. -/
def STEP (V0 : Valuation τ sig (Elt F)) : Valuation τ sig (Elt F) :=
  Function.update (Function.update (V0) (Proc.devRef .tc main_v16_2) (step_main_v16_2 V0)) (Proc.devRef .tc main_v16_3) (step_main_v16_3 V0)

theorem STEP_main_v16_0 (V0 : Valuation τ sig (Elt F)) : STEP V0 (Proc.devRef .tc main_v16_0) = V0 (Proc.devRef .tc main_v16_0) := by
  unfold STEP; rw [Function.update_of_ne (devRef_ne_of_ne (by decide))]; rw [Function.update_of_ne (devRef_ne_of_ne (by decide))]
theorem STEP_main_v16_1 (V0 : Valuation τ sig (Elt F)) : STEP V0 (Proc.devRef .tc main_v16_1) = V0 (Proc.devRef .tc main_v16_1) := by
  unfold STEP; rw [Function.update_of_ne (devRef_ne_of_ne (by decide))]; rw [Function.update_of_ne (devRef_ne_of_ne (by decide))]
theorem STEP_main_v16_2 (V0 : Valuation τ sig (Elt F)) : STEP V0 (Proc.devRef .tc main_v16_2) = step_main_v16_2 V0 := by
  unfold STEP; rw [Function.update_of_ne (devRef_ne_of_ne (by decide))]; rw [Function.update_self]
theorem STEP_main_v16_3 (V0 : Valuation τ sig (Elt F)) : STEP V0 (Proc.devRef .tc main_v16_3) = step_main_v16_3 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v16_0 (after condOps X)).trans ((hc main_v16_0 (by decide)).trans (STEP_main_v16_0 X).symm)
  · exact (trip_main_v16_1 (after condOps X)).trans ((hc main_v16_1 (by decide)).trans (STEP_main_v16_1 X).symm)
  · exact (trip_main_v16_2 (after condOps X)).trans ((step_main_v16_2_congr hc).trans (STEP_main_v16_2 X).symm)
  · exact (trip_main_v16_3 (after condOps X)).trans ((step_main_v16_3_congr hc).trans (STEP_main_v16_3 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v16_0, STEP_main_v16_0]; exact h main_v16_0 (by decide)
  · rw [STEP_main_v16_1, STEP_main_v16_1]; exact h main_v16_1 (by decide)
  · rw [STEP_main_v16_2, STEP_main_v16_2]; exact step_main_v16_2_congr h
  · rw [STEP_main_v16_3, STEP_main_v16_3]; exact step_main_v16_3_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
theorem keep_main_arg0_hostOps0_6 (V : Valuation τ sig (Elt F)) : after hostOps0_6 V (Proc.devRef .tc main_arg0) = V (Proc.devRef .tc main_arg0) :=
  after_of_writes_sub hostOps0_6 V hostOps0_6_writes (by decide +kernel)
theorem keep_main_arg0_hostOps0_7 (V : Valuation τ sig (Elt F)) : after hostOps0_7 V (Proc.devRef .tc main_arg0) = V (Proc.devRef .tc main_arg0) :=
  after_of_writes_sub hostOps0_7 V hostOps0_7_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
theorem keep_main_arg1_hostOps0_5 (V : Valuation τ sig (Elt F)) : after hostOps0_5 V (Proc.devRef .tc main_arg1) = V (Proc.devRef .tc main_arg1) :=
  after_of_writes_sub hostOps0_5 V hostOps0_5_writes (by decide +kernel)
theorem keep_main_arg1_hostOps0_6 (V : Valuation τ sig (Elt F)) : after hostOps0_6 V (Proc.devRef .tc main_arg1) = V (Proc.devRef .tc main_arg1) :=
  after_of_writes_sub hostOps0_6 V hostOps0_6_writes (by decide +kernel)
theorem keep_main_arg1_hostOps0_7 (V : Valuation τ sig (Elt F)) : after hostOps0_7 V (Proc.devRef .tc main_arg1) = V (Proc.devRef .tc main_arg1) :=
  after_of_writes_sub hostOps0_7 V hostOps0_7_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_4, keep_main_arg1_while0Ops0_3, keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_while0Ops0_4 (V : Valuation τ sig (Elt F)) : after while0Ops0_4 V (Proc.devRef .tc main_arg2) = V (Proc.devRef .tc main_arg2) :=
  after_of_writes_sub while0Ops0_4 V while0Ops0_4_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
theorem keep_main_arg2_hostOps0_4 (V : Valuation τ sig (Elt F)) : after hostOps0_4 V (Proc.devRef .tc main_arg2) = V (Proc.devRef .tc main_arg2) :=
  after_of_writes_sub hostOps0_4 V hostOps0_4_writes (by decide +kernel)
theorem keep_main_arg2_hostOps0_5 (V : Valuation τ sig (Elt F)) : after hostOps0_5 V (Proc.devRef .tc main_arg2) = V (Proc.devRef .tc main_arg2) :=
  after_of_writes_sub hostOps0_5 V hostOps0_5_writes (by decide +kernel)
theorem keep_main_arg2_hostOps0_6 (V : Valuation τ sig (Elt F)) : after hostOps0_6 V (Proc.devRef .tc main_arg2) = V (Proc.devRef .tc main_arg2) :=
  after_of_writes_sub hostOps0_6 V hostOps0_6_writes (by decide +kernel)
theorem keep_main_arg2_hostOps0_7 (V : Valuation τ sig (Elt F)) : after hostOps0_7 V (Proc.devRef .tc main_arg2) = V (Proc.devRef .tc main_arg2) :=
  after_of_writes_sub hostOps0_7 V hostOps0_7_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0]
  | k + 1 => by
    rw [show atK m (k + 1) c = afterL bodyI (after condOps (atK m k c)) from rfl]
    simp only [afterL_cons, afterL_nil]
    rw [keep_main_arg2_while0Ops0_4, keep_main_arg2_while0Ops0_3, keep_main_arg2_while0Ops0_2, keep_main_arg2_while0Ops0_1, keep_main_arg2_while0Ops0, keep_main_arg2_condOps, atK_main_arg2 c k]

theorem keep_main_arg3_hostOps0 (V : Valuation τ sig (Elt F)) : after hostOps0 V (Proc.devRef .tc main_arg3) = V (Proc.devRef .tc main_arg3) :=
  after_of_writes_sub hostOps0 V hostOps0_writes (by decide +kernel)
theorem keep_main_arg3_condOps (V : Valuation τ sig (Elt F)) : after condOps V (Proc.devRef .tc main_arg3) = V (Proc.devRef .tc main_arg3) :=
  after_of_writes_sub condOps V condOps_writes (by decide +kernel)
theorem keep_main_arg3_while0Ops0 (V : Valuation τ sig (Elt F)) : after while0Ops0 V (Proc.devRef .tc main_arg3) = V (Proc.devRef .tc main_arg3) :=
  after_of_writes_sub while0Ops0 V while0Ops0_writes (by decide +kernel)
theorem keep_main_arg3_while0Ops0_1 (V : Valuation τ sig (Elt F)) : after while0Ops0_1 V (Proc.devRef .tc main_arg3) = V (Proc.devRef .tc main_arg3) :=
  after_of_writes_sub while0Ops0_1 V while0Ops0_1_writes (by decide +kernel)
theorem keep_main_arg3_while0Ops0_2 (V : Valuation τ sig (Elt F)) : after while0Ops0_2 V (Proc.devRef .tc main_arg3) = V (Proc.devRef .tc main_arg3) :=
  after_of_writes_sub while0Ops0_2 V while0Ops0_2_writes (by decide +kernel)
theorem keep_main_arg3_while0Ops0_3 (V : Valuation τ sig (Elt F)) : after while0Ops0_3 V (Proc.devRef .tc main_arg3) = V (Proc.devRef .tc main_arg3) :=
  after_of_writes_sub while0Ops0_3 V while0Ops0_3_writes (by decide +kernel)
theorem keep_main_arg3_while0Ops0_4 (V : Valuation τ sig (Elt F)) : after while0Ops0_4 V (Proc.devRef .tc main_arg3) = V (Proc.devRef .tc main_arg3) :=
  after_of_writes_sub while0Ops0_4 V while0Ops0_4_writes (by decide +kernel)
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
theorem keep_main_arg3_hostOps0_2 (V : Valuation τ sig (Elt F)) : after hostOps0_2 V (Proc.devRef .tc main_arg3) = V (Proc.devRef .tc main_arg3) :=
  after_of_writes_sub hostOps0_2 V hostOps0_2_writes (by decide +kernel)
theorem keep_main_arg3_hostOps0_3 (V : Valuation τ sig (Elt F)) : after hostOps0_3 V (Proc.devRef .tc main_arg3) = V (Proc.devRef .tc main_arg3) :=
  after_of_writes_sub hostOps0_3 V hostOps0_3_writes (by decide +kernel)
theorem keep_main_arg3_hostOps0_4 (V : Valuation τ sig (Elt F)) : after hostOps0_4 V (Proc.devRef .tc main_arg3) = V (Proc.devRef .tc main_arg3) :=
  after_of_writes_sub hostOps0_4 V hostOps0_4_writes (by decide +kernel)
theorem keep_main_arg3_hostOps0_5 (V : Valuation τ sig (Elt F)) : after hostOps0_5 V (Proc.devRef .tc main_arg3) = V (Proc.devRef .tc main_arg3) :=
  after_of_writes_sub hostOps0_5 V hostOps0_5_writes (by decide +kernel)
theorem keep_main_arg3_hostOps0_6 (V : Valuation τ sig (Elt F)) : after hostOps0_6 V (Proc.devRef .tc main_arg3) = V (Proc.devRef .tc main_arg3) :=
  after_of_writes_sub hostOps0_6 V hostOps0_6_writes (by decide +kernel)
theorem keep_main_arg3_hostOps0_7 (V : Valuation τ sig (Elt F)) : after hostOps0_7 V (Proc.devRef .tc main_arg3) = V (Proc.devRef .tc main_arg3) :=
  after_of_writes_sub hostOps0_7 V hostOps0_7_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0]
  | k + 1 => by
    rw [show atK m (k + 1) c = afterL bodyI (after condOps (atK m k c)) from rfl]
    simp only [afterL_cons, afterL_nil]
    rw [keep_main_arg3_while0Ops0_4, keep_main_arg3_while0Ops0_3, keep_main_arg3_while0Ops0_2, keep_main_arg3_while0Ops0_1, keep_main_arg3_while0Ops0, keep_main_arg3_condOps, atK_main_arg3 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_7, keep_main_arg0_hostOps0_6, keep_main_arg0_hostOps0_5, keep_main_arg0_hostOps0_4, keep_main_arg0_hostOps0_3, keep_main_arg0_hostOps0_2, keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_7, keep_main_arg1_hostOps0_6, keep_main_arg1_hostOps0_5, keep_main_arg1_hostOps0_4, keep_main_arg1_hostOps0_3, keep_main_arg1_hostOps0_2, keep_main_arg1_hostOps0_1]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_7, keep_main_arg2_hostOps0_6, keep_main_arg2_hostOps0_5, keep_main_arg2_hostOps0_4, keep_main_arg2_hostOps0_3, keep_main_arg2_hostOps0_2, keep_main_arg2_hostOps0_1]
/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_7, keep_main_arg3_hostOps0_6, keep_main_arg3_hostOps0_5, keep_main_arg3_hostOps0_4, keep_main_arg3_hostOps0_3, keep_main_arg3_hostOps0_2, keep_main_arg3_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; exact iter_main_arg2 c k
/-- `STEP` iterated on the loop's entry leaves the argument `main_arg3` as the launch has it. -/
theorem iter_main_arg3 (c : Dev nD) : ∀ k, (STEP^[k] (entryContents preI m c)) (Proc.devRef .tc main_arg3) = m ((c.tc : Thread nD τ).loc main_arg3)
  | 0 => by rw [Function.iterate_zero, id_eq, ← atTrip_zero condOps bodyI (entryContents preI m)]; exact atK_main_arg3 m c 0
  | k + 1 => by
    rw [Function.iterate_succ_apply']
    unfold STEP; rw [Function.update_of_ne (devRef_ne_of_ne (by decide))]; rw [Function.update_of_ne (devRef_ne_of_ne (by decide))]; exact iter_main_arg3 c k

end Cert.ReferenceIdeal.Value

end
-- ==== Proof.Ref.RunB.lean ====
module

public import proofs.«01_k».proof.Proof.Ref.RunA
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-!
The reference program's run: its result as the operations after the loop make it of the loop's final contents.
-/

@[expose] public section

set_option maxRecDepth 1088

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

set_option maxRecDepth 8192 in
/-- `main_v72`, which the operations after the loop make, of the contents they start from. -/
def out_main_v72 (V0 : Valuation τ sig (Elt F)) : (Proc.devRef .tc main_v72 : DevRef τ sig).ty.Contents (Elt F) :=
  shapeCast _ (subf (Host.reduceAdd (shapeCast _ (extractStridedSlice S128x1 ![0, 49] (addf (Host.log (Host.reduceAdd (Host.exp (subf (addf (broadcastInDim S128x50x50 ![0, 1, 2] bcast_S1x50x50_S128x50x50_0_1_2 (broadcastInDim S1x50x50 ![1, 2] bcast_S50x50_S1x50x50_1_2 (V0 (Proc.devRef .tc main_arg3)))) (broadcastInDim S128x50x50 ![0, 1, 2] bcast_S128x50x1_S128x50x50_0_1_2 (broadcastInDim S128x50x1 ![0, 1] bcast_S128x50_S128x50x1_0_1 (V0 (Proc.devRef .tc main_v16_3))))) (broadcastInDim S128x50x50 ![0, 1, 2] bcast_S128x1x50_S128x50x50_0_1_2 (broadcastInDim S128x1x50 ![0, 2] bcast_S128x50_S128x1x50_0_2 (Host.reduce FloatOps.maximumf (addf (broadcastInDim S128x50x50 ![0, 1, 2] bcast_S1x50x50_S128x50x50_0_1_2 (broadcastInDim S1x50x50 ![1, 2] bcast_S50x50_S1x50x50_1_2 (V0 (Proc.devRef .tc main_arg3)))) (broadcastInDim S128x50x50 ![0, 1, 2] bcast_S128x50x1_S128x50x50_0_1_2 (broadcastInDim S128x50x1 ![0, 1] bcast_S128x50_S128x50x1_0_1 (V0 (Proc.devRef .tc main_v16_3))))) (constant S_ .f32 0xFF800000#32) reducesTo_S128x50x50_S128x50_d1 h_S_))))) (constant S_ .f32 0x00000000#32) reducesTo_S128x50x50_S128x50_d1 h_S_)) (Host.reduce FloatOps.maximumf (addf (broadcastInDim S128x50x50 ![0, 1, 2] bcast_S1x50x50_S128x50x50_0_1_2 (broadcastInDim S1x50x50 ![1, 2] bcast_S50x50_S1x50x50_1_2 (V0 (Proc.devRef .tc main_arg3)))) (broadcastInDim S128x50x50 ![0, 1, 2] bcast_S128x50x1_S128x50x50_0_1_2 (broadcastInDim S128x50x1 ![0, 1] bcast_S128x50_S128x50x1_0_1 (V0 (Proc.devRef .tc main_v16_3))))) (constant S_ .f32 0xFF800000#32) reducesTo_S128x50x50_S128x50_d1 h_S_)) slices_S128x50_S128x1_0_49) shapeCasts_S128x1_S128) (constant S_ .f32 0x00000000#32) reducesTo_S128_S_d0 h_S_) (addf (Host.reduceAdd (mulf (shapeCast _ (Host.gather gather_S256x128x2500_S256x128x1x1_S256x128x1_n_2_01_01_2_3_111 (shapeCast _ (addf (broadcastInDim S256x128x50x50 ![0, 1, 2, 3] bcast_S256x128x1x50_S256x128x50x50_0_1_2_3 (broadcastInDim S256x128x1x50 ![0, 1, 3] bcast_S256x128x50_S256x128x1x50_0_1_3 (transpose S256x128x50 [1, 0, 2] (V0 (Proc.devRef .tc main_arg0)) transposes_S128x256x50_S256x128x50_1_0_2))) (broadcastInDim S256x128x50x50 ![0, 1, 2, 3] bcast_S1x1x50x50_S256x128x50x50_0_1_2_3 (broadcastInDim S1x1x50x50 ![2, 3] bcast_S50x50_S1x1x50x50_2_3 (V0 (Proc.devRef .tc main_arg3))))) shapeCasts_S256x128x50x50_S256x128x2500) (shapeCast S256x128x1x1 (select (cmpi .slt (broadcastInDim S256x128x1 ![0, 1] bcast_S256x128_S256x128x1_0_1 (transpose S256x128 [1, 0] (concatenate S128x256 1 [⟨S128x1, (addi (broadcastInDim S128x1 ![] bcast_S_S128x1 (constantI S_ 32 2400#32)) (extractStridedSlice S128x1 ![0, 0] (V0 (Proc.devRef .tc main_arg2)) slices_S128x256_S128x1_0_0))⟩, ⟨S128x255, (addi (muli (extractStridedSlice S128x255 ![0, 0] (V0 (Proc.devRef .tc main_arg2)) slices_S128x256_S128x255_0_0) (broadcastInDim S128x255 ![] bcast_S_S128x255 (constantI S_ 32 50#32))) (extractStridedSlice S128x255 ![0, 1] (V0 (Proc.devRef .tc main_arg2)) slices_S128x256_S128x255_0_1))⟩] concatenates_S128x1_S128x255_S128x256_d1) transposes_S128x256_S256x128_1_0)) (broadcastInDim S256x128x1 ![] bcast_S_S256x128x1 (constantI S_ 32 0#32))) (addi (broadcastInDim S256x128x1 ![0, 1] bcast_S256x128_S256x128x1_0_1 (transpose S256x128 [1, 0] (concatenate S128x256 1 [⟨S128x1, (addi (broadcastInDim S128x1 ![] bcast_S_S128x1 (constantI S_ 32 2400#32)) (extractStridedSlice S128x1 ![0, 0] (V0 (Proc.devRef .tc main_arg2)) slices_S128x256_S128x1_0_0))⟩, ⟨S128x255, (addi (muli (extractStridedSlice S128x255 ![0, 0] (V0 (Proc.devRef .tc main_arg2)) slices_S128x256_S128x255_0_0) (broadcastInDim S128x255 ![] bcast_S_S128x255 (constantI S_ 32 50#32))) (extractStridedSlice S128x255 ![0, 1] (V0 (Proc.devRef .tc main_arg2)) slices_S128x256_S128x255_0_1))⟩] concatenates_S128x1_S128x255_S128x256_d1) transposes_S128x256_S256x128_1_0)) (broadcastInDim S256x128x1 ![] bcast_S_S256x128x1 (constantI S_ 32 2500#32))) (broadcastInDim S256x128x1 ![0, 1] bcast_S256x128_S256x128x1_0_1 (transpose S256x128 [1, 0] (concatenate S128x256 1 [⟨S128x1, (addi (broadcastInDim S128x1 ![] bcast_S_S128x1 (constantI S_ 32 2400#32)) (extractStridedSlice S128x1 ![0, 0] (V0 (Proc.devRef .tc main_arg2)) slices_S128x256_S128x1_0_0))⟩, ⟨S128x255, (addi (muli (extractStridedSlice S128x255 ![0, 0] (V0 (Proc.devRef .tc main_arg2)) slices_S128x256_S128x255_0_0) (broadcastInDim S128x255 ![] bcast_S_S128x255 (constantI S_ 32 50#32))) (extractStridedSlice S128x255 ![0, 1] (V0 (Proc.devRef .tc main_arg2)) slices_S128x256_S128x255_0_1))⟩] concatenates_S128x1_S128x255_S128x256_d1) transposes_S128x256_S256x128_1_0))) shapeCasts_S256x128x1_S256x128x1x1)) shapeCasts_S256x128x1_S256x128) (uitofp .f32 (id (cmpi .ne (transpose S256x128 [1, 0] (V0 (Proc.devRef .tc main_arg1)) transposes_S128x256_S256x128_1_0) (broadcastInDim S256x128 ![] bcast_S_S256x128 (constantI S_ 32 0#32)))))) (constant S_ .f32 0x00000000#32) reducesTo_S256x128_S_d0_1 h_S_) (Host.reduceAdd (Host.gather gather_S50_S128x1_S128_n_0_n_n_0_1_1 (shapeCast _ (extractStridedSlice S50x1 ![0, 49] (V0 (Proc.devRef .tc main_arg3)) slices_S50x50_S50x1_0_49) shapeCasts_S50x1_S50) (shapeCast S128x1 (select (cmpi .slt (shapeCast _ (Host.gather gather_S128x256_S128x1x1_S128x1_n_1_0_0_1_2_11 (V0 (Proc.devRef .tc main_arg2)) (shapeCast S128x1x1 (select (cmpi .slt (broadcastInDim S128x1 ![0] bcast_S128_S128x1_0 (subi (Host.reduce IntOp.addi (V0 (Proc.devRef .tc main_arg1)) (constantI S_ 32 0#32) reducesTo_S128x256_S128_d1 h_S_) (broadcastInDim S128 ![] bcast_S_S128 (constantI S_ 32 1#32)))) (broadcastInDim S128x1 ![] bcast_S_S128x1 (constantI S_ 32 0#32))) (addi (broadcastInDim S128x1 ![0] bcast_S128_S128x1_0 (subi (Host.reduce IntOp.addi (V0 (Proc.devRef .tc main_arg1)) (constantI S_ 32 0#32) reducesTo_S128x256_S128_d1 h_S_) (broadcastInDim S128 ![] bcast_S_S128 (constantI S_ 32 1#32)))) (broadcastInDim S128x1 ![] bcast_S_S128x1 (constantI S_ 32 256#32))) (broadcastInDim S128x1 ![0] bcast_S128_S128x1_0 (subi (Host.reduce IntOp.addi (V0 (Proc.devRef .tc main_arg1)) (constantI S_ 32 0#32) reducesTo_S128x256_S128_d1 h_S_) (broadcastInDim S128 ![] bcast_S_S128 (constantI S_ 32 1#32))))) shapeCasts_S128x1_S128x1x1)) shapeCasts_S128x1_S128) (broadcastInDim S128 ![] bcast_S_S128 (constantI S_ 32 0#32))) (addi (shapeCast _ (Host.gather gather_S128x256_S128x1x1_S128x1_n_1_0_0_1_2_11 (V0 (Proc.devRef .tc main_arg2)) (shapeCast S128x1x1 (select (cmpi .slt (broadcastInDim S128x1 ![0] bcast_S128_S128x1_0 (subi (Host.reduce IntOp.addi (V0 (Proc.devRef .tc main_arg1)) (constantI S_ 32 0#32) reducesTo_S128x256_S128_d1 h_S_) (broadcastInDim S128 ![] bcast_S_S128 (constantI S_ 32 1#32)))) (broadcastInDim S128x1 ![] bcast_S_S128x1 (constantI S_ 32 0#32))) (addi (broadcastInDim S128x1 ![0] bcast_S128_S128x1_0 (subi (Host.reduce IntOp.addi (V0 (Proc.devRef .tc main_arg1)) (constantI S_ 32 0#32) reducesTo_S128x256_S128_d1 h_S_) (broadcastInDim S128 ![] bcast_S_S128 (constantI S_ 32 1#32)))) (broadcastInDim S128x1 ![] bcast_S_S128x1 (constantI S_ 32 256#32))) (broadcastInDim S128x1 ![0] bcast_S128_S128x1_0 (subi (Host.reduce IntOp.addi (V0 (Proc.devRef .tc main_arg1)) (constantI S_ 32 0#32) reducesTo_S128x256_S128_d1 h_S_) (broadcastInDim S128 ![] bcast_S_S128 (constantI S_ 32 1#32))))) shapeCasts_S128x1_S128x1x1)) shapeCasts_S128x1_S128) (broadcastInDim S128 ![] bcast_S_S128 (constantI S_ 32 50#32))) (shapeCast _ (Host.gather gather_S128x256_S128x1x1_S128x1_n_1_0_0_1_2_11 (V0 (Proc.devRef .tc main_arg2)) (shapeCast S128x1x1 (select (cmpi .slt (broadcastInDim S128x1 ![0] bcast_S128_S128x1_0 (subi (Host.reduce IntOp.addi (V0 (Proc.devRef .tc main_arg1)) (constantI S_ 32 0#32) reducesTo_S128x256_S128_d1 h_S_) (broadcastInDim S128 ![] bcast_S_S128 (constantI S_ 32 1#32)))) (broadcastInDim S128x1 ![] bcast_S_S128x1 (constantI S_ 32 0#32))) (addi (broadcastInDim S128x1 ![0] bcast_S128_S128x1_0 (subi (Host.reduce IntOp.addi (V0 (Proc.devRef .tc main_arg1)) (constantI S_ 32 0#32) reducesTo_S128x256_S128_d1 h_S_) (broadcastInDim S128 ![] bcast_S_S128 (constantI S_ 32 1#32)))) (broadcastInDim S128x1 ![] bcast_S_S128x1 (constantI S_ 32 256#32))) (broadcastInDim S128x1 ![0] bcast_S128_S128x1_0 (subi (Host.reduce IntOp.addi (V0 (Proc.devRef .tc main_arg1)) (constantI S_ 32 0#32) reducesTo_S128x256_S128_d1 h_S_) (broadcastInDim S128 ![] bcast_S_S128 (constantI S_ 32 1#32))))) shapeCasts_S128x1_S128x1x1)) shapeCasts_S128x1_S128)) shapeCasts_S128_S128x1)) (constant S_ .f32 0x00000000#32) reducesTo_S128_S_d0 h_S_))) shapeCasts_S_S1x1
set_option maxRecDepth 200000 in
set_option maxHeartbeats 0 in
theorem post_main_v72 (V0 : Valuation τ sig (Elt F)) : afterL postI V0 (no_index (Proc.devRef .tc main_v72)) = out_main_v72 V0 := by
  unfold out_main_v72
  simp only [postI, afterL_cons, afterL_nil, hostOps0_1, hostOps0_2, hostOps0_3, hostOps0_4, hostOps0_5, hostOps0_6, hostOps0_7]
  after_results_entrywise []
set_option maxRecDepth 8192 in
theorem out_main_v72_congr {V0 V0' : Valuation τ sig (Elt F)} (h : Agree V0 V0') (h_main_arg3 : V0 (Proc.devRef .tc main_arg3) = V0' (Proc.devRef .tc main_arg3)) (h_main_arg0 : V0 (Proc.devRef .tc main_arg0) = V0' (Proc.devRef .tc main_arg0)) (h_main_arg2 : V0 (Proc.devRef .tc main_arg2) = V0' (Proc.devRef .tc main_arg2)) (h_main_arg1 : V0 (Proc.devRef .tc main_arg1) = V0' (Proc.devRef .tc main_arg1)) : out_main_v72 V0 = out_main_v72 V0' := by
  unfold out_main_v72
  rw [h_main_arg3, h main_v16_3 (by decide), h_main_arg0, h_main_arg2, h_main_arg1]
variable (m : (ℓ : Loc nD τ sig) → Buf (Elt F) ℓ) (ρ : Dev nD → PrngReg)

/-- THE RUN: on every device, for any float values, from any memory with zero counters, every weakly fair execution
    of @main terminates with each result at its component of `STEP` iterated 255 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v72) = out_main_v72 (STEP^[255] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v72 rfl).trans ((post_main_v72 _).trans (out_main_v72_congr (fun j hj => (cond_keeps _ j hj).trans (atK_agree m c 255 j hj)) ((keep_main_arg3_condOps _).trans ((atK_main_arg3 m c 255).trans (iter_main_arg3 m c 255).symm)) ((keep_main_arg0_condOps _).trans ((atK_main_arg0 m c 255).trans (iter_main_arg0 m c 255).symm)) ((keep_main_arg2_condOps _).trans ((atK_main_arg2 m c 255).trans (iter_main_arg2 m c 255).symm)) ((keep_main_arg1_condOps _).trans ((atK_main_arg1 m c 255).trans (iter_main_arg1 m c 255).symm)))),
      (h c main_arg0 rfl).trans ((post_keeps_main_arg0 _).trans ((keep_main_arg0_condOps _).trans (atK_main_arg0 m c 255))),
      (h c main_arg1 rfl).trans ((post_keeps_main_arg1 _).trans ((keep_main_arg1_condOps _).trans (atK_main_arg1 m c 255))),
      (h c main_arg2 rfl).trans ((post_keeps_main_arg2 _).trans ((keep_main_arg2_condOps _).trans (atK_main_arg2 m c 255))),
      (h c main_arg3 rfl).trans ((post_keeps_main_arg3 _).trans ((keep_main_arg3_condOps _).trans (atK_main_arg3 m c 255)))⟩) (run_fold m ρ)

end Cert.ReferenceIdeal.Value

end
-- ==== Proof.Ref.StepRun.lean ====
module

public import proofs.«01_k».proof.Proof.Ref.RunB
public import proofs.«01_k».proof.Proof.Gen.ReferenceIdeal.Step

/-!
The reference program's run stated over the step of the loop's carried state.
-/

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v16_3) = s.main_v16_3
  f_0 : V0 (Proc.devRef .tc main_v16_0) = s.main_v16_0
  f_1 : V0 (Proc.devRef .tc main_v16_1) = s.main_v16_1
  n_2 : V0 (Proc.devRef .tc main_v16_2) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x128x50x50 (V0 (Proc.devRef .tc main_v16_0)) (fun k => (((![V0 (Proc.devRef .tc main_v16_2), constantI S_ 32 0#32, constantI S_ 32 0#32, constantI S_ 32 0#32] : Fin 4 → (⟨S_, .i32⟩ : BufTy).Contents (Elt F))) k (Shape.Idx.first h_S_)).toInt) sliceFits_S255x128x50x50_S1x128x50x50 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_2]
  try rfl
set_option maxRecDepth 8192 in
theorem al_4 (h : Holds V0 s j) : (shapeCast S128x50x50 (Host.dynamicSlice S1x128x50x50 (V0 (Proc.devRef .tc main_v16_0)) (fun k => (((![V0 (Proc.devRef .tc main_v16_2), constantI S_ 32 0#32, constantI S_ 32 0#32, constantI S_ 32 0#32] : Fin 4 → (⟨S_, .i32⟩ : BufTy).Contents (Elt F))) k (Shape.Idx.first h_S_)).toInt) sliceFits_S255x128x50x50_S1x128x50x50) shapeCasts_S1x128x50x50_S128x50x50 : (Proc.devRef .tc main_while0b_v73 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128 : (Proc.devRef .tc main_while0b_call1_v0 : DevRef τ sig).ty.Contents (Elt F)) = Cert.ReferenceIdeal.Step.b6 j s := by
  unfold Cert.ReferenceIdeal.Step.b6
  rw [← al_5 h, h.f_1, h.n_2]
  try rfl
set_option maxRecDepth 8192 in
theorem al_7 (h : Holds V0 s j) : (shapeCast S128 (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128) shapeCasts_S1x128_S128 : (Proc.devRef .tc main_while0b_v74 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (broadcastInDim S128x50x1 ![0, 1] bcast_S128x50_S128x50x1_0_1 (V0 (Proc.devRef .tc main_v16_3)) : (Proc.devRef .tc main_while0b_v75 : DevRef τ sig).ty.Contents (Elt F)) = Cert.ReferenceIdeal.Step.b8 j s := by
  unfold Cert.ReferenceIdeal.Step.b8
  rw [h.f_3]
  try rfl
set_option maxRecDepth 8192 in
theorem al_9 (h : Holds V0 s j) : (broadcastInDim S128x50x50 ![0, 1, 2] bcast_S128x50x1_S128x50x50_0_1_2 (broadcastInDim S128x50x1 ![0, 1] bcast_S128x50_S128x50x1_0_1 (V0 (Proc.devRef .tc main_v16_3))) : (Proc.devRef .tc main_while0b_v76 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (res_main_while0b_v77 V0 : (Proc.devRef .tc main_while0b_v77 : DevRef τ sig).ty.Contents (Elt F)) = Cert.ReferenceIdeal.Step.b10 j s := by
  unfold res_main_while0b_v77 Cert.ReferenceIdeal.Step.b10
  rw [← al_4 h, ← al_9 h]
  try rfl
set_option maxRecDepth 8192 in
theorem al_11 (h : Holds V0 s j) : (constant S_ .f32 0xFF800000#32 : (Proc.devRef .tc main_while0b_cst_13 : DevRef τ sig).ty.Contents (Elt F)) = Cert.ReferenceIdeal.Step.b11 j s := by
  unfold Cert.ReferenceIdeal.Step.b11
  rfl
set_option maxRecDepth 8192 in
theorem al_12 (h : Holds V0 s j) : (res_main_while0b_v78 V0 : (Proc.devRef .tc main_while0b_v78 : DevRef τ sig).ty.Contents (Elt F)) = Cert.ReferenceIdeal.Step.b12 j s := by
  unfold res_main_while0b_v78 Cert.ReferenceIdeal.Step.b12
  rw [← al_10 h, ← al_11 h]
  try rfl
set_option maxRecDepth 8192 in
theorem al_13 (h : Holds V0 s j) : (broadcastInDim S128x1x50 ![0, 2] bcast_S128x50_S128x1x50_0_2 (res_main_while0b_v78 V0) : (Proc.devRef .tc main_while0b_v79 : DevRef τ sig).ty.Contents (Elt F)) = Cert.ReferenceIdeal.Step.b13 j s := by
  unfold Cert.ReferenceIdeal.Step.b13
  rw [← al_12 h]
  try rfl
set_option maxRecDepth 8192 in
theorem al_14 (h : Holds V0 s j) : (broadcastInDim S128x50x50 ![0, 1, 2] bcast_S128x1x50_S128x50x50_0_1_2 (broadcastInDim S128x1x50 ![0, 2] bcast_S128x50_S128x1x50_0_2 (res_main_while0b_v78 V0)) : (Proc.devRef .tc main_while0b_v80 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (subf (res_main_while0b_v77 V0) (broadcastInDim S128x50x50 ![0, 1, 2] bcast_S128x1x50_S128x50x50_0_1_2 (broadcastInDim S128x1x50 ![0, 2] bcast_S128x50_S128x1x50_0_2 (res_main_while0b_v78 V0))) : (Proc.devRef .tc main_while0b_v81 : DevRef τ sig).ty.Contents (Elt F)) = Cert.ReferenceIdeal.Step.b15 j s := by
  unfold Cert.ReferenceIdeal.Step.b15
  rw [← al_10 h, ← al_14 h]
  try rfl
set_option maxRecDepth 8192 in
theorem al_16 (h : Holds V0 s j) : (Host.exp (subf (res_main_while0b_v77 V0) (broadcastInDim S128x50x50 ![0, 1, 2] bcast_S128x1x50_S128x50x50_0_1_2 (broadcastInDim S128x1x50 ![0, 2] bcast_S128x50_S128x1x50_0_2 (res_main_while0b_v78 V0)))) : (Proc.devRef .tc main_while0b_v82 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (constant S_ .f32 0x00000000#32 : (Proc.devRef .tc main_while0b_cst_14 : DevRef τ sig).ty.Contents (Elt F)) = Cert.ReferenceIdeal.Step.b17 j s := by
  unfold Cert.ReferenceIdeal.Step.b17
  rfl
set_option maxRecDepth 8192 in
theorem al_18 (h : Holds V0 s j) : (Host.reduceAdd (Host.exp (subf (res_main_while0b_v77 V0) (broadcastInDim S128x50x50 ![0, 1, 2] bcast_S128x1x50_S128x50x50_0_1_2 (broadcastInDim S128x1x50 ![0, 2] bcast_S128x50_S128x1x50_0_2 (res_main_while0b_v78 V0))))) (constant S_ .f32 0x00000000#32) reducesTo_S128x50x50_S128x50_d1 h_S_ : (Proc.devRef .tc main_while0b_v83 : DevRef τ sig).ty.Contents (Elt F)) = Cert.ReferenceIdeal.Step.b18 j s := by
  unfold Cert.ReferenceIdeal.Step.b18
  rw [← al_16 h, ← al_17 h]
  try rfl
set_option maxRecDepth 8192 in
theorem al_19 (h : Holds V0 s j) : (Host.log (Host.reduceAdd (Host.exp (subf (res_main_while0b_v77 V0) (broadcastInDim S128x50x50 ![0, 1, 2] bcast_S128x1x50_S128x50x50_0_1_2 (broadcastInDim S128x1x50 ![0, 2] bcast_S128x50_S128x1x50_0_2 (res_main_while0b_v78 V0))))) (constant S_ .f32 0x00000000#32) reducesTo_S128x50x50_S128x50_d1 h_S_) : (Proc.devRef .tc main_while0b_v84 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (addf (Host.log (Host.reduceAdd (Host.exp (subf (res_main_while0b_v77 V0) (broadcastInDim S128x50x50 ![0, 1, 2] bcast_S128x1x50_S128x50x50_0_1_2 (broadcastInDim S128x1x50 ![0, 2] bcast_S128x50_S128x1x50_0_2 (res_main_while0b_v78 V0))))) (constant S_ .f32 0x00000000#32) reducesTo_S128x50x50_S128x50_d1 h_S_)) (res_main_while0b_v78 V0) : (Proc.devRef .tc main_while0b_v85 : DevRef τ sig).ty.Contents (Elt F)) = Cert.ReferenceIdeal.Step.b20 j s := by
  unfold Cert.ReferenceIdeal.Step.b20
  rw [← al_19 h, ← al_12 h]
  try rfl
set_option maxRecDepth 8192 in
theorem al_21 (h : Holds V0 s j) : (broadcastInDim S128x1 ![0] bcast_S128_S128x1_0 (shapeCast S128 (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128) shapeCasts_S1x128_S128) : (Proc.devRef .tc main_while0b_v86 : DevRef τ sig).ty.Contents (Elt F)) = Cert.ReferenceIdeal.Step.b21 j s := by
  unfold Cert.ReferenceIdeal.Step.b21
  rw [← al_7 h]
  try rfl
set_option maxRecDepth 8192 in
theorem al_22 (h : Holds V0 s j) : (broadcastInDim S128x50 ![0, 1] bcast_S128x1_S128x50_0_1 (broadcastInDim S128x1 ![0] bcast_S128_S128x1_0 (shapeCast S128 (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128) shapeCasts_S1x128_S128)) : (Proc.devRef .tc main_while0b_call2_v0 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (select (broadcastInDim S128x50 ![0, 1] bcast_S128x1_S128x50_0_1 (broadcastInDim S128x1 ![0] bcast_S128_S128x1_0 (shapeCast S128 (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128) shapeCasts_S1x128_S128))) (addf (Host.log (Host.reduceAdd (Host.exp (subf (res_main_while0b_v77 V0) (broadcastInDim S128x50x50 ![0, 1, 2] bcast_S128x1x50_S128x50x50_0_1_2 (broadcastInDim S128x1x50 ![0, 2] bcast_S128x50_S128x1x50_0_2 (res_main_while0b_v78 V0))))) (constant S_ .f32 0x00000000#32) reducesTo_S128x50x50_S128x50_d1 h_S_)) (res_main_while0b_v78 V0)) (V0 (Proc.devRef .tc main_v16_3)) : (Proc.devRef .tc main_while0b_v87 : DevRef τ sig).ty.Contents (Elt F)) = Cert.ReferenceIdeal.Step.b23 j s := by
  unfold Cert.ReferenceIdeal.Step.b23
  rw [← al_22 h, ← al_20 h, h.f_3]
  try rfl

/-! One trip's step of the carried values is `step`, field by field; a counter steps to the next number. -/

theorem step_3 (h : Holds V0 s j) : step_main_v16_3 V0 = (step j s).main_v16_3 := by
  unfold step_main_v16_3 Cert.ReferenceIdeal.Step.step
  show id (select (broadcastInDim S128x50 ![0, 1] bcast_S128x1_S128x50_0_1 (broadcastInDim S128x1 ![0] bcast_S128_S128x1_0 (shapeCast S128 (Host.dynamicSlice S1x128 (V0 (Proc.devRef .tc main_v16_1)) (fun k => (((![V0 (Proc.devRef .tc main_v16_2), constantI S_ 32 0#32] : Fin 2 → (⟨S_, .i32⟩ : BufTy).Contents (Elt F))) k (Shape.Idx.first h_S_)).toInt) sliceFits_S255x128_S1x128) shapeCasts_S1x128_S128))) (addf (Host.log (Host.reduceAdd (Host.exp (subf (res_main_while0b_v77 V0) (broadcastInDim S128x50x50 ![0, 1, 2] bcast_S128x1x50_S128x50x50_0_1_2 (broadcastInDim S128x1x50 ![0, 2] bcast_S128x50_S128x1x50_0_2 (res_main_while0b_v78 V0))))) (constant S_ .f32 0x00000000#32) reducesTo_S128x50x50_S128x50_d1 h_S_)) (res_main_while0b_v78 V0)) (V0 (Proc.devRef .tc main_v16_3))) = _
  rw [al_23 h]
  try rfl
theorem step_2 (h : Holds V0 s j) : step_main_v16_2 V0 = constantI S_ 32 (BitVec.ofNat 32 (j + 1)) := by
  unfold step_main_v16_2
  rw [h.n_2]
  funext i
  show BitVec.ofNat 32 j + 1#32 = BitVec.ofNat 32 (j + 1)
  simp only [BitVec.ofNat_add]

set_option maxRecDepth 8192 in
theorem out_main_v72_holds (h : Holds V0 s j) {x_main_arg0 : (⟨S128x256x50, .f32⟩ : BufTy).Contents (Elt F)} (h_main_arg0 : V0 (Proc.devRef .tc main_arg0) = x_main_arg0) {x_main_arg1 : (⟨S128x256, .i32⟩ : BufTy).Contents (Elt F)} (h_main_arg1 : V0 (Proc.devRef .tc main_arg1) = x_main_arg1) {x_main_arg2 : (⟨S128x256, .i32⟩ : BufTy).Contents (Elt F)} (h_main_arg2 : V0 (Proc.devRef .tc main_arg2) = x_main_arg2) {x_main_arg3 : (⟨S50x50, .f32⟩ : BufTy).Contents (Elt F)} (h_main_arg3 : V0 (Proc.devRef .tc main_arg3) = x_main_arg3) : out_main_v72 V0 = Cert.ReferenceIdeal.Step.R_main_v72 s x_main_arg0 x_main_arg1 x_main_arg2 x_main_arg3 := by
  unfold out_main_v72 Cert.ReferenceIdeal.Step.R_main_v72
  rw [h.f_3, h_main_arg0, h_main_arg1, h_main_arg2, h_main_arg3]
  try rfl

/-- One trip keeps the valuation holding: `step` of the state, the same set-up values, the next number. -/
theorem holds_step (h : Holds V0 s j) : Holds (STEP V0) (step j s) (j + 1) where
  f_3 := (STEP_main_v16_3 V0).trans (step_3 h)
  n_2 := (STEP_main_v16_2 V0).trans (step_2 h)
  f_0 := (STEP_main_v16_0 V0).trans h.f_0
  f_1 := (STEP_main_v16_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg3))

variable (m : (ℓ : Loc nD τ sig) → Buf (Elt F) ℓ) (c : Dev nD)

set_option maxRecDepth 65536 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 255 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v72) = Cert.ReferenceIdeal.Step.R_main_v72 (it c 255) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 255
    ⟨(h c).1.trans (out_main_v72_holds hk (iter_main_arg0 m c 255) (iter_main_arg1 m c 255) (iter_main_arg2 m c 255) (iter_main_arg3 m c 255)), (h c).2.1, (h c).2.2.1, (h c).2.2.2.1, (h c).2.2.2.2⟩) (Value.run m ρ)

end Cert.ReferenceIdeal.StepRun

end
-- ==== Proof.Frames.lean ====
module

public import proofs.«01_k».proof.Defs
public import proofs.«01_k».proof.Proof.K.Run
public import proofs.«01_k».proof.Proof.KI.Run
public import proofs.«01_k».proof.Proof.Ref.StepRun
public import Idealize.ShloMosaic.Lib.Quiescent

@[expose] public section

/-!
The frames: the kernel, its idealization and the reference each end, faulting nowhere, their arguments unchanged and
every semaphore counter at zero.
-/

noncomputable section

namespace Cert.Proof

open Idealize.ShloMosaic Idealize.SL.Sem

theorem frame_Kernel : Cert.quiescent_Kernel := fun m g _ => Cert.Kernel.Hand.frame m g

theorem frame_KernelIdeal : Cert.quiescent_KernelIdeal := fun m g _ => Cert.KernelIdeal.Hand.frame m g

/-- A sequence of states by its start and its steps. -/
def states (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m c
  | n + 1 => Cert.ReferenceIdeal.Step.step n (states m c n)

theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.StepRun.run_iter m g (states m) (fun _ => rfl) (fun _ _ => rfl))

end Cert.Proof

end
-- ==== Proof.KI.Math.lean ====
module

public import proofs.«01_k».proof.Proof.Gen.KernelIdeal.Skeleton
public import Idealize.ShloMosaic.Lib.ValueIdx
public import Idealize.ShloMosaic.Lib.Pointwise
public import Idealize.ShloMosaic.Lib.MatmulPlain
public import Idealize.ShloMosaic.Lib.IdealHost

@[expose] public section

/-!
The mathematics of the problem over the reals, and what the kernel's vectors say of it.

`Data`: the emission scores `f`, the transition scores `t`, the tag of every step and the tag before it. `P n` is the
exponential of the forward algorithm's score after step `n`; `gold n` is the score of the given path up to step `n`.
A half of the batch is in state `n` (`Half`) if its scaled scores `q` and its offset `o` are real with
`q · exp o = P n`; the accumulator is in state `n` (`Gold`) if its rows sum to `gold n`.
`Half.quad`: four steps with one rescaling lead from state `n` to state `n + 4`.
-/

set_option maxRecDepth 16384

noncomputable section

namespace Cert.KernelIdeal.Hand

open Idealize.ShloMosaic Cert.KernelIdeal Cert.KernelIdeal.Gen

/-- The problem's data over the reals. -/
structure Data where
  f : ℕ → Fin 128 → Fin 50 → ℝ
  t : Fin 50 → Fin 50 → ℝ
  cur : ℕ → Fin 128 → Fin 50
  prev : ℕ → Fin 128 → Fin 50

namespace Data

variable (D : Data)

/-- One step of the forward algorithm, on exponentials. -/
def next (n : ℕ) (b : Fin 128) (Q : Fin 50 → ℝ) (j : Fin 50) : ℝ := (∑ i, Q i * Real.exp (D.t i j)) * Real.exp (D.f n b j)

/-- The exponentials of the forward scores after step `n`. -/
def P : ℕ → Fin 128 → Fin 50 → ℝ
  | 0, b, j => Real.exp (D.f 0 b j + D.t 48 j)
  | n + 1, b, j => D.next (n + 1) b (P n b) j

/-- The score of the given path up to step `n`. -/
def gold : ℕ → Fin 128 → ℝ
  | 0, b => D.f 0 b (D.cur 0 b) + D.t (D.prev 0 b) (D.cur 0 b)
  | n + 1, b => gold n b + (D.f (n + 1) b (D.cur (n + 1) b) + D.t (D.prev (n + 1) b) (D.cur (n + 1) b))

/-- The negative log likelihood of the batch after step `n`: the forward scores closed with the stop column, less the scores of
    the given paths closed with it. -/
def nll (n : ℕ) : ℝ :=
  ∑ b, Real.log (∑ i, D.P n b i * Real.exp (D.t i 49)) - (∑ b, D.gold n b + ∑ b, D.t (D.cur n b) 49)

theorem next_smul (n : ℕ) (b : Fin 128) (c : ℝ) (Q : Fin 50 → ℝ) (j : Fin 50) : D.next n b (fun i => c * Q i) j = c * D.next n b Q j := by
  unfold next; simp only [mul_assoc, ← Finset.mul_sum]

theorem next_pos (n : ℕ) (b : Fin 128) (Q : Fin 50 → ℝ) (hQ : ∀ i, 0 < Q i) (j : Fin 50) : 0 < D.next n b Q j := by
  unfold next
  exact mul_pos (Finset.sum_pos (fun i _ => mul_pos (hQ i) (Real.exp_pos _)) ⟨0, Finset.mem_univ _⟩) (Real.exp_pos _)

theorem P_pos : ∀ (n : ℕ) (b : Fin 128) (j : Fin 50), 0 < D.P n b j
  | 0, _, _ => Real.exp_pos _
  | n + 1, b, j => D.next_pos _ _ _ (P_pos n b) j

end Data

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ofBits_negInf_bf16 : Ideal.ofBits .bf16 0xFF80#16 = ⊥ := by simp [Ideal.ofBits, Ideal.ieee]

/-- A maximum of positive reals from minus infinity is a positive real. -/
theorem fold_max_pos {n : ℕ} (hn : 0 < n) (f : Fin n → EReal) (Q : Fin n → ℝ) (hf : ∀ i, f i = ((Q i : ℝ) : EReal)) (hQ : ∀ i, 0 < Q i) :
    ∃ r : ℝ, 0 < r ∧ Finset.univ.fold max (⊥ : EReal) f = ((r : ℝ) : EReal) := by
  have h1 : ((Q ⟨0, hn⟩ : ℝ) : EReal) ≤ Finset.univ.fold max (⊥ : EReal) f :=
    (Finset.le_fold_max _).2 (Or.inr ⟨⟨0, hn⟩, Finset.mem_univ _, (hf _).ge⟩)
  have h2 : Finset.univ.fold max (⊥ : EReal) f < ⊤ :=
    (Finset.fold_max_lt _).2 ⟨bot_lt_top, fun x _ => by rw [hf]; exact EReal.coe_lt_top _⟩
  have h3 : Finset.univ.fold max (⊥ : EReal) f ≠ ⊥ := fun h => by rw [h] at h1; exact absurd h1 (not_le.2 (EReal.bot_lt_coe _))
  refine ⟨_, ?_, (EReal.coe_toReal h2.ne h3).symm⟩
  rw [← EReal.coe_toReal h2.ne h3] at h1
  exact lt_of_lt_of_le (hQ _) (EReal.coe_le_coe_iff.1 h1)

/-- Half the batch, at `β`, is in state `n`. -/
def Half (D : Data) (β : Fin 64 → Fin 128) (n : ℕ) (q : S64x50.Idx → EReal) (o : Fin 64 → EReal) : Prop :=
  ∃ (Q : Fin 64 → Fin 50 → ℝ) (O : Fin 64 → ℝ), (∀ b j, q (ix2 b j) = ((Q b j : ℝ) : EReal)) ∧ (∀ b j, 0 < Q b j)
    ∧ (∀ b, o b = ((O b : ℝ) : EReal)) ∧ ∀ b j, Real.exp (O b) * Q b j = D.P n (β b) j

variable {D : Data} {β : Fin 64 → Fin 128}

/-- One unscaled step on reals. -/
theorem dp_real {n : ℕ} {q q' : S64x50.Idx → EReal} {e : S50x50.Idx → EReal} {v : S1x128x50.Idx → EReal} {Q : Fin 64 → Fin 50 → ℝ}
    (hq : ∀ b j, q (ix2 b j) = ((Q b j : ℝ) : EReal)) (he : ∀ i j, e (ix2 i j) = ((Real.exp (D.t i j) : ℝ) : EReal))
    (hv : ∀ b j, v (ix3 0 b j) = ((D.f n b j : ℝ) : EReal))
    (h : ∀ b j, q' (ix2 b j) = (∑ i : Fin 50, q (ix2 b i) * e (ix2 i j)) * Ideal.exp (v (ix3 0 (β b) j))) (b : Fin 64) (j : Fin 50) :
    q' (ix2 b j) = ((D.next n (β b) (Q b) j : ℝ) : EReal) := by
  rw [h, hv]; simp only [hq, he, ← EReal.coe_mul, coe_sum, Ideal.exp_coe]; rfl

theorem Half.step {n : ℕ} {q q' : S64x50.Idx → EReal} {o : Fin 64 → EReal} {e : S50x50.Idx → EReal} {v : S1x128x50.Idx → EReal}
    (H : Half D β n q o) (he : ∀ i j, e (ix2 i j) = ((Real.exp (D.t i j) : ℝ) : EReal))
    (hv : ∀ b j, v (ix3 0 b j) = ((D.f (n + 1) b j : ℝ) : EReal))
    (h : ∀ b j, q' (ix2 b j) = (∑ i : Fin 50, q (ix2 b i) * e (ix2 i j)) * Ideal.exp (v (ix3 0 (β b) j))) :
    Half D β (n + 1) q' o := by
  obtain ⟨Q, O, h1, h2, h3, h4⟩ := H
  refine ⟨fun b j => D.next (n + 1) (β b) (Q b) j, O, dp_real h1 he hv h, fun b j => D.next_pos _ _ _ (h2 b) j, h3, fun b j => ?_⟩
  rw [← D.next_smul]; show _ = D.next (n + 1) (β b) (D.P n (β b)) j
  congr 1; exact funext fun i => h4 b i

/-- Four steps with one rescaling: the row maximum after the first is divided out in the third and its logarithm added to the
    offset. -/
theorem Half.quad {n : ℕ} {q q1 q2 q3 q4 : S64x50.Idx → EReal} {o o' : Fin 64 → EReal} {e : S50x50.Idx → EReal} {v0 v1 v2 v3 : S1x128x50.Idx → EReal}
    {rm : S64x1.Idx → EReal} (H : Half D β n q o) (he : ∀ i j, e (ix2 i j) = ((Real.exp (D.t i j) : ℝ) : EReal))
    (hv0 : ∀ b j, v0 (ix3 0 b j) = ((D.f (n + 1) b j : ℝ) : EReal)) (hv1 : ∀ b j, v1 (ix3 0 b j) = ((D.f (n + 2) b j : ℝ) : EReal))
    (hv2 : ∀ b j, v2 (ix3 0 b j) = ((D.f (n + 3) b j : ℝ) : EReal)) (hv3 : ∀ b j, v3 (ix3 0 b j) = ((D.f (n + 4) b j : ℝ) : EReal))
    (h1 : ∀ b j, q1 (ix2 b j) = (∑ i : Fin 50, q (ix2 b i) * e (ix2 i j)) * Ideal.exp (v0 (ix3 0 (β b) j)))
    (hr : ∀ b, rm (ix2 b 0) = Finset.univ.fold max (⊥ : EReal) fun j => q1 (ix2 b j))
    (h2 : ∀ b j, q2 (ix2 b j) = (∑ i : Fin 50, q1 (ix2 b i) * e (ix2 i j)) * Ideal.exp (v1 (ix3 0 (β b) j)))
    (h3 : ∀ b j, q3 (ix2 b j) = (∑ i : Fin 50, q2 (ix2 b i) * e (ix2 i j)) * (Ideal.exp (v2 (ix3 0 (β b) j)) * Ideal.div 1 (rm (ix2 b 0))))
    (h4 : ∀ b j, q4 (ix2 b j) = (∑ i : Fin 50, q3 (ix2 b i) * e (ix2 i j)) * Ideal.exp (v3 (ix3 0 (β b) j)))
    (ho : ∀ b, o' b = o b + Ideal.log (rm (ix2 b 0))) : Half D β (n + 4) q4 o' := by
  have H2 := (H.step he hv0 h1).step he hv1 h2
  obtain ⟨Q1, -, a1, a2, -, -⟩ := H.step he hv0 h1
  choose r hr0 hr1 using fun b => fold_max_pos (by decide) (fun j => q1 (ix2 b j)) (Q1 b) (a1 b) (a2 b)
  obtain ⟨Q, O, b1, b2, b3, b4⟩ := H2
  have ho2 : ∀ b, ∃ x : ℝ, o b = ((x : ℝ) : EReal) := fun b => ⟨O b, b3 b⟩
  have H3 : Half D β (n + 3) q3 o' := by
    refine ⟨fun b j => D.next (n + 3) (β b) (Q b) j * (1 / r b), fun b => O b + Real.log (r b), fun b j => ?_,
      fun b j => mul_pos (D.next_pos _ _ _ (b2 b) j) (one_div_pos.2 (hr0 b)), fun b => ?_, fun b j => ?_⟩
    · rw [h3, hr, hr1, Ideal.div_coe (hr0 b).ne', hv2]
      simp only [b1, he, ← EReal.coe_mul, coe_sum, Ideal.exp_coe, one_mul, ← EReal.coe_one]
      unfold Data.next; congr 1; ring
    · rw [ho, hr, hr1, Ideal.log_coe, if_neg (not_le.2 (hr0 b)), b3, EReal.coe_add]
    · rw [Real.exp_add, Real.exp_log (hr0 b)]
      have : D.P (n + 3) (β b) j = Real.exp (O b) * D.next (n + 3) (β b) (Q b) j := by
        rw [← D.next_smul]; show D.next (n + 3) (β b) (D.P (n + 2) (β b)) j = _
        congr 1; exact funext fun i => (b4 b i).symm
      rw [this]; have := (hr0 b).ne'; field_simp
  exact H3.step he hv3 h4

/-- The accumulator is in state `n`. -/
def Gold (D : Data) (n : ℕ) (g : S128x50.Idx → EReal) : Prop :=
  ∃ G : Fin 128 → Fin 50 → ℝ, (∀ b j, g (ix2 b j) = ((G b j : ℝ) : EReal)) ∧ ∀ b, ∑ j, G b j = D.gold n b

theorem cmpi_ofNat (x y : Fin 50) : IntOp.cmpi CmpIPredicate.eq (BitVec.ofNat 32 x.val) (BitVec.ofNat 32 y.val) = if x = y then 1#1 else 0#1 := by
  revert x y; decide +kernel

/-- What a step of the path's score adds to the accumulator. -/
theorem gold_term {n : ℕ} {x0 p c : BitVec 32} {v : EReal} {t : S50x50.Idx → EReal} {v0 : S128x50.Idx → BitVec 32}
    (b : Fin 128) (j : Fin 50) (hv0 : ∀ b l, v0 (ix2 b l) = BitVec.ofNat 32 l.val) (hx : x0 = BitVec.ofNat 32 j.val)
    (hp : p = BitVec.ofNat 32 (D.prev n b).val) (hc : c = BitVec.ofNat 32 (D.cur n b).val)
    (hv : v = ((D.f n b j : ℝ) : EReal)) (ht : ∀ i j, t (ix2 i j) = ((D.t i j : ℝ) : EReal)) :
    Scalar.select (IntOp.cmpi CmpIPredicate.eq x0 c)
        (v + ∑ x, FloatOps.sitofp (F := Ideal) FTy.f32 (BitVec.setWidth 32 (IntOp.cmpi CmpIPredicate.eq (v0 (ix2 b x)) p)) * t (ix2 x j)) 0
      = ((if j = D.cur n b then D.f n b j + D.t (D.prev n b) j else 0 : ℝ) : EReal) := by
  subst hx hp hc hv
  simp only [hv0, cmpi_ofNat, ht]
  have hs : ∀ x : Fin 50, FloatOps.sitofp (F := Ideal) FTy.f32 (BitVec.setWidth 32 (if x = D.prev n b then 1#1 else 0#1)) * ((D.t x j : ℝ) : EReal)
      = (((if x = D.prev n b then D.t x j else 0 : ℝ)) : EReal) := fun x => by
    by_cases hx : x = D.prev n b
    · rw [if_pos hx, if_pos hx]; show (((BitVec.setWidth 32 1#1).toInt : ℝ) : EReal) * _ = _
      rw [show (BitVec.setWidth 32 1#1).toInt = 1 from rfl, Int.cast_one, EReal.coe_one, one_mul]
    · rw [if_neg hx, if_neg hx]; show (((BitVec.setWidth 32 0#1).toInt : ℝ) : EReal) * _ = _
      rw [show (BitVec.setWidth 32 0#1).toInt = 0 from rfl, Int.cast_zero, EReal.coe_zero, zero_mul]
  simp only [hs, coe_sum, Finset.sum_ite_eq', Finset.mem_univ, if_true, ← EReal.coe_add]
  by_cases hj : j = D.cur n b
  · rw [if_pos hj, if_pos hj]; rfl
  · rw [if_neg hj, if_neg hj]; rfl

theorem Gold.step {n : ℕ} {g g' : S128x50.Idx → EReal} (H : Gold D n g)
    (h : ∀ b j, g' (ix2 b j) = g (ix2 b j) + ((if j = D.cur (n + 1) b then D.f (n + 1) b j + D.t (D.prev (n + 1) b) j else 0 : ℝ) : EReal)) :
    Gold D (n + 1) g' := by
  obtain ⟨G, h1, h2⟩ := H
  refine ⟨fun b j => G b j + (if j = D.cur (n + 1) b then D.f (n + 1) b j + D.t (D.prev (n + 1) b) j else 0), fun b j => by rw [h, h1, EReal.coe_add], fun b => ?_⟩
  rw [Finset.sum_add_distrib, h2]; simp only [Finset.sum_ite_eq', Finset.mem_univ, if_true]; rfl

theorem Gold.first {g g' : S128x50.Idx → EReal} (H : ∀ b j, g (ix2 b j) = 0)
    (h : ∀ b j, g' (ix2 b j) = g (ix2 b j) + ((if j = D.cur 0 b then D.f 0 b j + D.t (D.prev 0 b) j else 0 : ℝ) : EReal)) :
    Gold D 0 g' := by
  refine ⟨fun b j => (if j = D.cur 0 b then D.f 0 b j + D.t (D.prev 0 b) j else 0), fun b j => by rw [h, H, zero_add], fun b => ?_⟩
  simp only [Finset.sum_ite_eq', Finset.mem_univ, if_true]; rfl

end Cert.KernelIdeal.Hand

end
-- ==== Proof.KI.Quad.lean ====
module

public import proofs.«01_k».proof.Proof.KI.Math
public import proofs.«01_k».proof.Proof.Gen.KernelIdeal.Loops

@[expose] public section

/-!
What the four steps of one loop trip compute, at the ideal algebra: `quadLo`, `quadHi` are the two halves of the batch after
the trip, `quadOLo`, `quadOHi` their offsets, `quadGold` the accumulator.
-/

set_option maxRecDepth 16384

noncomputable section

namespace Cert.KernelIdeal.Hand

open Idealize.ShloMosaic Cert.KernelIdeal Cert.KernelIdeal.Gen

/-- The first half of the batch: rows `0 … 63`. -/
def lo (b : Fin 64) : Fin 128 := ⟨b.val, by omega⟩

/-- The second half of the batch: rows `64 … 127`. -/
def hi (b : Fin 64) : Fin 128 := ⟨64 + b.val, by omega⟩

section Defs
variable {F : FTy → Type} [FloatOps F]

abbrev QT (F : FTy → Type) := FVec F S64x50 .bf16
abbrev FT (F : FTy → Type) := FVec F S1x128x50 .f32
abbrev TT (F : FTy → Type) := FVec F S50x50 .bf16
abbrev TagT := IVec S1x128x1 32

def quadLo (q : QT F) (f0 f1 f2 f3 : FT F) (e : TT F) : QT F :=
  k0_pay91 (k0_pay87 (k0_pay74 (k0_pay65 q f0 e) f1 e) (k0_pay84 f2) (k0_pay86 (k0_pay67 q f0 e)) e) f3 e

def quadHi (q : QT F) (f0 f1 f2 f3 : FT F) (e : TT F) : QT F :=
  k0_pay92 (k0_pay88 (k0_pay75 (k0_pay66 q f0 e) f1 e) (k0_pay82 (k0_pay68 q f0 e)) (k0_pay85 f2) e) f3 e

def quadOLo (q : QT F) (f0 : FT F) (e : TT F) (o : FVec F S64x1 .f32) : FVec F S64x1 .f32 := k0_pay80 (k0_pay67 q f0 e) o

def quadOHi (q : QT F) (f0 : FT F) (e : TT F) (o : FVec F S64x1 .f32) : FVec F S64x1 .f32 := k0_pay81 (k0_pay68 q f0 e) o

def quadGold (v0 : IVec S128x50 32) (f0 f1 f2 f3 : FT F) (p0 p1 p2 p3 c0 c1 c2 c3 : TagT) (t : TT F) (g : FVec F S128x50 .f32) : FVec F S128x50 .f32 :=
  k0_pay2 (k0_pay89 v0 f2 p2 c2 t (k0_pay79 v0 (k0_pay76 f1) (k0_pay77 (F := F) c1) (k0_pay78 (F := F) v0 p1) t
    (k0_pay72 v0 (k0_pay69 f0) (k0_pay70 (F := F) c0) (k0_pay71 v0 p0 t) g))) (k0_pay93 v0 f3 p3 c3 t)

end Defs

/-- What the vectors of a trip hold: the exponentials of the transition scores. -/
def IsExpT (D : Data) (e : TT Ideal) : Prop := ∀ i j, e (ix2 i j) = ((Real.exp (D.t i j) : ℝ) : EReal)

/-- A vector holds the transition scores. -/
def IsT (D : Data) (t : S50x50.Idx → EReal) : Prop := ∀ i j, t (ix2 i j) = ((D.t i j : ℝ) : EReal)

/-- A vector holds the emission scores of step `n`. -/
def IsF (D : Data) (n : ℕ) (v : FT Ideal) : Prop := ∀ b j, v (ix3 0 b j) = ((D.f n b j : ℝ) : EReal)

/-- A vector holds the tags before step `n`. -/
def IsPrev (D : Data) (n : ℕ) (p : TagT) : Prop := ∀ b, p (ix3 0 b 0) = BitVec.ofNat 32 (D.prev n b).val

/-- A vector holds the tags of step `n`. -/
def IsCur (D : Data) (n : ℕ) (p : TagT) : Prop := ∀ b, p (ix3 0 b 0) = BitVec.ofNat 32 (D.cur n b).val

/-- A vector counts the lanes. -/
def IsIota (v0 : IVec S128x50 32) : Prop := ∀ b l, v0 (ix2 b l) = BitVec.ofNat 32 l.val

variable {D : Data} {n : ℕ} {f0 f1 f2 f3 : FT Ideal} {e : TT Ideal} {q : QT Ideal} {o : FVec Ideal S64x1 .f32}

theorem quadLo_ok (H : Half D lo n q fun b => o (ix2 b 0)) (he : IsExpT D e) (h0 : IsF D (n + 1) f0) (h1 : IsF D (n + 2) f1)
    (h2 : IsF D (n + 3) f2) (h3 : IsF D (n + 4) f3) : Half D lo (n + 4) (quadLo q f0 f1 f2 f3 e) fun b => quadOLo q f0 e o (ix2 b 0) := by
  refine Half.quad (q1 := k0_pay65 (F := Ideal) q f0 e) (q2 := k0_pay74 (F := Ideal) (k0_pay65 (F := Ideal) q f0 e) f1 e)
    (q3 := k0_pay87 (F := Ideal) (k0_pay74 (F := Ideal) (k0_pay65 (F := Ideal) q f0 e) f1 e) (k0_pay84 f2) (k0_pay86 (k0_pay67 (F := Ideal) q f0 e)) e) (rm := k0_pay67 (F := Ideal) q f0 e)
    H he h0 h1 h2 h3 ?_ ?_ ?_ ?_ ?_ ?_
  · intro b j; pointwise [k0_pay65, k0_pay64]; rfl
  · intro b; rw [← ofBits_negInf_bf16]; pointwise [k0_pay67]
  · intro b j; generalize k0_pay65 (F := Ideal) q f0 e = x; pointwise [k0_pay74, k0_pay73]; rfl
  · intro b j
    generalize k0_pay74 (F := Ideal) (k0_pay65 (F := Ideal) q f0 e) f1 e = x; generalize k0_pay67 (F := Ideal) q f0 e = y
    rw [← Ideal.ofBits_one_f32]
    pointwise [k0_pay87, k0_pay84, k0_pay83, k0_pay86]; rfl
  · intro b j; unfold quadLo
    generalize k0_pay87 (F := Ideal) (k0_pay74 (F := Ideal) (k0_pay65 (F := Ideal) q f0 e) f1 e) (k0_pay84 f2) (k0_pay86 (k0_pay67 (F := Ideal) q f0 e)) e = x
    pointwise [k0_pay91, k0_pay90]; rfl
  · intro b; unfold quadOLo; generalize k0_pay67 (F := Ideal) q f0 e = y; pointwise [k0_pay80]

theorem quadHi_ok (H : Half D hi n q fun b => o (ix2 b 0)) (he : IsExpT D e) (h0 : IsF D (n + 1) f0) (h1 : IsF D (n + 2) f1)
    (h2 : IsF D (n + 3) f2) (h3 : IsF D (n + 4) f3) : Half D hi (n + 4) (quadHi q f0 f1 f2 f3 e) fun b => quadOHi q f0 e o (ix2 b 0) := by
  refine Half.quad (q1 := k0_pay66 (F := Ideal) q f0 e) (q2 := k0_pay75 (F := Ideal) (k0_pay66 (F := Ideal) q f0 e) f1 e)
    (q3 := k0_pay88 (F := Ideal) (k0_pay75 (F := Ideal) (k0_pay66 (F := Ideal) q f0 e) f1 e) (k0_pay82 (k0_pay68 (F := Ideal) q f0 e)) (k0_pay85 f2) e) (rm := k0_pay68 (F := Ideal) q f0 e)
    H he h0 h1 h2 h3 ?_ ?_ ?_ ?_ ?_ ?_
  · intro b j; pointwise [k0_pay66, k0_pay64]; rfl
  · intro b; rw [← ofBits_negInf_bf16]; pointwise [k0_pay68]
  · intro b j; generalize k0_pay66 (F := Ideal) q f0 e = x; pointwise [k0_pay75, k0_pay73]; rfl
  · intro b j
    generalize k0_pay75 (F := Ideal) (k0_pay66 (F := Ideal) q f0 e) f1 e = x; generalize k0_pay68 (F := Ideal) q f0 e = y
    rw [← Ideal.ofBits_one_f32]
    pointwise [k0_pay88, k0_pay85, k0_pay83, k0_pay82]; rfl
  · intro b j; unfold quadHi
    generalize k0_pay88 (F := Ideal) (k0_pay75 (F := Ideal) (k0_pay66 (F := Ideal) q f0 e) f1 e) (k0_pay82 (k0_pay68 (F := Ideal) q f0 e)) (k0_pay85 f2) e = x
    pointwise [k0_pay92, k0_pay90]; rfl
  · intro b; unfold quadOHi; generalize k0_pay68 (F := Ideal) q f0 e = y; pointwise [k0_pay81]

variable {v0 : IVec S128x50 32} {p0 p1 p2 p3 c0 c1 c2 c3 : TagT} {t : TT Ideal} {g : FVec Ideal S128x50 .f32}

theorem quadGold_ok (H : Gold D n g) (hv : IsIota v0) (ht : IsT D t) (h0 : IsF D (n + 1) f0) (h1 : IsF D (n + 2) f1)
    (h2 : IsF D (n + 3) f2) (h3 : IsF D (n + 4) f3) (a0 : IsPrev D (n + 1) p0) (a1 : IsPrev D (n + 2) p1) (a2 : IsPrev D (n + 3) p2)
    (a3 : IsPrev D (n + 4) p3) (b0 : IsCur D (n + 1) c0) (b1 : IsCur D (n + 2) c1) (b2 : IsCur D (n + 3) c2) (b3 : IsCur D (n + 4) c3) :
    Gold D (n + 4) (quadGold v0 f0 f1 f2 f3 p0 p1 p2 p3 c0 c1 c2 c3 t g) := by
  have z : Ideal.ofBits .f32 0#32 = 0 := by simp [Ideal.ofBits, Ideal.ieee]
  have H1 : Gold D (n + 1) (k0_pay72 (F := Ideal) v0 (k0_pay69 f0) (k0_pay70 (F := Ideal) c0) (k0_pay71 v0 p0 t) g) := H.step fun b j => by
    rw [← gold_term b j hv (hv b j) (a0 b) (b0 b) (h0 b j) ht]
    pointwise [k0_pay72, k0_pay69, k0_pay70, k0_pay71]
    try rfl
  have H2 : Gold D (n + 2) (k0_pay79 (F := Ideal) v0 (k0_pay76 f1) (k0_pay77 (F := Ideal) c1) (k0_pay78 (F := Ideal) v0 p1) t (k0_pay72 (F := Ideal) v0 (k0_pay69 f0) (k0_pay70 (F := Ideal) c0) (k0_pay71 v0 p0 t) g)) := H1.step fun b j => by
    rw [← gold_term b j hv (hv b j) (a1 b) (b1 b) (h1 b j) ht]
    generalize (k0_pay72 (F := Ideal) v0 (k0_pay69 f0) (k0_pay70 (F := Ideal) c0) (k0_pay71 v0 p0 t) g) = x
    pointwise [k0_pay79, k0_pay76, k0_pay77, k0_pay78]
    try rfl
  have H3 : Gold D (n + 3) (k0_pay89 (F := Ideal) v0 f2 p2 c2 t (k0_pay79 (F := Ideal) v0 (k0_pay76 f1) (k0_pay77 (F := Ideal) c1) (k0_pay78 (F := Ideal) v0 p1) t (k0_pay72 (F := Ideal) v0 (k0_pay69 f0) (k0_pay70 (F := Ideal) c0) (k0_pay71 v0 p0 t) g))) := H2.step fun b j => by
    rw [← gold_term b j hv (hv b j) (a2 b) (b2 b) (h2 b j) ht]
    generalize (k0_pay79 (F := Ideal) v0 (k0_pay76 f1) (k0_pay77 (F := Ideal) c1) (k0_pay78 (F := Ideal) v0 p1) t (k0_pay72 (F := Ideal) v0 (k0_pay69 f0) (k0_pay70 (F := Ideal) c0) (k0_pay71 v0 p0 t) g)) = x
    pointwise [k0_pay89, k0_pay83]
    try rfl
  refine H3.step fun b j => ?_
  rw [← gold_term b j hv (hv b j) (a3 b) (b3 b) (h3 b j) ht]; unfold quadGold
  generalize (k0_pay89 (F := Ideal) v0 f2 p2 c2 t (k0_pay79 (F := Ideal) v0 (k0_pay76 f1) (k0_pay77 (F := Ideal) c1) (k0_pay78 (F := Ideal) v0 p1) t (k0_pay72 (F := Ideal) v0 (k0_pay69 f0) (k0_pay70 (F := Ideal) c0) (k0_pay71 v0 p0 t) g))) = x
  pointwise [k0_pay2, k0_pay93]
  try rfl

end Cert.KernelIdeal.Hand

end
-- ==== Proof.KI.Load.lean ====
module

public import proofs.«01_k».proof.Proof.KI.Quad
public import Idealize.ShloMosaic.Lib.VecWindow
public import Idealize.ShloMosaic.Lib.WritesUnit

@[expose] public section

/-!
How loads and stores of parts of a buffer read, and the invariant of a loop over trips.
-/

set_option maxRecDepth 16384

noncomputable section

namespace Cert.KernelIdeal.Hand

open Idealize.ShloMosaic Cert.KernelIdeal Cert.KernelIdeal.Gen

/-- The invariant of a loop over trips: both halves and the accumulator are in state `n`. -/
def LoopInv (D : Data) (n : ℕ) (acc : QT Ideal × QT Ideal) (o : S128x1.Idx → EReal) (g : S128x50.Idx → EReal) : Prop :=
  Half D lo n acc.1 (fun b => o (ix2 (lo b) 0)) ∧ Half D hi n acc.2 (fun b => o (ix2 (hi b) 0)) ∧ Gold D n g

/-- A chunk of emission scores starting at step `base`. -/
def Feats (D : Data) (base : ℕ) (x : S32x128x50.Idx → EReal) : Prop := ∀ s b j, x (ix3 s b j) = ((D.f (base + s.val) b j : ℝ) : EReal)

/-- A chunk of tags starting at step `base`: the previous tag, then the current one. -/
def Tags (D : Data) (base : ℕ) (x : S32x128x2.Idx → BitVec 32) : Prop :=
  ∀ s b, x (ix3 s b 0) = BitVec.ofNat 32 (D.prev (base + s.val) b).val ∧ x (ix3 s b 1) = BitVec.ofNat 32 (D.cur (base + s.val) b).val

theorem Half.congr {D : Data} {β : Fin 64 → Fin 128} {n : ℕ} {q q' : S64x50.Idx → EReal} {o o' : Fin 64 → EReal}
    (H : Half D β n q o) (hq : ∀ b j, q' (ix2 b j) = q (ix2 b j)) (ho : ∀ b, o' b = o b) : Half D β n q' o' := by
  rw [show o' = o from funext ho]
  obtain ⟨Q, O, h1, h2, h3, h4⟩ := H
  exact ⟨Q, O, fun b j => (hq b j).trans (h1 b j), h2, h3, h4⟩

theorem Gold.congr {D : Data} {n : ℕ} {g g' : S128x50.Idx → EReal} (H : Gold D n g) (hg : g' = g) : Gold D n g' := hg ▸ H

section Loads

variable {D : Data} {base : ℕ} {κ : Kind} {sp : Space}

theorem isF_load {v : View sig κ sp S32x128x50 .f32} {X : v.ty.Contents (Elt Ideal)} (h : Feats D base (v.read (Elt Ideal) X)) (m : ℕ) {off : Fin 3 → ℕ}
    (hoff : off = ![m, 0, 0]) (hm : m < 32) (inb : ∀ a, off a + S1x128x50.size a ≤ S32x128x50.size a) :
    IsF D (base + m) (v.readAt (Elt Ideal) (Rect.unit (s := S32x128x50) off S1x128x50.size inb).toLoadRect X) := by
  subst hoff; intro b j
  rw [← h ⟨m, hm⟩ b j]
  exact congrArg (v.read (Elt Ideal) X) (funext fun a => Fin.ext (by
    fin_cases a
    · show m + 1 * 0 = m; omega
    · show 0 + 1 * b.val = b.val; omega
    · show 0 + 1 * j.val = j.val; omega))

theorem isPrev_load {v : View sig κ sp S32x128x2 .i32} {X : v.ty.Contents (Elt Ideal)} (h : Tags D base (v.read (Elt Ideal) X)) (m : ℕ) {off : Fin 3 → ℕ}
    (hoff : off = ![m, 0, 0]) (hm : m < 32) (inb : ∀ a, off a + S1x128x1.size a ≤ S32x128x2.size a) :
    IsPrev D (base + m) (v.readAt (Elt Ideal) (Rect.unit (s := S32x128x2) off S1x128x1.size inb).toLoadRect X) := by
  subst hoff; intro b
  rw [← (h ⟨m, hm⟩ b).1]
  exact congrArg (v.read (Elt Ideal) X) (funext fun a => Fin.ext (by
    fin_cases a
    · show m + 1 * 0 = m; omega
    · show 0 + 1 * b.val = b.val; omega
    · rfl))

theorem isCur_load {v : View sig κ sp S32x128x2 .i32} {X : v.ty.Contents (Elt Ideal)} (h : Tags D base (v.read (Elt Ideal) X)) (m : ℕ) {off : Fin 3 → ℕ}
    (hoff : off = ![m, 0, 1]) (hm : m < 32) (inb : ∀ a, off a + S1x128x1.size a ≤ S32x128x2.size a) :
    IsCur D (base + m) (v.readAt (Elt Ideal) (Rect.unit (s := S32x128x2) off S1x128x1.size inb).toLoadRect X) := by
  subst hoff; intro b
  rw [← (h ⟨m, hm⟩ b).2]
  exact congrArg (v.read (Elt Ideal) X) (funext fun a => Fin.ext (by
    fin_cases a
    · show m + 1 * 0 = m; omega
    · show 0 + 1 * b.val = b.val; omega
    · rfl))

theorem isExpT_load {v : View sig κ sp S50x50 .bf16} {X : v.ty.Contents (Elt Ideal)} (h : IsExpT D (v.read (Elt Ideal) X)) (off : Fin 2 → ℕ)
    (inb : ∀ a, off a + S50x50.size a ≤ S50x50.size a) : IsExpT D (v.readAt (Elt Ideal) (Rect.unit (s := S50x50) off S50x50.size inb).toLoadRect X) := by
  rw [View.readAt_full]; exact h

theorem isT_load {v : View sig κ sp S50x50 .bf16} {X : v.ty.Contents (Elt Ideal)} (h : IsT D (v.read (Elt Ideal) X)) (off : Fin 2 → ℕ)
    (inb : ∀ a, off a + S50x50.size a ≤ S50x50.size a) : IsT D (v.readAt (Elt Ideal) (Rect.unit (s := S50x50) off S50x50.size inb).toLoadRect X) := by
  rw [View.readAt_full]; exact h

theorem read_lo (v : View sig κ sp S128x1 .f32) (X : v.ty.Contents (Elt Ideal)) (inb : ∀ a, (![0, 0] : Fin 2 → ℕ) a + S64x1.size a ≤ S128x1.size a) (b : Fin 64) :
    v.readAt (Elt Ideal) (Rect.unit (s := S128x1) ![0, 0] S64x1.size inb).toLoadRect X (ix2 b 0) = v.read (Elt Ideal) X (ix2 (lo b) 0) :=
  congrArg (v.read (Elt Ideal) X) (funext fun a => Fin.ext (by
    fin_cases a
    · show 0 + 1 * b.val = b.val; omega
    · rfl))

theorem read_hi (v : View sig κ sp S128x1 .f32) (X : v.ty.Contents (Elt Ideal)) (inb : ∀ a, (![64, 0] : Fin 2 → ℕ) a + S64x1.size a ≤ S128x1.size a) (b : Fin 64) :
    v.readAt (Elt Ideal) (Rect.unit (s := S128x1) ![64, 0] S64x1.size inb).toLoadRect X (ix2 b 0) = v.read (Elt Ideal) X (ix2 (hi b) 0) :=
  congrArg (v.read (Elt Ideal) X) (funext fun a => Fin.ext (by
    fin_cases a
    · show 64 + 1 * b.val = 64 + b.val; omega
    · rfl))

theorem read_writes_hi (v : View sig κ sp S128x1 .f32) (X : v.ty.Contents (Elt Ideal)) (inb : ∀ a, (![64, 0] : Fin 2 → ℕ) a + S64x1.size a ≤ S128x1.size a)
    (w : S64x1.Idx → EReal) (L : List (View.Piece (Elt Ideal) S128x1 .f32)) (b : Fin 64) :
    v.read (Elt Ideal) (v.writes (Elt Ideal) X (⟨Rect.unit (s := S128x1) ![64, 0] S64x1.size inb, w⟩ :: L)) (ix2 (hi b) 0) = w (ix2 b 0) :=
  View.read_writes_cons_unit_of_mem v X inb w L _ (ix2 b 0) rfl fun a => by
    fin_cases a
    · rfl
    · rfl

theorem read_writes_lo (v : View sig κ sp S128x1 .f32) (X : v.ty.Contents (Elt Ideal)) (inb : ∀ a, (![64, 0] : Fin 2 → ℕ) a + S64x1.size a ≤ S128x1.size a)
    (inb' : ∀ a, (![0, 0] : Fin 2 → ℕ) a + S64x1.size a ≤ S128x1.size a)
    (w w' : S64x1.Idx → EReal) (L : List (View.Piece (Elt Ideal) S128x1 .f32)) (b : Fin 64) :
    v.read (Elt Ideal) (v.writes (Elt Ideal) X (⟨Rect.unit (s := S128x1) ![64, 0] S64x1.size inb, w⟩
      :: ⟨Rect.unit (s := S128x1) ![0, 0] S64x1.size inb', w'⟩ :: L)) (ix2 (lo b) 0) = w' (ix2 b 0) := by
  rw [View.read_writes_cons_unit_of_not_mem v X inb w _ _ rfl 0 (Or.inl b.isLt)]
  exact View.read_writes_cons_unit_of_mem v X inb' w' L _ (ix2 b 0) rfl fun a => by
    fin_cases a
    · show b.val = 0 + b.val; omega
    · rfl

/-- The first and the last sixty-four rows. -/
def loRows (q : S128x50.Idx → EReal) : QT Ideal := fun y => q (ix2 (lo (y 0)) (y 1))
def hiRows (q : S128x50.Idx → EReal) : QT Ideal := fun y => q (ix2 (hi (y 0)) (y 1))

theorem read_rows_lo (v : View sig κ sp S128x50 .bf16) (X : v.ty.Contents (Elt Ideal)) (inb : ∀ a, (![0, 0] : Fin 2 → ℕ) a + S64x50.size a ≤ S128x50.size a)
    (b : Fin 64) (j : Fin 50) :
    v.readAt (Elt Ideal) (Rect.unit (s := S128x50) ![0, 0] S64x50.size inb).toLoadRect X (ix2 b j) = loRows (v.read (Elt Ideal) X) (ix2 b j) :=
  congrArg (v.read (Elt Ideal) X) (funext fun a => Fin.ext (by
    fin_cases a
    · show 0 + 1 * b.val = b.val; omega
    · show 0 + 1 * j.val = j.val; omega))

theorem read_rows_hi (v : View sig κ sp S128x50 .bf16) (X : v.ty.Contents (Elt Ideal)) (inb : ∀ a, (![64, 0] : Fin 2 → ℕ) a + S64x50.size a ≤ S128x50.size a)
    (b : Fin 64) (j : Fin 50) :
    v.readAt (Elt Ideal) (Rect.unit (s := S128x50) ![64, 0] S64x50.size inb).toLoadRect X (ix2 b j) = hiRows (v.read (Elt Ideal) X) (ix2 b j) :=
  congrArg (v.read (Elt Ideal) X) (funext fun a => Fin.ext (by
    fin_cases a
    · show 64 + 1 * b.val = 64 + b.val; omega
    · show 0 + 1 * j.val = j.val; omega))

theorem read_writes_rows_hi (v : View sig κ sp S128x50 .bf16) (X : v.ty.Contents (Elt Ideal)) (inb : ∀ a, (![64, 0] : Fin 2 → ℕ) a + S64x50.size a ≤ S128x50.size a)
    (w : S64x50.Idx → EReal) (L : List (View.Piece (Elt Ideal) S128x50 .bf16)) (b : Fin 64) (j : Fin 50) :
    hiRows (v.read (Elt Ideal) (v.writes (Elt Ideal) X (⟨Rect.unit (s := S128x50) ![64, 0] S64x50.size inb, w⟩ :: L))) (ix2 b j) = w (ix2 b j) :=
  View.read_writes_cons_unit_of_mem v X inb w L _ (ix2 b j) rfl fun a => by
    fin_cases a
    · rfl
    · show j.val = 0 + j.val; omega

theorem read_writes_rows_lo (v : View sig κ sp S128x50 .bf16) (X : v.ty.Contents (Elt Ideal)) (inb : ∀ a, (![64, 0] : Fin 2 → ℕ) a + S64x50.size a ≤ S128x50.size a)
    (inb' : ∀ a, (![0, 0] : Fin 2 → ℕ) a + S64x50.size a ≤ S128x50.size a)
    (w w' : S64x50.Idx → EReal) (L : List (View.Piece (Elt Ideal) S128x50 .bf16)) (b : Fin 64) (j : Fin 50) :
    loRows (v.read (Elt Ideal) (v.writes (Elt Ideal) X (⟨Rect.unit (s := S128x50) ![64, 0] S64x50.size inb, w⟩
      :: ⟨Rect.unit (s := S128x50) ![0, 0] S64x50.size inb', w'⟩ :: L))) (ix2 b j) = w' (ix2 b j) := by
  unfold loRows
  rw [View.read_writes_cons_unit_of_not_mem v X inb w _ _ rfl 0 (Or.inl b.isLt)]
  exact View.read_writes_cons_unit_of_mem v X inb' w' L _ (ix2 b j) rfl fun a => by
    fin_cases a
    · show b.val = 0 + b.val; omega
    · show j.val = 0 + j.val; omega

end Loads

end Cert.KernelIdeal.Hand

end
-- ==== Proof.KI.Trip2.lean ====
module

public import proofs.«01_k».proof.Proof.KI.Load
public import Idealize.ShloMosaic.Lib.VecWindow
public import Idealize.ShloMosaic.Lib.WritesUnit

@[expose] public section

/-!
One trip of the loop over a later chunk (four steps), and the whole loop.
-/

set_option maxRecDepth 16384

noncomputable section

namespace Cert.KernelIdeal.Hand

open Idealize.ShloMosaic Cert.KernelIdeal Cert.KernelIdeal.Gen

theorem k0_t2_lt (k : Fin k0_t2_loop.trips) : k.val < 8 := Nat.lt_of_lt_of_le k.isLt k0_t2_abs.2.1

/-- One trip: four steps. -/
theorem k0_t2_trip (𝒱 : Variants) (c : Dev nD) (bd : Option 𝒱.V) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole) (v0 : IVec S128x50 32) (k0_h2 : k0_cond2 i = 1#1) (X_arg1 : BufTy.Contents (Elt Ideal) arg1.view.ty) (X_arg2 : BufTy.Contents (Elt Ideal) arg2.view.ty) (X_arg7 : BufTy.Contents (Elt Ideal) arg7.view.ty) (X_arg8 : BufTy.Contents (Elt Ideal) arg8.view.ty) (k : Fin k0_t2_loop.trips)
    (D : Data) (base n : ℕ) (hn : n + 1 = base + (4 * k.val)) (hf : Feats D base (arg1.view.read (Elt Ideal) X_arg1))
    (hp : Tags D base (arg2.view.read (Elt Ideal) X_arg2)) (he : IsExpT D (arg7.view.read (Elt Ideal) X_arg7)) (ht : IsT D (arg8.view.read (Elt Ideal) X_arg8))
    (hv : IsIota v0) (acc : QT Ideal × QT Ideal) (f6 : BufTy.Contents (Elt Ideal) arg6.view.ty) (f9 : BufTy.Contents (Elt Ideal) arg9.view.ty)
    (H : LoopInv D n acc (arg6.view.read (Elt Ideal) f6) (arg9.view.read (Elt Ideal) f9)) :
    LoopInv D (n + 4) ((trip_k0_t2 (F := Ideal) 𝒱 c bd i arg1 harg1 arg2 harg2 arg3 harg3 arg4 harg4 arg5 harg5 arg6 harg6 arg7 harg7 arg8 harg8 arg9 harg9 v0 k0_h2 X_arg1 X_arg2 X_arg7 X_arg8 k).1 acc f6 f9)
      (arg6.view.read (Elt Ideal) (arg6.view.writes (Elt Ideal) f6 ((trip_k0_t2 (F := Ideal) 𝒱 c bd i arg1 harg1 arg2 harg2 arg3 harg3 arg4 harg4 arg5 harg5 arg6 harg6 arg7 harg7 arg8 harg8 arg9 harg9 v0 k0_h2 X_arg1 X_arg2 X_arg7 X_arg8 k).2.1 acc f6 f9)))
      (arg9.view.read (Elt Ideal) (arg9.view.writes (Elt Ideal) f9 ((trip_k0_t2 (F := Ideal) 𝒱 c bd i arg1 harg1 arg2 harg2 arg3 harg3 arg4 harg4 arg5 harg5 arg6 harg6 arg7 harg7 arg8 harg8 arg9 harg9 v0 k0_h2 X_arg1 X_arg2 X_arg7 X_arg8 k).2.2.1 acc f6 f9))) := by
  obtain ⟨H1, H2, H3⟩ := H
  have hk := k0_t2_lt k
  have e1 : n + 1 = base + (4 * k.val) := hn
  have e2 : n + 2 = base + (4 * k.val + 0 + 1) := by omega
  have e3 : n + 3 = base + (4 * k.val + 1 + 1) := by omega
  have e4 : n + 4 = base + (4 * k.val + 2 + 1) := by omega
  unfold trip_k0_t2
  dsimp only
  refine ⟨?_, ?_, ?_⟩
  · refine Half.congr (quadLo_ok (o := arg6.view.readAt (Elt Ideal) (Rect.unit (s := S128x1) ![0, 0] S64x1.size inb_S128x1_S64x1_0_0).toLoadRect f6)
      (H1.congr (fun _ _ => rfl) fun b => read_lo _ _ inb_S128x1_S64x1_0_0 b) (isExpT_load he ![0, 0] inb_S50x50_S50x50_0_0) (e1 ▸ isF_load hf _ (k0_off7_eq k) (by omega) (k0_off7_inb i k k0_h2))
      (e2 ▸ isF_load hf _ (k0_off10_eq k 0) (by omega) (k0_off10_inb i k k0_h2 0)) (e3 ▸ isF_load hf _ (k0_off10_eq k 1) (by omega) (k0_off10_inb i k k0_h2 1))
      (e4 ▸ isF_load hf _ (k0_off10_eq k 2) (by omega) (k0_off10_inb i k k0_h2 2))) (fun _ _ => rfl) fun b => ?_
    exact (read_writes_lo _ _ _ _ _ _ _ b).trans rfl
  · refine Half.congr (quadHi_ok (o := arg6.view.readAt (Elt Ideal) (Rect.unit (s := S128x1) ![64, 0] S64x1.size inb_S128x1_S64x1_64_0).toLoadRect f6)
      (H2.congr (fun _ _ => rfl) fun b => read_hi _ _ inb_S128x1_S64x1_64_0 b) (isExpT_load he ![0, 0] inb_S50x50_S50x50_0_0) (e1 ▸ isF_load hf _ (k0_off7_eq k) (by omega) (k0_off7_inb i k k0_h2))
      (e2 ▸ isF_load hf _ (k0_off10_eq k 0) (by omega) (k0_off10_inb i k k0_h2 0)) (e3 ▸ isF_load hf _ (k0_off10_eq k 1) (by omega) (k0_off10_inb i k k0_h2 1))
      (e4 ▸ isF_load hf _ (k0_off10_eq k 2) (by omega) (k0_off10_inb i k k0_h2 2))) (fun _ _ => rfl) fun b => ?_
    exact (read_writes_hi _ _ _ _ _ b).trans rfl
  · refine Gold.congr (quadGold_ok (v0 := v0) H3 hv (isT_load ht ![0, 0] inb_S50x50_S50x50_0_0) (e1 ▸ isF_load hf _ (k0_off7_eq k) (by omega) (k0_off7_inb i k k0_h2))
      (e2 ▸ isF_load hf _ (k0_off10_eq k 0) (by omega) (k0_off10_inb i k k0_h2 0)) (e3 ▸ isF_load hf _ (k0_off10_eq k 1) (by omega) (k0_off10_inb i k k0_h2 1))
      (e4 ▸ isF_load hf _ (k0_off10_eq k 2) (by omega) (k0_off10_inb i k k0_h2 2))
      (e1 ▸ isPrev_load hp _ (k0_off8_eq k) (by omega) (k0_off8_inb i k k0_h2)) (e2 ▸ isPrev_load hp _ (k0_off11_eq k 0) (by omega) (k0_off11_inb i k k0_h2 0))
      (e3 ▸ isPrev_load hp _ (k0_off11_eq k 1) (by omega) (k0_off11_inb i k k0_h2 1)) (e4 ▸ isPrev_load hp _ (k0_off11_eq k 2) (by omega) (k0_off11_inb i k k0_h2 2))
      (e1 ▸ isCur_load hp _ (k0_off9_eq k) (by omega) (k0_off9_inb i k k0_h2)) (e2 ▸ isCur_load hp _ (k0_off12_eq k 0) (by omega) (k0_off12_inb i k k0_h2 0))
      (e3 ▸ isCur_load hp _ (k0_off12_eq k 1) (by omega) (k0_off12_inb i k k0_h2 1)) (e4 ▸ isCur_load hp _ (k0_off12_eq k 2) (by omega) (k0_off12_inb i k k0_h2 2))) ?_
    rw [View.read_writes_full]
    unfold trip_k0_t2.sl.v203 trip_k0_t2.sl.HW_arg9_3
    rw [View.readCov_full]
    unfold trip_k0_t2.sl.v161 trip_k0_t2.sl.HW_arg9_2
    rw [View.readCov_full]
    unfold trip_k0_t2.sl.v99 trip_k0_t2.sl.HW_arg9_1
    rw [View.readCov_full, View.readAt_full arg9.view]
    unfold quadGold trip_k0_t2.sl.r_4 trip_k0_t2.sl.r_5 trip_k0_t2.sl.r_6 trip_k0_t2.sl.r_9 trip_k0_t2.sl.r_10 trip_k0_t2.sl.r_11 trip_k0_t2.sl.r_20
    rfl

/-- The loop: before trip `k`, `4 k` steps are done. -/
theorem k0_t2_loop_ok (𝒱 : Variants) (c : Dev nD) (bd : Option 𝒱.V) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole) (v0 : IVec S128x50 32) (k0_h2 : k0_cond2 i = 1#1) (X_arg1 : BufTy.Contents (Elt Ideal) arg1.view.ty) (X_arg2 : BufTy.Contents (Elt Ideal) arg2.view.ty) (X_arg7 : BufTy.Contents (Elt Ideal) arg7.view.ty) (X_arg8 : BufTy.Contents (Elt Ideal) arg8.view.ty)
    (D : Data) (base n : ℕ) (hn : n + 1 = base + 0) (hf : Feats D base (arg1.view.read (Elt Ideal) X_arg1))
    (hp : Tags D base (arg2.view.read (Elt Ideal) X_arg2)) (he : IsExpT D (arg7.view.read (Elt Ideal) X_arg7)) (ht : IsT D (arg8.view.read (Elt Ideal) X_arg8))
    (hv : IsIota v0) (init : QT Ideal × QT Ideal) (G6 : BufTy.Contents (Elt Ideal) arg6.view.ty) (G9 : BufTy.Contents (Elt Ideal) arg9.view.ty)
    (H : LoopInv D n init (arg6.view.read (Elt Ideal) G6) (arg9.view.read (Elt Ideal) G9)) (k : ℕ) (hk : k ≤ k0_t2_loop.trips) :
    LoopInv D (n + 4 * k) (st_k0_t2 (F := Ideal) 𝒱 c bd i arg1 harg1 arg2 harg2 arg3 harg3 arg4 harg4 arg5 harg5 arg6 harg6 arg7 harg7 arg8 harg8 arg9 harg9 v0 k0_h2 X_arg1 X_arg2 X_arg7 X_arg8 G6 G9 init k).1
      (arg6.view.read (Elt Ideal) (arg6.view.writes (Elt Ideal) G6 (st_k0_t2 (F := Ideal) 𝒱 c bd i arg1 harg1 arg2 harg2 arg3 harg3 arg4 harg4 arg5 harg5 arg6 harg6 arg7 harg7 arg8 harg8 arg9 harg9 v0 k0_h2 X_arg1 X_arg2 X_arg7 X_arg8 G6 G9 init k).2.1))
      (arg9.view.read (Elt Ideal) (arg9.view.writes (Elt Ideal) G9 (st_k0_t2 (F := Ideal) 𝒱 c bd i arg1 harg1 arg2 harg2 arg3 harg3 arg4 harg4 arg5 harg5 arg6 harg6 arg7 harg7 arg8 harg8 arg9 harg9 v0 k0_h2 X_arg1 X_arg2 X_arg7 X_arg8 G6 G9 init k).2.2)) := by
  induction k with
  | zero => exact H
  | succ k ih =>
    rw [st_k0_t2_succ 𝒱 c bd i arg1 harg1 arg2 harg2 arg3 harg3 arg4 harg4 arg5 harg5 arg6 harg6 arg7 harg7 arg8 harg8 arg9 harg9 v0 k0_h2 X_arg1 X_arg2 X_arg7 X_arg8 G6 G9 init ⟨k, hk⟩]
    simp only [View.writes_append]
    exact k0_t2_trip 𝒱 c bd i arg1 harg1 arg2 harg2 arg3 harg3 arg4 harg4 arg5 harg5 arg6 harg6 arg7 harg7 arg8 harg8 arg9 harg9 v0 k0_h2 X_arg1 X_arg2 X_arg7 X_arg8 ⟨k, hk⟩ D base (n + 4 * k) (by show _ = base + (4 * k); omega) hf hp he ht hv _ _ _ (ih (by omega))

end Cert.KernelIdeal.Hand

end
-- ==== Proof.KI.PointMid.lean ====
module

public import proofs.«01_k».proof.Proof.KI.Trip2
public import proofs.«01_k».proof.Proof.KI.BodyMid
public import Idealize.ShloMosaic.Lib.VecWindow
public import Idealize.ShloMosaic.Lib.WritesUnit

@[expose] public section

/-!
What a later grid point does, at the ideal algebra: `runMid` (no output) and `runLast` (the output too).
-/

set_option maxRecDepth 16384

noncomputable section

namespace Cert.KernelIdeal.Hand

open Idealize.ShloMosaic Cert.KernelIdeal Cert.KernelIdeal.Gen

theorem trips_k0_t2 : k0_t2_loop.trips = 8 := by decide +kernel

theorem isIota : IsIota (iota .tc S128x50 32 [1] iota_S128x50_d1_w32) := fun b l => by pointwise []

/-- The halves of the batch as the later points load them. -/
abbrev halves (arg5 : Memref sig .tc .vmem S128x50 .bf16) (f5 : BufTy.Contents (Elt Ideal) arg5.view.ty) : QT Ideal × QT Ideal :=
  (arg5.view.readAt (Elt Ideal) (Rect.unit (s := S128x50) ![0, 0] S64x50.size inb_S128x50_S64x50_0_0).toLoadRect f5,
    arg5.view.readAt (Elt Ideal) (Rect.unit (s := S128x50) ![64, 0] S64x50.size inb_S128x50_S64x50_64_0).toLoadRect f5)

theorem halves_ok {D : Data} {n : ℕ} {arg5 : Memref sig .tc .vmem S128x50 .bf16} {f5 : BufTy.Contents (Elt Ideal) arg5.view.ty} {o : S128x1.Idx → EReal}
    {g : S128x50.Idx → EReal} (H : LoopInv D n (loRows (arg5.view.read (Elt Ideal) f5), hiRows (arg5.view.read (Elt Ideal) f5)) o g) :
    LoopInv D n (halves arg5 f5) o g :=
  ⟨H.1.congr (fun b j => read_rows_lo _ _ _ b j) fun _ => rfl, H.2.1.congr (fun b j => read_rows_hi _ _ _ b j) fun _ => rfl, H.2.2⟩

/-- The state of the loop after its last trip, in a later point. -/
abbrev endMid (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)

    (h2 : k0_cond2 i = 1#1) (x1 : BufTy.Contents (Elt Ideal) arg1.view.ty) (x2 : BufTy.Contents (Elt Ideal) arg2.view.ty) (x7 : BufTy.Contents (Elt Ideal) arg7.view.ty) (x8 : BufTy.Contents (Elt Ideal) arg8.view.ty) (f5 : BufTy.Contents (Elt Ideal) arg5.view.ty) (f6 : BufTy.Contents (Elt Ideal) arg6.view.ty) (f9 : BufTy.Contents (Elt Ideal) arg9.view.ty) :=
  st_k0_t2 (F := Ideal) Variants.none c none i arg1 harg1 arg2 harg2 arg3 harg3 arg4 harg4 arg5 harg5 arg6 harg6 arg7 harg7 arg8 harg8 arg9 harg9 (iota .tc S128x50 32 [1] iota_S128x50_d1_w32) h2 x1 x2 x7 x8 f6 f9 (halves arg5 f5) k0_t2_loop.trips

/-- The whole chunk: thirty-two steps. -/
theorem endMid_ok (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)

    (h2 : k0_cond2 i = 1#1) (x1 : BufTy.Contents (Elt Ideal) arg1.view.ty) (x2 : BufTy.Contents (Elt Ideal) arg2.view.ty) (x7 : BufTy.Contents (Elt Ideal) arg7.view.ty) (x8 : BufTy.Contents (Elt Ideal) arg8.view.ty)
    (D : Data) (base n : ℕ) (hn : n + 1 = base) (hf : Feats D base (arg1.view.read (Elt Ideal) x1)) (hp : Tags D base (arg2.view.read (Elt Ideal) x2))
    (he : IsExpT D (arg7.view.read (Elt Ideal) x7)) (ht : IsT D (arg8.view.read (Elt Ideal) x8))
    (f5 : BufTy.Contents (Elt Ideal) arg5.view.ty) (f6 : BufTy.Contents (Elt Ideal) arg6.view.ty) (f9 : BufTy.Contents (Elt Ideal) arg9.view.ty)
    (H : LoopInv D n (loRows (arg5.view.read (Elt Ideal) f5), hiRows (arg5.view.read (Elt Ideal) f5)) (arg6.view.read (Elt Ideal) f6) (arg9.view.read (Elt Ideal) f9)) :
    LoopInv D (n + 32) (endMid c i arg1 harg1 arg2 harg2 arg3 harg3 arg4 harg4 arg5 harg5 arg6 harg6 arg7 harg7 arg8 harg8 arg9 harg9 h2 x1 x2 x7 x8 f5 f6 f9).1
      (arg6.view.read (Elt Ideal) (arg6.view.writes (Elt Ideal) f6 (endMid c i arg1 harg1 arg2 harg2 arg3 harg3 arg4 harg4 arg5 harg5 arg6 harg6 arg7 harg7 arg8 harg8 arg9 harg9 h2 x1 x2 x7 x8 f5 f6 f9).2.1))
      (arg9.view.read (Elt Ideal) (arg9.view.writes (Elt Ideal) f9 (endMid c i arg1 harg1 arg2 harg2 arg3 harg3 arg4 harg4 arg5 harg5 arg6 harg6 arg7 harg7 arg8 harg8 arg9 harg9 h2 x1 x2 x7 x8 f5 f6 f9).2.2)) := by
  have h := k0_t2_loop_ok Variants.none c none i arg1 harg1 arg2 harg2 arg3 harg3 arg4 harg4 arg5 harg5 arg6 harg6 arg7 harg7 arg8 harg8 arg9 harg9 (iota .tc S128x50 32 [1] iota_S128x50_d1_w32) h2 x1 x2 x7 x8 D base n hn hf hp he ht isIota
    (halves arg5 f5) f6 f9 (halves_ok H) k0_t2_loop.trips le_rfl
  rwa [show n + 4 * k0_t2_loop.trips = n + 32 by rw [trips_k0_t2]] at h

/-- The halves stored back. -/
theorem stored_ok {D : Data} {n : ℕ} {arg5 : Memref sig .tc .vmem S128x50 .bf16} (f5 : BufTy.Contents (Elt Ideal) arg5.view.ty) {o : S128x1.Idx → EReal}
    {g : S128x50.Idx → EReal} {acc : QT Ideal × QT Ideal} {w1 w2 : QT Ideal} (h1 : w1 = acc.1) (h2 : w2 = acc.2) (H : LoopInv D n acc o g) :
    LoopInv D n (loRows (arg5.view.read (Elt Ideal) (arg5.view.writes (Elt Ideal) f5 [⟨Rect.unit (s := S128x50) ![64, 0] S64x50.size inb_S128x50_S64x50_64_0, w2⟩,
        ⟨Rect.unit (s := S128x50) ![0, 0] S64x50.size inb_S128x50_S64x50_0_0, w1⟩])),
      hiRows (arg5.view.read (Elt Ideal) (arg5.view.writes (Elt Ideal) f5 [⟨Rect.unit (s := S128x50) ![64, 0] S64x50.size inb_S128x50_S64x50_64_0, w2⟩,
        ⟨Rect.unit (s := S128x50) ![0, 0] S64x50.size inb_S128x50_S64x50_0_0, w1⟩]))) o g := by
  subst h1 h2
  exact ⟨H.1.congr (fun b j => read_writes_rows_lo _ _ _ _ _ _ _ b j) fun _ => rfl, H.2.1.congr (fun b j => read_writes_rows_hi _ _ _ _ _ b j) fun _ => rfl, H.2.2⟩

theorem pay3_eq (x : QT Ideal) : k0_pay3 x = x := shapeCast_id _ _
theorem pay4_eq (x : QT Ideal) : k0_pay4 x = x := shapeCast_id _ _

/-- A later point: thirty-two steps. -/
theorem runMid_ok (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)
    (h1 : ¬ k0_cond1 i = 1#1) (h2 : k0_cond2 i = 1#1) (h3 : ¬ k0_cond3 i = 1#1) (x1 : BufTy.Contents (Elt Ideal) arg1.view.ty) (x2 : BufTy.Contents (Elt Ideal) arg2.view.ty) (x7 : BufTy.Contents (Elt Ideal) arg7.view.ty) (x8 : BufTy.Contents (Elt Ideal) arg8.view.ty)
    (D : Data) (base n : ℕ) (hn : n + 1 = base) (hf : Feats D base (arg1.view.read (Elt Ideal) x1)) (hp : Tags D base (arg2.view.read (Elt Ideal) x2))
    (he : IsExpT D (arg7.view.read (Elt Ideal) x7)) (ht : IsT D (arg8.view.read (Elt Ideal) x8))
    (f5 : BufTy.Contents (Elt Ideal) arg5.view.ty) (f6 : BufTy.Contents (Elt Ideal) arg6.view.ty) (f9 : BufTy.Contents (Elt Ideal) arg9.view.ty)
    (H : LoopInv D n (loRows (arg5.view.read (Elt Ideal) f5), hiRows (arg5.view.read (Elt Ideal) f5)) (arg6.view.read (Elt Ideal) f6) (arg9.view.read (Elt Ideal) f9)) :
    LoopInv D (n + 32) (loRows (arg5.view.read (Elt Ideal) ((runMid (F := Ideal) c i arg1 harg1 arg2 harg2 arg3 harg3 arg4 harg4 arg5 harg5 arg6 harg6 arg7 harg7 arg8 harg8 arg9 harg9 h1 h2 h3 x1 x2 x7 x8).1 f5 f6 f9)),
        hiRows (arg5.view.read (Elt Ideal) ((runMid (F := Ideal) c i arg1 harg1 arg2 harg2 arg3 harg3 arg4 harg4 arg5 harg5 arg6 harg6 arg7 harg7 arg8 harg8 arg9 harg9 h1 h2 h3 x1 x2 x7 x8).1 f5 f6 f9)))
      (arg6.view.read (Elt Ideal) ((runMid (F := Ideal) c i arg1 harg1 arg2 harg2 arg3 harg3 arg4 harg4 arg5 harg5 arg6 harg6 arg7 harg7 arg8 harg8 arg9 harg9 h1 h2 h3 x1 x2 x7 x8).2.1 f5 f6 f9)) (arg9.view.read (Elt Ideal) ((runMid (F := Ideal) c i arg1 harg1 arg2 harg2 arg3 harg3 arg4 harg4 arg5 harg5 arg6 harg6 arg7 harg7 arg8 harg8 arg9 harg9 h1 h2 h3 x1 x2 x7 x8).2.2.1 f5 f6 f9)) := by
  have h := endMid_ok c i arg1 harg1 arg2 harg2 arg3 harg3 arg4 harg4 arg5 harg5 arg6 harg6 arg7 harg7 arg8 harg8 arg9 harg9 h2 x1 x2 x7 x8 D base n hn hf hp he ht f5 f6 f9 H
  have h' := stored_ok f5 (pay3_eq _) (pay4_eq _) h
  unfold runMid
  dsimp only
  unfold runMid.sl.v0
  exact h'

end Cert.KernelIdeal.Hand

end
-- ==== Proof.KI.Trip1.lean ====
module

public import proofs.«01_k».proof.Proof.KI.Load
public import Idealize.ShloMosaic.Lib.VecWindow
public import Idealize.ShloMosaic.Lib.WritesUnit

@[expose] public section

/-!
One trip of the loop over the first chunk (four steps), and the whole loop.
-/

set_option maxRecDepth 16384

noncomputable section

namespace Cert.KernelIdeal.Hand

open Idealize.ShloMosaic Cert.KernelIdeal Cert.KernelIdeal.Gen

theorem k0_t1_lt (k : Fin k0_t1_loop.trips) : k.val < 7 := Nat.lt_of_lt_of_le k.isLt k0_t1_abs.2.1

/-- One trip: four steps. -/
theorem k0_t1_trip (𝒱 : Variants) (c : Dev nD) (bd : Option 𝒱.V) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole) (v0 : IVec S128x50 32) (k0_h1 : k0_cond1 i = 1#1) (v140 : FVec Ideal S64x50 .f32) (v144 : FVec Ideal S64x50 .f32) (v145 : FVec Ideal S64x50 .f32) (X_arg1 : BufTy.Contents (Elt Ideal) arg1.view.ty) (X_arg2 : BufTy.Contents (Elt Ideal) arg2.view.ty) (X_arg7 : BufTy.Contents (Elt Ideal) arg7.view.ty) (X_arg8 : BufTy.Contents (Elt Ideal) arg8.view.ty) (k : Fin k0_t1_loop.trips)
    (D : Data) (base n : ℕ) (hn : n + 1 = base + (4 * k.val + 4)) (hf : Feats D base (arg1.view.read (Elt Ideal) X_arg1))
    (hp : Tags D base (arg2.view.read (Elt Ideal) X_arg2)) (he : IsExpT D (arg7.view.read (Elt Ideal) X_arg7)) (ht : IsT D (arg8.view.read (Elt Ideal) X_arg8))
    (hv : IsIota v0) (acc : QT Ideal × QT Ideal) (f6 : BufTy.Contents (Elt Ideal) arg6.view.ty) (f9 : BufTy.Contents (Elt Ideal) arg9.view.ty)
    (H : LoopInv D n acc (arg6.view.read (Elt Ideal) f6) (arg9.view.read (Elt Ideal) f9)) :
    LoopInv D (n + 4) ((trip_k0_t1 (F := Ideal) 𝒱 c bd i arg1 harg1 arg2 harg2 arg3 harg3 arg4 harg4 arg5 harg5 arg6 harg6 arg7 harg7 arg8 harg8 arg9 harg9 v0 k0_h1 v140 v144 v145 X_arg1 X_arg2 X_arg7 X_arg8 k).1 acc f6 f9)
      (arg6.view.read (Elt Ideal) (arg6.view.writes (Elt Ideal) f6 ((trip_k0_t1 (F := Ideal) 𝒱 c bd i arg1 harg1 arg2 harg2 arg3 harg3 arg4 harg4 arg5 harg5 arg6 harg6 arg7 harg7 arg8 harg8 arg9 harg9 v0 k0_h1 v140 v144 v145 X_arg1 X_arg2 X_arg7 X_arg8 k).2.1 acc f6 f9)))
      (arg9.view.read (Elt Ideal) (arg9.view.writes (Elt Ideal) f9 ((trip_k0_t1 (F := Ideal) 𝒱 c bd i arg1 harg1 arg2 harg2 arg3 harg3 arg4 harg4 arg5 harg5 arg6 harg6 arg7 harg7 arg8 harg8 arg9 harg9 v0 k0_h1 v140 v144 v145 X_arg1 X_arg2 X_arg7 X_arg8 k).2.2.1 acc f6 f9))) := by
  obtain ⟨H1, H2, H3⟩ := H
  have hk := k0_t1_lt k
  have e1 : n + 1 = base + (4 * k.val + 4) := hn
  have e2 : n + 2 = base + (4 * k.val + 0 + 5) := by omega
  have e3 : n + 3 = base + (4 * k.val + 1 + 5) := by omega
  have e4 : n + 4 = base + (4 * k.val + 2 + 5) := by omega
  unfold trip_k0_t1
  dsimp only
  refine ⟨?_, ?_, ?_⟩
  · refine Half.congr (quadLo_ok (o := arg6.view.readAt (Elt Ideal) (Rect.unit (s := S128x1) ![0, 0] S64x1.size inb_S128x1_S64x1_0_0).toLoadRect f6)
      (H1.congr (fun _ _ => rfl) fun b => read_lo _ _ inb_S128x1_S64x1_0_0 b) (isExpT_load he ![0, 0] inb_S50x50_S50x50_0_0) (e1 ▸ isF_load hf _ (k0_off1_eq k) (by omega) (k0_off1_inb i k k0_h1))
      (e2 ▸ isF_load hf _ (k0_off4_eq k 0) (by omega) (k0_off4_inb i k k0_h1 0)) (e3 ▸ isF_load hf _ (k0_off4_eq k 1) (by omega) (k0_off4_inb i k k0_h1 1))
      (e4 ▸ isF_load hf _ (k0_off4_eq k 2) (by omega) (k0_off4_inb i k k0_h1 2))) (fun _ _ => rfl) fun b => ?_
    exact (read_writes_lo _ _ _ _ _ _ _ b).trans rfl
  · refine Half.congr (quadHi_ok (o := arg6.view.readAt (Elt Ideal) (Rect.unit (s := S128x1) ![64, 0] S64x1.size inb_S128x1_S64x1_64_0).toLoadRect f6)
      (H2.congr (fun _ _ => rfl) fun b => read_hi _ _ inb_S128x1_S64x1_64_0 b) (isExpT_load he ![0, 0] inb_S50x50_S50x50_0_0) (e1 ▸ isF_load hf _ (k0_off1_eq k) (by omega) (k0_off1_inb i k k0_h1))
      (e2 ▸ isF_load hf _ (k0_off4_eq k 0) (by omega) (k0_off4_inb i k k0_h1 0)) (e3 ▸ isF_load hf _ (k0_off4_eq k 1) (by omega) (k0_off4_inb i k k0_h1 1))
      (e4 ▸ isF_load hf _ (k0_off4_eq k 2) (by omega) (k0_off4_inb i k k0_h1 2))) (fun _ _ => rfl) fun b => ?_
    exact (read_writes_hi _ _ _ _ _ b).trans rfl
  · refine Gold.congr (quadGold_ok (v0 := v0) H3 hv (isT_load ht ![0, 0] inb_S50x50_S50x50_0_0) (e1 ▸ isF_load hf _ (k0_off1_eq k) (by omega) (k0_off1_inb i k k0_h1))
      (e2 ▸ isF_load hf _ (k0_off4_eq k 0) (by omega) (k0_off4_inb i k k0_h1 0)) (e3 ▸ isF_load hf _ (k0_off4_eq k 1) (by omega) (k0_off4_inb i k k0_h1 1))
      (e4 ▸ isF_load hf _ (k0_off4_eq k 2) (by omega) (k0_off4_inb i k k0_h1 2))
      (e1 ▸ isPrev_load hp _ (k0_off2_eq k) (by omega) (k0_off2_inb i k k0_h1)) (e2 ▸ isPrev_load hp _ (k0_off5_eq k 0) (by omega) (k0_off5_inb i k k0_h1 0))
      (e3 ▸ isPrev_load hp _ (k0_off5_eq k 1) (by omega) (k0_off5_inb i k k0_h1 1)) (e4 ▸ isPrev_load hp _ (k0_off5_eq k 2) (by omega) (k0_off5_inb i k k0_h1 2))
      (e1 ▸ isCur_load hp _ (k0_off3_eq k) (by omega) (k0_off3_inb i k k0_h1)) (e2 ▸ isCur_load hp _ (k0_off6_eq k 0) (by omega) (k0_off6_inb i k k0_h1 0))
      (e3 ▸ isCur_load hp _ (k0_off6_eq k 1) (by omega) (k0_off6_inb i k k0_h1 1)) (e4 ▸ isCur_load hp _ (k0_off6_eq k 2) (by omega) (k0_off6_inb i k k0_h1 2))) ?_
    rw [View.read_writes_full]
    unfold trip_k0_t1.sl.v363 trip_k0_t1.sl.HW_arg9_3
    rw [View.readCov_full]
    unfold trip_k0_t1.sl.v321 trip_k0_t1.sl.HW_arg9_2
    rw [View.readCov_full]
    unfold trip_k0_t1.sl.v259 trip_k0_t1.sl.HW_arg9_1
    rw [View.readCov_full, View.readAt_full arg9.view]
    unfold quadGold trip_k0_t1.sl.r_4 trip_k0_t1.sl.r_5 trip_k0_t1.sl.r_6 trip_k0_t1.sl.r_9 trip_k0_t1.sl.r_10 trip_k0_t1.sl.r_11 trip_k0_t1.sl.r_20
    rfl

/-- The loop: before trip `k`, `4 k` steps are done. -/
theorem k0_t1_loop_ok (𝒱 : Variants) (c : Dev nD) (bd : Option 𝒱.V) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole) (v0 : IVec S128x50 32) (k0_h1 : k0_cond1 i = 1#1) (v140 : FVec Ideal S64x50 .f32) (v144 : FVec Ideal S64x50 .f32) (v145 : FVec Ideal S64x50 .f32) (X_arg1 : BufTy.Contents (Elt Ideal) arg1.view.ty) (X_arg2 : BufTy.Contents (Elt Ideal) arg2.view.ty) (X_arg7 : BufTy.Contents (Elt Ideal) arg7.view.ty) (X_arg8 : BufTy.Contents (Elt Ideal) arg8.view.ty)
    (D : Data) (base n : ℕ) (hn : n + 1 = base + 4) (hf : Feats D base (arg1.view.read (Elt Ideal) X_arg1))
    (hp : Tags D base (arg2.view.read (Elt Ideal) X_arg2)) (he : IsExpT D (arg7.view.read (Elt Ideal) X_arg7)) (ht : IsT D (arg8.view.read (Elt Ideal) X_arg8))
    (hv : IsIota v0) (init : QT Ideal × QT Ideal) (G6 : BufTy.Contents (Elt Ideal) arg6.view.ty) (G9 : BufTy.Contents (Elt Ideal) arg9.view.ty)
    (H : LoopInv D n init (arg6.view.read (Elt Ideal) G6) (arg9.view.read (Elt Ideal) G9)) (k : ℕ) (hk : k ≤ k0_t1_loop.trips) :
    LoopInv D (n + 4 * k) (st_k0_t1 (F := Ideal) 𝒱 c bd i arg1 harg1 arg2 harg2 arg3 harg3 arg4 harg4 arg5 harg5 arg6 harg6 arg7 harg7 arg8 harg8 arg9 harg9 v0 k0_h1 v140 v144 v145 X_arg1 X_arg2 X_arg7 X_arg8 G6 G9 init k).1
      (arg6.view.read (Elt Ideal) (arg6.view.writes (Elt Ideal) G6 (st_k0_t1 (F := Ideal) 𝒱 c bd i arg1 harg1 arg2 harg2 arg3 harg3 arg4 harg4 arg5 harg5 arg6 harg6 arg7 harg7 arg8 harg8 arg9 harg9 v0 k0_h1 v140 v144 v145 X_arg1 X_arg2 X_arg7 X_arg8 G6 G9 init k).2.1))
      (arg9.view.read (Elt Ideal) (arg9.view.writes (Elt Ideal) G9 (st_k0_t1 (F := Ideal) 𝒱 c bd i arg1 harg1 arg2 harg2 arg3 harg3 arg4 harg4 arg5 harg5 arg6 harg6 arg7 harg7 arg8 harg8 arg9 harg9 v0 k0_h1 v140 v144 v145 X_arg1 X_arg2 X_arg7 X_arg8 G6 G9 init k).2.2)) := by
  induction k with
  | zero => exact H
  | succ k ih =>
    rw [st_k0_t1_succ 𝒱 c bd i arg1 harg1 arg2 harg2 arg3 harg3 arg4 harg4 arg5 harg5 arg6 harg6 arg7 harg7 arg8 harg8 arg9 harg9 v0 k0_h1 v140 v144 v145 X_arg1 X_arg2 X_arg7 X_arg8 G6 G9 init ⟨k, hk⟩]
    simp only [View.writes_append]
    exact k0_t1_trip 𝒱 c bd i arg1 harg1 arg2 harg2 arg3 harg3 arg4 harg4 arg5 harg5 arg6 harg6 arg7 harg7 arg8 harg8 arg9 harg9 v0 k0_h1 v140 v144 v145 X_arg1 X_arg2 X_arg7 X_arg8 ⟨k, hk⟩ D base (n + 4 * k) (by show _ = base + (4 * k + 4); omega) hf hp he ht hv _ _ _ (ih (by omega))

end Cert.KernelIdeal.Hand

end
-- ==== Proof.KI.FirstMath.lean ====
module

public import proofs.«01_k».proof.Proof.KI.PointMid
public import proofs.«01_k».proof.Proof.KI.Trip1
public import proofs.«01_k».proof.Proof.KI.BodyFirst
public import Idealize.ShloMosaic.Lib.VecWindow
public import Idealize.ShloMosaic.Lib.WritesUnit

@[expose] public section

/-!
What the first grid point does, at the ideal algebra: the set-up, steps `0 … 3`, then the loop.
-/

set_option maxRecDepth 16384

noncomputable section

namespace Cert.KernelIdeal.Hand

open Idealize.ShloMosaic Cert.KernelIdeal Cert.KernelIdeal.Gen

theorem trips_k0_t1 : k0_t1_loop.trips = 7 := by decide +kernel

theorem ofBits_negInf_f32 : Ideal.ofBits .f32 0xFF800000#32 = ⊥ := by simp [Ideal.ofBits, Ideal.ieee]

/-- A maximum of reals from minus infinity is real. -/
theorem fold_max_real {n : ℕ} (hn : 0 < n) (f : Fin n → EReal) (Q : Fin n → ℝ) (hf : ∀ i, f i = ((Q i : ℝ) : EReal)) :
    ∃ r : ℝ, Finset.univ.fold max (⊥ : EReal) f = ((r : ℝ) : EReal) := by
  have h1 : ((Q ⟨0, hn⟩ : ℝ) : EReal) ≤ Finset.univ.fold max (⊥ : EReal) f :=
    (Finset.le_fold_max _).2 (Or.inr ⟨⟨0, hn⟩, Finset.mem_univ _, (hf _).ge⟩)
  have h2 : Finset.univ.fold max (⊥ : EReal) f < ⊤ :=
    (Finset.fold_max_lt _).2 ⟨bot_lt_top, fun x _ => by rw [hf]; exact EReal.coe_lt_top _⟩
  have h3 : Finset.univ.fold max (⊥ : EReal) f ≠ ⊥ := fun h => by rw [h] at h1; exact absurd h1 (not_le.2 (EReal.bot_lt_coe _))
  exact ⟨_, (EReal.coe_toReal h2.ne h3).symm⟩

variable {D : Data} {β : Fin 64 → Fin 128}

/-- Step `0`: the scores less their row maximum, and the maximum as the offset. -/
theorem Half.first {q : S64x50.Idx → EReal} {o : Fin 64 → EReal} {v : FT Ideal} {s : S1x50.Idx → EReal} (hv : IsF D 0 v)
    (hs : ∀ j, s (ix2 0 j) = ((D.t 48 j : ℝ) : EReal))
    (ho : ∀ b, o b = Finset.univ.fold max (⊥ : EReal) fun j => v (ix3 0 (β b) j) + s (ix2 0 j))
    (hq : ∀ b j, q (ix2 b j) = Ideal.exp (v (ix3 0 (β b) j) + s (ix2 0 j) - o b)) : Half D β 0 q o := by
  choose r hr using fun b => fold_max_real (by decide) (fun j => v (ix3 0 (β b) j) + s (ix2 0 j)) (fun j => D.f 0 (β b) j + D.t 48 j)
    (fun j => by rw [hv, hs, EReal.coe_add])
  refine ⟨fun b j => Real.exp (D.f 0 (β b) j + D.t 48 j - r b), r, fun b j => ?_, fun _ _ => Real.exp_pos _, fun b => by rw [ho, hr], fun b j => ?_⟩
  · rw [hq, ho, hr, hv, hs, ← EReal.coe_add, ← EReal.coe_sub, Ideal.exp_coe]
  · rw [← Real.exp_add, add_sub_cancel]; rfl

/-- The row of the transition scores out of the start tag. -/
theorem isRow_load {κ : Kind} {sp : Space} {v : View sig κ sp S50x50 .f32} {X : v.ty.Contents (Elt Ideal)} (h : IsT D (v.read (Elt Ideal) X))
    (inb : ∀ a, (![48, 0] : Fin 2 → ℕ) a + S1x50.size a ≤ S50x50.size a) (j : Fin 50) :
    v.readAt (Elt Ideal) (Rect.unit (s := S50x50) ![48, 0] S1x50.size inb).toLoadRect X (ix2 0 j) = ((D.t 48 j : ℝ) : EReal) := by
  rw [← h 48 j]
  exact congrArg (v.read (Elt Ideal) X) (funext fun a => Fin.ext (by
    fin_cases a
    · rfl
    · show 0 + 1 * j.val = j.val; omega))

section Four

variable {f0 f1 f2 f3 : FT Ideal} {s : FVec Ideal S1x50 .f32} {e t : TT Ideal}

/-- Steps `0 … 3` of the first half, -/
theorem fourLo_ok (he : IsExpT D e) (hs : ∀ j, s (ix2 0 j) = ((D.t 48 j : ℝ) : EReal)) (h0 : IsF D 0 f0) (h1 : IsF D 1 f1) (h2 : IsF D 2 f2) (h3 : IsF D 3 f3) :
    Half D lo 3 (k0_pay59 (F := Ideal) (k0_pay58 (k0_pay52 (k0_pay48 (k0_pay41 f0 s) f1 e) f2 e) f3 e)) fun b => k0_pay43 (F := Ideal) f0 s (ix2 (lo b) 0) := by
  have H0 : Half D lo 0 (k0_pay41 (F := Ideal) f0 s) fun b => k0_pay43 (F := Ideal) f0 s (ix2 (lo b) 0) :=
    Half.first (s := s) h0 hs (fun b => by rw [← ofBits_negInf_f32]; pointwise [k0_pay43, k0_pay39, k0_pay38])
      (fun b j => by pointwise [k0_pay43, k0_pay41, k0_pay40, k0_pay39, k0_pay38]; rfl)
  have H1 : Half D lo 1 (k0_pay48 (F := Ideal) (k0_pay41 f0 s) f1 e) _ := H0.step he h1 fun b j => by
    generalize k0_pay41 (F := Ideal) f0 s = x; pointwise [k0_pay48, k0_pay47]; rfl
  have H2 : Half D lo 2 (k0_pay52 (F := Ideal) (k0_pay48 (k0_pay41 f0 s) f1 e) f2 e) _ := H1.step he h2 fun b j => by
    generalize k0_pay48 (F := Ideal) (k0_pay41 f0 s) f1 e = x; pointwise [k0_pay52, k0_pay51]; rfl
  exact H2.step he h3 fun b j => by
    generalize k0_pay52 (F := Ideal) (k0_pay48 (k0_pay41 f0 s) f1 e) f2 e = x; pointwise [k0_pay59, k0_pay58, k0_pay55]; rfl

/-- of the second half, -/
theorem fourHi_ok (he : IsExpT D e) (hs : ∀ j, s (ix2 0 j) = ((D.t 48 j : ℝ) : EReal)) (h0 : IsF D 0 f0) (h1 : IsF D 1 f1) (h2 : IsF D 2 f2) (h3 : IsF D 3 f3) :
    Half D hi 3 (k0_pay60 (F := Ideal) (k0_pay56 f3) (k0_pay57 (k0_pay53 (k0_pay49 (k0_pay42 f0 s) f1 e) f2 e) e)) fun b => k0_pay43 (F := Ideal) f0 s (ix2 (hi b) 0) := by
  have H0 : Half D hi 0 (k0_pay42 (F := Ideal) f0 s) fun b => k0_pay43 (F := Ideal) f0 s (ix2 (hi b) 0) :=
    Half.first (s := s) h0 hs (fun b => by rw [← ofBits_negInf_f32]; pointwise [k0_pay43, k0_pay39, k0_pay38])
      (fun b j => by pointwise [k0_pay43, k0_pay42, k0_pay40, k0_pay39, k0_pay38]; rfl)
  have H1 : Half D hi 1 (k0_pay49 (F := Ideal) (k0_pay42 f0 s) f1 e) _ := H0.step he h1 fun b j => by
    generalize k0_pay42 (F := Ideal) f0 s = x; pointwise [k0_pay49, k0_pay47]; rfl
  have H2 : Half D hi 2 (k0_pay53 (F := Ideal) (k0_pay49 (k0_pay42 f0 s) f1 e) f2 e) _ := H1.step he h2 fun b j => by
    generalize k0_pay49 (F := Ideal) (k0_pay42 f0 s) f1 e = x; pointwise [k0_pay53, k0_pay51]; rfl
  exact H2.step he h3 fun b j => by
    generalize k0_pay53 (F := Ideal) (k0_pay49 (k0_pay42 f0 s) f1 e) f2 e = x; pointwise [k0_pay60, k0_pay57, k0_pay56, k0_pay55]; rfl

variable {v0 : IVec S128x50 32} {p0 p1 p2 p3 c0 c1 c2 c3 : TagT}

/-- and of the accumulator. -/
theorem fourGold_ok (hv : IsIota v0) (ht : IsT D t) (h0 : IsF D 0 f0) (h1 : IsF D 1 f1) (h2 : IsF D 2 f2) (h3 : IsF D 3 f3)
    (a0 : IsPrev D 0 p0) (a1 : IsPrev D 1 p1) (a2 : IsPrev D 2 p2) (a3 : IsPrev D 3 p3) (b0 : IsCur D 0 c0) (b1 : IsCur D 1 c1) (b2 : IsCur D 2 c2) (b3 : IsCur D 3 c3) :
    Gold D 3 (k0_pay61 (F := Ideal) v0 f3 p3 c3 t (k0_pay54 (F := Ideal) v0 f2 p2 c2 t (k0_pay50 (F := Ideal) v0 f1 p1 c1 t (k0_pay46 (F := Ideal) v0 (k0_pay45 f0) p0 c0 t (k0_pay44 (F := Ideal)))))) := by
  have z : Ideal.ofBits .f32 0#32 = 0 := by simp [Ideal.ofBits, Ideal.ieee]
  have H0 : Gold D 0 (k0_pay46 (F := Ideal) v0 (k0_pay45 f0) p0 c0 t (k0_pay44 (F := Ideal))) :=
    Gold.first (g := k0_pay44 (F := Ideal)) (fun b j => by pointwise [k0_pay44]) fun b j => by
      rw [← gold_term b j hv (hv b j) (a0 b) (b0 b) (h0 b j) ht]
      generalize k0_pay44 (F := Ideal) = x
      pointwise [k0_pay46, k0_pay45]
      try rfl
  have H1 : Gold D 1 (k0_pay50 (F := Ideal) v0 f1 p1 c1 t (k0_pay46 (F := Ideal) v0 (k0_pay45 f0) p0 c0 t (k0_pay44 (F := Ideal)))) := H0.step fun b j => by
    rw [← gold_term b j hv (hv b j) (a1 b) (b1 b) (h1 b j) ht]
    generalize k0_pay46 (F := Ideal) v0 (k0_pay45 f0) p0 c0 t (k0_pay44 (F := Ideal)) = x
    pointwise [k0_pay50]
    try rfl
  have H2 : Gold D 2 (k0_pay54 (F := Ideal) v0 f2 p2 c2 t (k0_pay50 (F := Ideal) v0 f1 p1 c1 t (k0_pay46 (F := Ideal) v0 (k0_pay45 f0) p0 c0 t (k0_pay44 (F := Ideal))))) := H1.step fun b j => by
    rw [← gold_term b j hv (hv b j) (a2 b) (b2 b) (h2 b j) ht]
    generalize k0_pay50 (F := Ideal) v0 f1 p1 c1 t (k0_pay46 (F := Ideal) v0 (k0_pay45 f0) p0 c0 t (k0_pay44 (F := Ideal))) = x
    pointwise [k0_pay54]
    try rfl
  exact H2.step fun b j => by
    rw [← gold_term b j hv (hv b j) (a3 b) (b3 b) (h3 b j) ht]
    generalize k0_pay54 (F := Ideal) v0 f2 p2 c2 t (k0_pay50 (F := Ideal) v0 f1 p1 c1 t (k0_pay46 (F := Ideal) v0 (k0_pay45 f0) p0 c0 t (k0_pay44 (F := Ideal)))) = x
    pointwise [k0_pay61]
    try rfl

end Four

theorem pay36_ok {t : FVec Ideal S50x50 .f32} (h : IsT D t) : IsExpT D (k0_pay36 (F := Ideal) t) := fun i j => by
  rw [← Ideal.exp_coe, ← h i j]; pointwise [k0_pay36]

theorem pay37_ok {t : FVec Ideal S50x50 .f32} (h : IsT D t) : IsT D (k0_pay37 (F := Ideal) t) := fun i j => by
  rw [← h i j]; pointwise [k0_pay37]

end Cert.KernelIdeal.Hand

end
-- ==== Proof.KI.PointFirst.lean ====
module

public import proofs.«01_k».proof.Proof.KI.FirstMath
public import Idealize.ShloMosaic.Lib.VecWindow
public import Idealize.ShloMosaic.Lib.WritesUnit

@[expose] public section

/-!
The first grid point: the buffers it leaves, at the ideal algebra.
-/

set_option maxRecDepth 16384

noncomputable section

namespace Cert.KernelIdeal.Hand

open Idealize.ShloMosaic Cert.KernelIdeal Cert.KernelIdeal.Gen

theorem first_e (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)
    (h1 : k0_cond1 i = 1#1) (h2 : ¬ k0_cond2 i = 1#1) (h3 : ¬ k0_cond3 i = 1#1) (x1 : BufTy.Contents (Elt Ideal) arg1.view.ty) (x2 : BufTy.Contents (Elt Ideal) arg2.view.ty) (x3 : BufTy.Contents (Elt Ideal) arg3.view.ty)
    (D : Data) (hf : Feats D 0 (arg1.view.read (Elt Ideal) x1)) (hp : Tags D 0 (arg2.view.read (Elt Ideal) x2))
    (ht : IsT D (arg3.view.read (Elt Ideal) x3)) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) :
    IsExpT D (arg7.view.read (Elt Ideal) ((runFirst (F := Ideal) c i arg1 harg1 arg2 harg2 arg3 harg3 arg4 harg4 arg5 harg5 arg6 harg6 arg7 harg7 arg8 harg8 arg9 harg9 h1 h2 h3 x1 x2 x3).2.2.1 f5 f6 f7 f8 f9)) := by
  have h := pay36_ok ht
  unfold runFirst
  dsimp only
  unfold runFirst.sl.H7_1
  rw [View.read_writes_full, View.readAt_full]
  exact h

theorem first_b (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)
    (h1 : k0_cond1 i = 1#1) (h2 : ¬ k0_cond2 i = 1#1) (h3 : ¬ k0_cond3 i = 1#1) (x1 : BufTy.Contents (Elt Ideal) arg1.view.ty) (x2 : BufTy.Contents (Elt Ideal) arg2.view.ty) (x3 : BufTy.Contents (Elt Ideal) arg3.view.ty)
    (D : Data) (hf : Feats D 0 (arg1.view.read (Elt Ideal) x1)) (hp : Tags D 0 (arg2.view.read (Elt Ideal) x2))
    (ht : IsT D (arg3.view.read (Elt Ideal) x3)) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) :
    IsT D (arg8.view.read (Elt Ideal) ((runFirst (F := Ideal) c i arg1 harg1 arg2 harg2 arg3 harg3 arg4 harg4 arg5 harg5 arg6 harg6 arg7 harg7 arg8 harg8 arg9 harg9 h1 h2 h3 x1 x2 x3).2.2.2.1 f5 f6 f7 f8 f9)) := by
  have h := pay37_ok ht
  unfold runFirst
  dsimp only
  unfold runFirst.sl.H8_1
  rw [View.read_writes_full, View.readAt_full]
  exact h

/-- A load of the first point reads step `k`. -/
theorem at_step {k : ℕ} {P : ℕ → Prop} (h : P (0 + k)) : P k := by rwa [Nat.zero_add] at h

theorem first_ok (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)
    (h1 : k0_cond1 i = 1#1) (h2 : ¬ k0_cond2 i = 1#1) (h3 : ¬ k0_cond3 i = 1#1) (x1 : BufTy.Contents (Elt Ideal) arg1.view.ty) (x2 : BufTy.Contents (Elt Ideal) arg2.view.ty) (x3 : BufTy.Contents (Elt Ideal) arg3.view.ty)
    (D : Data) (hf : Feats D 0 (arg1.view.read (Elt Ideal) x1)) (hp : Tags D 0 (arg2.view.read (Elt Ideal) x2))
    (ht : IsT D (arg3.view.read (Elt Ideal) x3)) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) :
    LoopInv D 31 (loRows (arg5.view.read (Elt Ideal) ((runFirst (F := Ideal) c i arg1 harg1 arg2 harg2 arg3 harg3 arg4 harg4 arg5 harg5 arg6 harg6 arg7 harg7 arg8 harg8 arg9 harg9 h1 h2 h3 x1 x2 x3).1 f5 f6 f7 f8 f9)), hiRows (arg5.view.read (Elt Ideal) ((runFirst (F := Ideal) c i arg1 harg1 arg2 harg2 arg3 harg3 arg4 harg4 arg5 harg5 arg6 harg6 arg7 harg7 arg8 harg8 arg9 harg9 h1 h2 h3 x1 x2 x3).1 f5 f6 f7 f8 f9)))
      (arg6.view.read (Elt Ideal) ((runFirst (F := Ideal) c i arg1 harg1 arg2 harg2 arg3 harg3 arg4 harg4 arg5 harg5 arg6 harg6 arg7 harg7 arg8 harg8 arg9 harg9 h1 h2 h3 x1 x2 x3).2.1 f5 f6 f7 f8 f9)) (arg9.view.read (Elt Ideal) ((runFirst (F := Ideal) c i arg1 harg1 arg2 harg2 arg3 harg3 arg4 harg4 arg5 harg5 arg6 harg6 arg7 harg7 arg8 harg8 arg9 harg9 h1 h2 h3 x1 x2 x3).2.2.2.2.1 f5 f6 f7 f8 f9)) := by
  have he : IsExpT D (arg7.view.read (Elt Ideal) (arg7.view.writes (Elt Ideal) arg7.view.junk (runFirst.sl.H7_1 arg3 x3))) := by
    unfold runFirst.sl.H7_1; rw [View.read_writes_full, View.readAt_full]; exact pay36_ok ht
  have hb : IsT D (arg8.view.read (Elt Ideal) (arg8.view.writes (Elt Ideal) arg8.view.junk (runFirst.sl.H8_1 arg3 x3))) := by
    unfold runFirst.sl.H8_1; rw [View.read_writes_full, View.readAt_full]; exact pay37_ok ht
  have f0 := at_step (P := fun k => IsF D k _) (isF_load hf 0 rfl (by omega) inb_S32x128x50_S1x128x50_0_0_0)
  have f1 := at_step (P := fun k => IsF D k _) (isF_load hf 1 rfl (by omega) inb_S32x128x50_S1x128x50_1_0_0)
  have f2 := at_step (P := fun k => IsF D k _) (isF_load hf 2 rfl (by omega) inb_S32x128x50_S1x128x50_2_0_0)
  have f3 := at_step (P := fun k => IsF D k _) (isF_load hf 3 rfl (by omega) inb_S32x128x50_S1x128x50_3_0_0)
  have p0 := at_step (P := fun k => IsPrev D k _) (isPrev_load hp 0 rfl (by omega) inb_S32x128x2_S1x128x1_0_0_0)
  have p1 := at_step (P := fun k => IsPrev D k _) (isPrev_load hp 1 rfl (by omega) inb_S32x128x2_S1x128x1_1_0_0)
  have p2 := at_step (P := fun k => IsPrev D k _) (isPrev_load hp 2 rfl (by omega) inb_S32x128x2_S1x128x1_2_0_0)
  have p3 := at_step (P := fun k => IsPrev D k _) (isPrev_load hp 3 rfl (by omega) inb_S32x128x2_S1x128x1_3_0_0)
  have c0 := at_step (P := fun k => IsCur D k _) (isCur_load hp 0 rfl (by omega) inb_S32x128x2_S1x128x1_0_0_1)
  have c1 := at_step (P := fun k => IsCur D k _) (isCur_load hp 1 rfl (by omega) inb_S32x128x2_S1x128x1_1_0_1)
  have c2 := at_step (P := fun k => IsCur D k _) (isCur_load hp 2 rfl (by omega) inb_S32x128x2_S1x128x1_2_0_1)
  have c3 := at_step (P := fun k => IsCur D k _) (isCur_load hp 3 rfl (by omega) inb_S32x128x2_S1x128x1_3_0_1)
  have he' : IsExpT D (runFirst.sl.v69 (F := Ideal) arg3 arg7 x3) := by unfold runFirst.sl.v69; exact isExpT_load he ![0, 0] inb_S50x50_S50x50_0_0
  have hb' : IsT D (runFirst.sl.v52 (F := Ideal) arg3 arg8 x3) := by unfold runFirst.sl.v52; exact isT_load hb ![0, 0] inb_S50x50_S50x50_0_0
  have hs := isRow_load ht inb_S50x50_S1x50_48_0
  have H1 := fourLo_ok he' hs f0 f1 f2 f3
  have H2 := fourHi_ok he' hs f0 f1 f2 f3
  have H3 := fourGold_ok isIota hb' f0 f1 f2 f3 p0 p1 p2 p3 c0 c1 c2 c3
  have H : LoopInv D 3 (k0_pay59 (F := Ideal) (runFirst.sl.r_9 arg1 arg3 arg7 x1 x3), k0_pay60 (F := Ideal) (runFirst.sl.r_7 arg1 x1) (runFirst.sl.r_8 arg1 arg3 arg7 x1 x3))
      (arg6.view.read (Elt Ideal) (arg6.view.writes (Elt Ideal) arg6.view.junk (runFirst.sl.H6_1 arg1 arg3 x1 x3))) (arg9.view.read (Elt Ideal) (arg9.view.writes (Elt Ideal) arg9.view.junk (runFirst.sl.H9_5 arg1 arg2 arg3 arg8 arg9 x1 x2 x3))) := by
    refine ⟨H1.congr (fun _ _ => rfl) fun b => ?_, H2.congr (fun _ _ => rfl) fun b => ?_, ?_⟩
    · unfold runFirst.sl.H6_1; rw [View.read_writes_full]
    · unfold runFirst.sl.H6_1; rw [View.read_writes_full]
    refine H3.congr ?_
    unfold runFirst.sl.H9_5
    rw [View.read_writes_full]
    unfold runFirst.sl.v162 runFirst.sl.H9_4
    rw [View.readCov_full]
    unfold runFirst.sl.v126 runFirst.sl.H9_3
    rw [View.readCov_full]
    unfold runFirst.sl.v90 runFirst.sl.H9_2
    rw [View.readCov_full]
    unfold runFirst.sl.v54 runFirst.sl.H9_1
    rw [View.readCov_full]
    rfl
  have h := k0_t1_loop_ok Variants.none c none i arg1 harg1 arg2 harg2 arg3 harg3 arg4 harg4 arg5 harg5 arg6 harg6 arg7 harg7 arg8 harg8 arg9 harg9 (iota .tc S128x50 32 [1] iota_S128x50_d1_w32) h1 (runFirst.sl.r_7 arg1 x1) (runFirst.sl.r_8 arg1 arg3 arg7 x1 x3)
    (runFirst.sl.r_9 arg1 arg3 arg7 x1 x3) x1 x2 (arg7.view.writes (Elt Ideal) arg7.view.junk (runFirst.sl.H7_1 arg3 x3)) (arg8.view.writes (Elt Ideal) arg8.view.junk (runFirst.sl.H8_1 arg3 x3)) D 0 3 rfl hf hp he hb isIota _ (arg6.view.writes (Elt Ideal) arg6.view.junk (runFirst.sl.H6_1 arg1 arg3 x1 x3)) (arg9.view.writes (Elt Ideal) arg9.view.junk (runFirst.sl.H9_5 arg1 arg2 arg3 arg8 arg9 x1 x2 x3)) H k0_t1_loop.trips le_rfl
  rw [show 3 + 4 * k0_t1_loop.trips = 31 by rw [trips_k0_t1]] at h
  have h' := stored_ok (arg5 := arg5) f5 (shapeCast_id _ shapeCasts_S64x50_S64x50) (shapeCast_id _ shapeCasts_S64x50_S64x50) h
  unfold runFirst
  dsimp only
  simp only [View.writes_append]
  exact h'

end Cert.KernelIdeal.Hand

end
-- ==== Proof.KI.PointLast.lean ====
module

public import proofs.«01_k».proof.Proof.KI.PointMid
public import Idealize.ShloMosaic.Lib.VecWindow
public import Idealize.ShloMosaic.Lib.WritesUnit

@[expose] public section

/-!
What the last grid point does, at the ideal algebra: the chunk of a later point, and the output from what it leaves.
-/

set_option maxRecDepth 16384

noncomputable section

namespace Cert.KernelIdeal.Hand

open Idealize.ShloMosaic Cert.KernelIdeal Cert.KernelIdeal.Gen

/-- Both halves together: every row has real positive scores and a real offset. -/
theorem rows_of {D : Data} {n : ℕ} {q g : S128x50.Idx → EReal} {o : S128x1.Idx → EReal} (H : LoopInv D n (loRows q, hiRows q) o g) (b : Fin 128) :
    ∃ (Q : Fin 50 → ℝ) (O : ℝ), (∀ j, q (ix2 b j) = ((Q j : ℝ) : EReal)) ∧ (∀ j, 0 < Q j) ∧ o (ix2 b 0) = ((O : ℝ) : EReal)
      ∧ ∀ j, Real.exp O * Q j = D.P n b j := by
  by_cases hb : b.val < 64
  · obtain ⟨Q, O, h1, h2, h3, h4⟩ := H.1
    have e : lo ⟨b.val, hb⟩ = b := Fin.ext rfl
    exact ⟨Q ⟨b.val, hb⟩, O ⟨b.val, hb⟩, fun j => by rw [← h1]; show _ = q (ix2 (lo ⟨b.val, hb⟩) j); rw [e], h2 _,
      by rw [← h3]; beta_reduce; rw [e], fun j => by rw [h4, e]⟩
  · obtain ⟨Q, O, h1, h2, h3, h4⟩ := H.2.1
    have hb' : b.val - 64 < 64 := by omega
    have e : hi ⟨b.val - 64, hb'⟩ = b := Fin.ext (by show 64 + (b.val - 64) = b.val; omega)
    exact ⟨Q ⟨b.val - 64, hb'⟩, O ⟨b.val - 64, hb'⟩, fun j => by rw [← h1]; show _ = q (ix2 (hi ⟨b.val - 64, hb'⟩) j); rw [e], h2 _,
      by rw [← h3]; beta_reduce; rw [e], fun j => by rw [h4, e]⟩

/-- The output from what the last point leaves. -/
theorem final_ok {D : Data} {n : ℕ} {q : FVec Ideal S128x50 .bf16} {g : FVec Ideal S128x50 .f32} {o : FVec Ideal S128x1 .f32} {t : FVec Ideal S50x50 .f32}
    {c : TagT} (H : LoopInv D n (loRows q, hiRows q) o g) (ht : IsT D t) (hc : IsCur D n c) :
    k0_pay5 (F := Ideal) q t o c t g (ix2 0 0) = ((D.nll n : ℝ) : EReal) := by
  choose Q O h1 h2 h3 h4 using rows_of H
  obtain ⟨G, g1, g2⟩ := H.2.2
  pointwise [k0_pay5]
  have hs : ∀ b x : Fin _, FloatOps.sitofp (F := Ideal) FTy.f32 (BitVec.setWidth 32 (IntOp.cmpi CmpIPredicate.eq (BitVec.ofNat 32 x.val) (c (ix3 0 b 0)))) * t (ix2 x 49)
      = (((if x = D.cur n b then D.t x 49 else 0 : ℝ)) : EReal) := fun b x => by
    rw [hc b, cmpi_ofNat, ht]
    by_cases hx : x = D.cur n b
    · rw [if_pos hx, if_pos hx]; show (((BitVec.setWidth 32 1#1).toInt : ℝ) : EReal) * _ = _
      rw [show (BitVec.setWidth 32 1#1).toInt = 1 from rfl, Int.cast_one, EReal.coe_one, one_mul]
    · rw [if_neg hx, if_neg hx]; show (((BitVec.setWidth 32 0#1).toInt : ℝ) : EReal) * _ = _
      rw [show (BitVec.setWidth 32 0#1).toInt = 0 from rfl, Int.cast_zero, EReal.coe_zero, zero_mul]
  have hl : ∀ b, o (ix2 b 0) + Ideal.log (∑ i, q (ix2 b i) * Ideal.exp (t (ix2 i 49)))
      = ((Real.log (∑ i, D.P n b i * Real.exp (D.t i 49)) : ℝ) : EReal) := fun b => by
    have hpos : 0 < ∑ i, Q b i * Real.exp (D.t i 49) := Finset.sum_pos (fun i _ => mul_pos (h2 b i) (Real.exp_pos _)) ⟨0, Finset.mem_univ _⟩
    have e : ∑ i, D.P n b i * Real.exp (D.t i 49) = Real.exp (O b) * ∑ i, Q b i * Real.exp (D.t i 49) := by
      rw [Finset.mul_sum]; exact Finset.sum_congr rfl fun i _ => by rw [← h4]; ring
    have e2 : ∑ i, q (ix2 b i) * Ideal.exp (t (ix2 i 49)) = ((∑ i, Q b i * Real.exp (D.t i 49) : ℝ) : EReal) := by
      simp only [h1, ht _ _, Ideal.exp_coe, ← EReal.coe_mul, coe_sum]
    rw [e2, Ideal.log_coe, if_neg (not_le.2 hpos), h3, e, Real.log_mul (Real.exp_pos _).ne' hpos.ne', Real.log_exp, EReal.coe_add]
  simp only [hs, hl, g1, coe_sum, Finset.sum_ite_eq', Finset.mem_univ, if_true, ← EReal.coe_add, ← EReal.coe_sub, g2]
  rfl

/-- The last point: thirty-two steps, -/
theorem runLast_ok (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)
    (h1 : ¬ k0_cond1 i = 1#1) (h2 : k0_cond2 i = 1#1) (h3 : k0_cond3 i = 1#1) (x1 : BufTy.Contents (Elt Ideal) arg1.view.ty) (x2 : BufTy.Contents (Elt Ideal) arg2.view.ty) (x3 : BufTy.Contents (Elt Ideal) arg3.view.ty) (x7 : BufTy.Contents (Elt Ideal) arg7.view.ty) (x8 : BufTy.Contents (Elt Ideal) arg8.view.ty)
    (D : Data) (base n : ℕ) (hn : n + 1 = base) (hf : Feats D base (arg1.view.read (Elt Ideal) x1)) (hp : Tags D base (arg2.view.read (Elt Ideal) x2))
    (he : IsExpT D (arg7.view.read (Elt Ideal) x7)) (ht : IsT D (arg8.view.read (Elt Ideal) x8))
    (f4 : BufTy.Contents (Elt Ideal) arg4.view.ty) (f5 : BufTy.Contents (Elt Ideal) arg5.view.ty) (f6 : BufTy.Contents (Elt Ideal) arg6.view.ty) (f9 : BufTy.Contents (Elt Ideal) arg9.view.ty)
    (H : LoopInv D n (loRows (arg5.view.read (Elt Ideal) f5), hiRows (arg5.view.read (Elt Ideal) f5)) (arg6.view.read (Elt Ideal) f6) (arg9.view.read (Elt Ideal) f9)) :
    LoopInv D (n + 32) (loRows (arg5.view.read (Elt Ideal) ((runLast (F := Ideal) c i arg1 harg1 arg2 harg2 arg3 harg3 arg4 harg4 arg5 harg5 arg6 harg6 arg7 harg7 arg8 harg8 arg9 harg9 h1 h2 h3 x1 x2 x3 x7 x8).2.1 f4 f5 f6 f9)),
        hiRows (arg5.view.read (Elt Ideal) ((runLast (F := Ideal) c i arg1 harg1 arg2 harg2 arg3 harg3 arg4 harg4 arg5 harg5 arg6 harg6 arg7 harg7 arg8 harg8 arg9 harg9 h1 h2 h3 x1 x2 x3 x7 x8).2.1 f4 f5 f6 f9)))
      (arg6.view.read (Elt Ideal) ((runLast (F := Ideal) c i arg1 harg1 arg2 harg2 arg3 harg3 arg4 harg4 arg5 harg5 arg6 harg6 arg7 harg7 arg8 harg8 arg9 harg9 h1 h2 h3 x1 x2 x3 x7 x8).2.2.1 f4 f5 f6 f9)) (arg9.view.read (Elt Ideal) ((runLast (F := Ideal) c i arg1 harg1 arg2 harg2 arg3 harg3 arg4 harg4 arg5 harg5 arg6 harg6 arg7 harg7 arg8 harg8 arg9 harg9 h1 h2 h3 x1 x2 x3 x7 x8).2.2.2.1 f4 f5 f6 f9)) := by
  have h := endMid_ok c i arg1 harg1 arg2 harg2 arg3 harg3 arg4 harg4 arg5 harg5 arg6 harg6 arg7 harg7 arg8 harg8 arg9 harg9 h2 x1 x2 x7 x8 D base n hn hf hp he ht f5 f6 f9 H
  have h' := stored_ok f5 (pay3_eq _) (pay4_eq _) h
  unfold runLast
  dsimp only
  unfold runLast.sl.H5_2 runLast.sl.v0
  exact h'

/-- and the output. -/
theorem runLast_out (c : Dev nD) (i : grid0.Coords) (arg1 : Memref sig .tc .vmem S32x128x50 .f32) (harg1 : arg1.IsWhole) (arg2 : Memref sig .tc .vmem S32x128x2 .i32) (harg2 : arg2.IsWhole) (arg3 : Memref sig .tc .vmem S50x50 .f32) (harg3 : arg3.IsWhole) (arg4 : Memref sig .tc .vmem S1x1 .f32) (harg4 : arg4.IsWhole) (arg5 : Memref sig .tc .vmem S128x50 .bf16) (harg5 : arg5.IsWhole) (arg6 : Memref sig .tc .vmem S128x1 .f32) (harg6 : arg6.IsWhole) (arg7 : Memref sig .tc .vmem S50x50 .bf16) (harg7 : arg7.IsWhole) (arg8 : Memref sig .tc .vmem S50x50 .bf16) (harg8 : arg8.IsWhole) (arg9 : Memref sig .tc .vmem S128x50 .f32) (harg9 : arg9.IsWhole)
    (h1 : ¬ k0_cond1 i = 1#1) (h2 : k0_cond2 i = 1#1) (h3 : k0_cond3 i = 1#1) (x1 : BufTy.Contents (Elt Ideal) arg1.view.ty) (x2 : BufTy.Contents (Elt Ideal) arg2.view.ty) (x3 : BufTy.Contents (Elt Ideal) arg3.view.ty) (x7 : BufTy.Contents (Elt Ideal) arg7.view.ty) (x8 : BufTy.Contents (Elt Ideal) arg8.view.ty)
    (D : Data) (base n : ℕ) (hn : n + 1 = base) (hf : Feats D base (arg1.view.read (Elt Ideal) x1)) (hp : Tags D base (arg2.view.read (Elt Ideal) x2))
    (he : IsExpT D (arg7.view.read (Elt Ideal) x7)) (ht : IsT D (arg8.view.read (Elt Ideal) x8))
    (ht3 : IsT D (arg3.view.read (Elt Ideal) x3))
    (f4 : BufTy.Contents (Elt Ideal) arg4.view.ty) (f5 : BufTy.Contents (Elt Ideal) arg5.view.ty) (f6 : BufTy.Contents (Elt Ideal) arg6.view.ty) (f9 : BufTy.Contents (Elt Ideal) arg9.view.ty)
    (H : LoopInv D n (loRows (arg5.view.read (Elt Ideal) f5), hiRows (arg5.view.read (Elt Ideal) f5)) (arg6.view.read (Elt Ideal) f6) (arg9.view.read (Elt Ideal) f9)) :
    arg4.view.read (Elt Ideal) ((runLast (F := Ideal) c i arg1 harg1 arg2 harg2 arg3 harg3 arg4 harg4 arg5 harg5 arg6 harg6 arg7 harg7 arg8 harg8 arg9 harg9 h1 h2 h3 x1 x2 x3 x7 x8).1 f4 f5 f6 f9) (ix2 0 0) = ((D.nll (n + 32) : ℝ) : EReal) := by
  have h := stored_ok (arg5 := arg5) arg5.view.junk (pay3_eq _) (pay4_eq _) (endMid_ok c i arg1 harg1 arg2 harg2 arg3 harg3 arg4 harg4 arg5 harg5 arg6 harg6 arg7 harg7 arg8 harg8 arg9 harg9 h2 x1 x2 x7 x8 D base n hn hf hp he ht f5 f6 f9 H)
  have hc : IsCur D (n + 32) (arg2.view.readAt (Elt Ideal) (Rect.unit (s := S32x128x2) ![31, 0, 1] S1x128x1.size inb_S32x128x2_S1x128x1_31_0_1).toLoadRect x2) := by
    rw [show n + 32 = base + 31 by omega]; exact isCur_load hp 31 rfl (by omega) _
  have e := final_ok h ht3 hc
  refine Eq.trans ?_ e
  unfold runLast
  dsimp only
  rw [View.read_writes_full]
  unfold runLast.sl.v10 runLast.sl.v15 runLast.sl.v32
  unfold View.readCov
  rw [View.readAt_full arg5.view, View.readAt_full arg6.view, View.readAt_full arg9.view, View.readAt_full arg3.view]
  rfl

end Cert.KernelIdeal.Hand

end
-- ==== Proof.KI.Invariant.lean ====
module

public import proofs.«01_k».proof.Proof.KI.Steps
public import proofs.«01_k».proof.Proof.KI.PointFirst
public import proofs.«01_k».proof.Proof.KI.PointLast

@[expose] public section

/-!
The invariant of the kernel's pipeline, at the ideal algebra: before grid point `k > 0` the scratch is in the state of step
`32 k - 1`; the output the last point leaves is the negative log likelihood after step `255`.
-/

set_option maxRecDepth 16384

noncomputable section

namespace Cert.KernelIdeal.Hand

open Idealize.ShloMosaic Cert.KernelIdeal Cert.KernelIdeal.Gen

/-- The scratch is in state `n`. -/
def ScrInv (D : Data) (n : ℕ) (s : Scr Ideal) : Prop :=
  LoopInv D n (loRows ((Memref.whole cc0_scratch0 : Memref sig .tc .vmem S128x50 .bf16).view.read (Elt Ideal) s.q),
      hiRows ((Memref.whole cc0_scratch0 : Memref sig .tc .vmem S128x50 .bf16).view.read (Elt Ideal) s.q))
    ((Memref.whole cc0_scratch1 : Memref sig .tc .vmem S128x1 .f32).view.read (Elt Ideal) s.o)
    ((Memref.whole cc0_scratch4 : Memref sig .tc .vmem S128x50 .f32).view.read (Elt Ideal) s.g)
  ∧ IsExpT D ((Memref.whole cc0_scratch2 : Memref sig .tc .vmem S50x50 .bf16).view.read (Elt Ideal) s.e)
  ∧ IsT D ((Memref.whole cc0_scratch3 : Memref sig .tc .vmem S50x50 .bf16).view.read (Elt Ideal) s.b)

/-- The pipeline's invariant. -/
def PipeInv (D : Data) (k : ℕ) (s : Scr Ideal) : Prop := k = 0 ∨ ScrInv D (32 * k - 1) s

/-- What the output block holds. -/
def OutIs (D : Data) (y : S1x1.Idx → EReal) : Prop := y (ix2 0 0) = ((D.nll 255 : ℝ) : EReal)

theorem tracks (m : (ℓ : Loc nD τ sig) → Buf (Elt Ideal) ℓ) (c : Dev nD) (D : Data) (hF : ∀ t, Feats D (32 * t.val) (iblk m c 0 t))
    (hT : ∀ t, Tags D (32 * t.val) (iblk m c 1 t)) (hW : ∀ t, IsT D (iblk m c 2 t)) : Tracks m c (PipeInv D) (OutIs D) where
  start _ := Or.inl rfl
  first t arg1 harg1 arg2 harg2 arg3 harg3 arg4 harg4 h1 h2 h3 x1 x2 x3 s ht e1 e2 e3 := by
    refine Or.inr ?_
    have hf := hF t; rw [ht, ← e1] at hf
    have hp := hT t; rw [ht, ← e2] at hp
    have hw := hW t; rw [← e3] at hw
    have r1 := first_ok c (grid0.coords t) arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 x3 D hf hp hw s.q s.o s.e s.b s.g
    have r2 := first_e c (grid0.coords t) arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 x3 D hf hp hw s.q s.o s.e s.b s.g
    have r3 := first_b c (grid0.coords t) arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 x3 D hf hp hw s.q s.o s.e s.b s.g
    unfold ScrInv sFirst
    exact ⟨r1, r2, r3⟩
  mid t arg1 harg1 arg2 harg2 arg3 harg3 arg4 harg4 h1 h2 h3 x1 x2 s h0 h7 e1 e2 H := by
    refine Or.inr ?_
    have hf := hF t; rw [← e1] at hf
    have hp := hT t; rw [← e2] at hp
    obtain H | ⟨H, he, hb⟩ := H
    · omega
    have h := runMid_ok c (grid0.coords t) arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 s.e s.b D (32 * t.val) (32 * t.val - 1) (by omega) hf hp he hb s.q s.o s.g H
    rw [show 32 * t.val - 1 + 32 = 32 * (t.val + 1) - 1 by omega] at h
    unfold ScrInv sMid
    exact ⟨h, he, hb⟩
  last t arg1 harg1 arg2 harg2 arg3 harg3 arg4 harg4 h1 h2 h3 x1 x2 x3 f4 s ht e1 e2 e3 H := by
    have hf := hF t; rw [← e1] at hf
    have hp := hT t; rw [← e2] at hp
    have hw := hW t; rw [← e3] at hw
    obtain H | ⟨H, he, hb⟩ := H
    · omega
    have h := runLast_ok c (grid0.coords t) arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 x3 s.e s.b D (32 * t.val) 223 (by omega) hf hp he hb f4 s.q s.o s.g H
    have h' := runLast_out c (grid0.coords t) arg1 harg1 arg2 harg2 arg3 harg3 arg4 harg4 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h2 h3 x1 x2 x3 s.e s.b D (32 * t.val) 223 (by omega) hf hp he hb hw f4 s.q s.o s.g H
    refine ⟨Or.inr ?_, ?_⟩
    · unfold ScrInv sLast; exact ⟨h, he, hb⟩
    · unfold OutIs oLast; exact h'

end Cert.KernelIdeal.Hand

end
-- ==== Proof.KI.Blocks.lean ====
module

public import proofs.«01_k».proof.Proof.KI.Invariant
public import Idealize.ShloMosaic.Lib.Claim
public import Idealize.ShloMosaic.Lib.Pipeline.ValueKit

@[expose] public section

/-!
What the kernel's input blocks hold at a grid point, of the arguments: a chunk of the emission scores, a chunk of the tags
beside the tags before them, and the transition scores.
-/

set_option maxRecDepth 16384

noncomputable section

namespace Cert.KernelIdeal.Hand

open Idealize.ShloMosaic Idealize.ShloMosaic.TcCoe Cert.KernelIdeal Cert.KernelIdeal.Gen

/-- The arguments hold the data: the scores are real, every position counts, the tags are the data's. -/
structure Good (D : Data) (x0 : S128x256x50.Idx → EReal) (x1 x2 : S128x256.Idx → BitVec 32) (x3 : S50x50.Idx → EReal) : Prop where
  feat : ∀ (b : Fin 128) (n : Fin 256) (j : Fin 50), x0 (ix3 b n j) = ((D.f n.val b j : ℝ) : EReal)
  mask : ∀ (b : Fin 128) (n : Fin 256), x1 (ix2 b n) = 1#32
  tag : ∀ (b : Fin 128) (n : Fin 256), x2 (ix2 b n) = BitVec.ofNat 32 (D.cur n.val b).val
  tran : ∀ (i j : Fin 50), x3 (ix2 i j) = ((D.t i j : ℝ) : EReal)
  prev_zero : ∀ b, D.prev 0 b = 48
  prev_succ : ∀ n b, D.prev (n + 1) b = D.cur n b

variable (m : (ℓ : Loc nD τ sig) → Buf (Elt Ideal) ℓ) (c : Dev nD)

theorem idx0 : ∀ t : Fin cfg0.N, (cfg0.win 0).index t = ![t.val, 0, 0] := by decide +kernel
theorem idx1 : ∀ t : Fin cfg0.N, (cfg0.win 1).index t = ![t.val, 0, 0] := by decide +kernel
theorem idx2 : ∀ t : Fin cfg0.N, (cfg0.win 2).index t = ![0, 0] := by decide +kernel

theorem emb0 (t : Fin cfg0.N) (n : Fin 256) (s : Fin 32) (hn : n.val = 32 * t.val + s.val) (b : Fin 128) (j : Fin 50) :
    ((cfg0.win 0).blk t).view.emb (ix3 s b j) = (ix3 n b j : S256x128x50.Idx) := by
  have h := idx0 t
  blk_ext [h]

theorem emb1 (t : Fin cfg0.N) (n : Fin 256) (s : Fin 32) (hn : n.val = 32 * t.val + s.val) (b : Fin 128) (j : Fin 2) :
    ((cfg0.win 1).blk t).view.emb (ix3 s b j) = (ix3 n b j : S256x128x2.Idx) := by
  have h := idx1 t
  blk_ext [h]

theorem emb2 (t : Fin cfg0.N) (i j : Fin 50) : ((cfg0.win 2).blk t).view.emb (ix2 i j) = (ix2 i j : S50x50.Idx) := by
  have h := idx2 t
  blk_ext [h]

variable {m c} {D : Data} {x0 : S128x256x50.Idx → EReal} {x1 x2 : S128x256.Idx → BitVec 32} {x3 : S50x50.Idx → EReal}

theorem feats_ok (G : Good D (m ((c.tc : Thread nD τ).loc main_arg0)) x1 x2 x3) (t : Fin cfg0.N) : Feats D (32 * t.val) (iblk m c 0 t) := by
  intro s b j
  have ht : t.val < 8 := t.isLt
  rw [← G.feat b ⟨32 * t.val + s.val, by omega⟩ j]
  unfold iblk
  entry_read
  refine (congrArg (transpose S256x128x50 [1, 0, 2] (m (c, Proc.tc.devRef main_arg0)) transposes_S128x256x50_S256x128x50_1_0_2)
    (emb0 t ⟨32 * t.val + s.val, by omega⟩ s rfl b j)).trans ?_
  pointwise

theorem trans_ok (G : Good D x0 x1 x2 (m ((c.tc : Thread nD τ).loc main_arg3))) (t : Fin cfg0.N) : IsT D (iblk m c 2 t) := by
  intro i j
  rw [← G.tran i j]
  unfold iblk
  entry_read
  exact congrArg (m (c, Proc.tc.devRef main_arg3)) (emb2 t i j)

/-- The tags beside the tags before them, step by step. -/
def pairs (x2 : S128x256.Idx → BitVec 32) : S256x128x2.Idx → BitVec 32 :=
  transpose S256x128x2 [1, 0, 2] (concatenate S128x256x2 2
    [⟨S128x256x1, broadcastInDim S128x256x1 ![0, 1] bcast_S128x256_S128x256x1_0_1 (concatenate S128x256 1
      [⟨S128x1, broadcastInDim S128x1 ![] bcast_S_S128x1 (constantI S_ 32 48#32)⟩,
        ⟨S128x255, extractStridedSlice S128x255 ![0, 0] x2 slices_S128x256_S128x255_0_0⟩] concatenates_S128x1_S128x255_S128x256_d1)⟩,
      ⟨S128x256x1, broadcastInDim S128x256x1 ![0, 1] bcast_S128x256_S128x256x1_0_1 x2⟩] concatenates_S128x256x1_S128x256x1_S128x256x2_d2)
    transposes_S128x256x2_S256x128x2_1_0_2

theorem pairs_cur (n : Fin 256) (b : Fin 128) : pairs x2 (ix3 n b 1) = x2 (ix2 b n) := by
  unfold pairs
  pointwise

theorem pairs_start (b : Fin 128) : pairs x2 (ix3 0 b 0) = 48#32 := by
  unfold pairs
  pointwise

theorem pairs_prev (n : ℕ) (h : n + 1 < 256) (b : Fin 128) : pairs x2 (ix3 ⟨n + 1, h⟩ b 0) = x2 (ix2 b ⟨n, by omega⟩) := by
  unfold pairs
  pointwise
  rw [dif_neg (by omega)]
  rfl

theorem pairs_zero (b : Fin 128) (h : 0 < 256) : pairs x2 (ix3 ⟨0, h⟩ b 0) = 48#32 := pairs_start b

theorem tags_ok (G : Good D x0 x1 (m ((c.tc : Thread nD τ).loc main_arg2)) x3) (t : Fin cfg0.N) : Tags D (32 * t.val) (iblk m c 1 t) := by
  have H : ∀ x, iblk m c 1 t x = pairs (m ((c.tc : Thread nD τ).loc main_arg2)) (((cfg0.win 1).blk t).view.emb x) := by
    intro x
    unfold iblk
    entry_read
    rfl
  intro s b
  have ht : t.val < 8 := t.isLt
  have hn : 32 * t.val + s.val < 256 := by omega
  rw [H, H, emb1 t ⟨32 * t.val + s.val, hn⟩ s rfl b 0, emb1 t ⟨32 * t.val + s.val, hn⟩ s rfl b 1, pairs_cur, G.tag b ⟨32 * t.val + s.val, hn⟩]
  refine ⟨?_, rfl⟩
  generalize 32 * t.val + s.val = n at hn
  obtain _ | n := n
  · rw [pairs_zero, G.prev_zero]; rfl
  · rw [pairs_prev, G.tag b ⟨n, by omega⟩, G.prev_succ]

/-- The kernel's pipeline tracks the data's states. -/
theorem tracks_of (G : Good D (m ((c.tc : Thread nD τ).loc main_arg0)) x1 (m ((c.tc : Thread nD τ).loc main_arg2))
    (m ((c.tc : Thread nD τ).loc main_arg3))) : Tracks m c (PipeInv D) (OutIs D) :=
  tracks m c D (feats_ok G) (tags_ok G) (trans_ok G)

end Cert.KernelIdeal.Hand

end
-- ==== Proof.Pre.lean ====
module

public import proofs.«01_k».proof.Pre_finite_and_in_range
public import proofs.«01_k».proof.Proof.KI.Blocks
public import Idealize.ShloMosaic.Lib.ReduceAll

@[expose] public section

/-!
The precondition: under it the arguments hold real scores, a mask of ones and tags below 50.
-/

set_option maxRecDepth 16384

noncomputable section

namespace Cert.Proof

open Idealize.ShloMosaic

/-- The precondition's shape relations. -/
theorem preFacts : Cert.Pre_finite_and_in_range.Facts where
  bcast_S_S128x256x50 := by decide
  reducesTo_S128x256x50_S_d0_1_2 := by decide
  h_S_ := by decide
  bcast_S_S50x50 := by decide
  reducesTo_S50x50_S_d0_1 := by decide
  bcast_S_S128x256 := by decide
  reducesTo_S128x256_S_d0_1 := by decide

/-- A one-bit conjunction is one only if both sides are. -/
theorem and_one {a b : BitVec 1} (h : a &&& b = 1#1) : a = 1#1 ∧ b = 1#1 := by revert a b; decide

/-- A truth value's bit is one only if it is true. -/
theorem ofBool_one {b : Bool} (h : BitVec.ofBool b = 1#1) : b = true := by revert h; cases b <;> decide

instance : Subsingleton (⟨0, ![]⟩ : Shape).Idx := ⟨fun _ _ => funext fun a => a.elim0⟩

/-- The bit pattern of infinity is infinity. -/
theorem ofBits_inf : Ideal.ofBits .f32 0x7F800000#32 = (⊤ : EReal) := by simp [Ideal.ofBits, Ideal.ieee]

/-- An ideal number whose absolute value is below infinity is real. -/
theorem real_of_abs {x : EReal} (h : Ideal.cmp .olt (max x (-x)) (Ideal.ofBits .f32 0x7F800000#32) = 1#1) : x = ((x.toReal : ℝ) : EReal) := by
  rw [ofBits_inf] at h
  have h : max x (-x) < ⊤ := by
    unfold Ideal.cmp at h
    by_contra hn
    simp [hn] at h
  obtain ⟨h1, h2⟩ := max_lt_iff.1 h
  refine (EReal.coe_toReal h1.ne ?_).symm
  rintro rfl
  simp at h2

section
variable [Cert.Pre_finite_and_in_range.Facts]
open Cert.Pre_finite_and_in_range

theorem pre_split (x0 : S128x256x50.Idx → EReal) (x1 x2 : S128x256.Idx → BitVec 32) (x3 : S50x50.Idx → EReal)
    (h : fn (F := Ideal) x0 x1 x2 x3 = fun _ => 1#1) :
    (∀ i, x0 i = (((x0 i).toReal : ℝ) : EReal)) ∧ (∀ i, x3 i = (((x3 i).toReal : ℝ) : EReal)) ∧ (∀ i, x1 i = 1#32)
      ∧ ∀ i, (x2 i).toNat < 50 := by
  have h := congrFun h ix0
  unfold fn fn_part1 at h
  obtain ⟨h, h4⟩ := and_one h
  obtain ⟨h, h3⟩ := and_one h
  obtain ⟨h1, h2⟩ := and_one h
  have h1 := Host.reduce_andi_all _ _ _ _ _ h1
  have h2 := Host.reduce_andi_all _ _ _ _ _ h2
  have h3 := Host.reduce_andi_all _ _ _ _ _ h3
  have h4 := Host.reduce_andi_all _ _ _ _ _ h4
  refine ⟨fun i => real_of_abs (h1 i), fun i => real_of_abs (h2 i), fun i => ?_, fun i => ?_⟩
  · have h : BitVec.ofBool (x1 i == 1#32) = 1#1 := h3 i
    exact eq_of_beq (ofBool_one h)
  · obtain ⟨ha, hb⟩ := and_one (show BitVec.ofBool ((0#32).sle (x2 i)) &&& BitVec.ofBool ((x2 i).slt 50#32) = 1#1 from h4 i)
    have ha : (0#32).sle (x2 i) = true := ofBool_one ha
    have hb : (x2 i).slt 50#32 = true := ofBool_one hb
    simp only [BitVec.sle, BitVec.slt, decide_eq_true_eq, BitVec.toInt_eq_toNat_cond] at ha hb
    have := (x2 i).isLt
    simp at ha hb
    split at ha <;> split at hb <;> omega
end

open Cert.KernelIdeal.Hand in
/-- The data a device's arguments hold. -/
def dataOf (x0 : Cert.KernelIdeal.S128x256x50.Idx → EReal) (x2 : Cert.KernelIdeal.S128x256.Idx → BitVec 32)
    (x3 : Cert.KernelIdeal.S50x50.Idx → EReal) : Data where
  f n b j := (x0 (ix3 b (Fin.ofNat 256 n) j)).toReal
  t i j := (x3 (ix2 i j)).toReal
  cur n b := Fin.ofNat 50 (x2 (ix2 b (Fin.ofNat 256 n))).toNat
  prev
    | 0, _ => 48
    | n + 1, b => Fin.ofNat 50 (x2 (ix2 b (Fin.ofNat 256 n))).toNat

open Cert.KernelIdeal.Hand in
/-- Under the precondition the arguments hold it. -/
theorem good_of_pre [Cert.Pre_finite_and_in_range.Facts] (x0 : Cert.KernelIdeal.S128x256x50.Idx → EReal) (x1 x2 : Cert.KernelIdeal.S128x256.Idx → BitVec 32)
    (x3 : Cert.KernelIdeal.S50x50.Idx → EReal) (h : Cert.Pre_finite_and_in_range.fn (F := Ideal) x0 x1 x2 x3 = fun _ => 1#1) :
    Good (dataOf x0 x2 x3) x0 x1 x2 x3 := by
  obtain ⟨h0, h3, h1, h2⟩ := pre_split x0 x1 x2 x3 h
  have hn (n : Fin 256) : Fin.ofNat 256 n.val = n := Fin.ext (Nat.mod_eq_of_lt n.isLt)
  refine ⟨fun b n j => ?_, fun b n => h1 _, fun b n => ?_, fun i j => h3 _, fun _ => rfl, fun _ _ => rfl⟩
  · simp only [dataOf, hn]; exact h0 _
  · simp only [dataOf, hn, Fin.val_ofNat, Nat.mod_eq_of_lt (h2 _), BitVec.ofNat_toNat, BitVec.setWidth_eq]

end Cert.Proof

end
-- ==== Proof.KI.Result.lean ====
module

public import proofs.«01_k».proof.Proof.KI.Blocks
public import proofs.«01_k».proof.Proof.KI.Run

@[expose] public section

/-!
The kernel's result: the negative log likelihood of the data its arguments hold.
-/

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (RDat)

variable (m : (ℓ : Loc nD τ sig) → Buf (Elt Ideal) ℓ) (ρ : Dev nD → PrngReg)

theorem all_eq (y z : S1x1.Idx) : y = z := funext fun a => by
  fin_cases a
  · exact Subsingleton.elim (α := Fin 1) (y 0) (z 0)
  · exact Subsingleton.elim (α := Fin 1) (y 1) (z 1)

/-- What the result array holds after the last point. -/
theorem result (Inv : Dev nD → ℕ → Scr Ideal → Prop) (D : Dev nD → Data) (c : Dev nD) (A : S1x1.Idx → EReal)
    (h : (rdat m Inv (fun c => OutIs (D c)) c).ArrAt 3 8 A) : A = fun _ => (((D c).nll 255 : ℝ) : EReal) := by
  have hN : (7 : ℕ) < cfg0.N := by decide
  have h' : (rdat m Inv (fun c => OutIs (D c)) c).ArrStep 3 ⟨7, hN⟩ ((rdat m Inv (fun c => OutIs (D c)) c).ArrAt 3 7) A := by
    have e : (rdat m Inv (fun c => OutIs (D c)) c).ArrAt 3 8 = if h : 7 < cfg0.N then
        if (cfg0.win 3).flush ⟨7, h⟩ then (rdat m Inv (fun c => OutIs (D c)) c).ArrStep 3 ⟨7, h⟩ ((rdat m Inv (fun c => OutIs (D c)) c).ArrAt 3 7)
        else (rdat m Inv (fun c => OutIs (D c)) c).ArrAt 3 7 else (rdat m Inv (fun c => OutIs (D c)) c).ArrAt 3 7 := rfl
    rw [e, dif_pos hN, if_pos ((flush0_3 ⟨7, hN⟩).2 rfl)] at h
    exact h
  obtain ⟨G₀, X, -, ⟨Y, -, hX⟩, rfl⟩ := h'
  have hX : OutIs (D c) X := hX rfl
  funext y
  rw [show y = ((cfg0.win 3).blk ⟨7, hN⟩).view.emb (ix2 0 0 : S1x1.Idx) from all_eq _ _]
  exact (View.write_emb_of_mem _ _ (Finset.mem_univ _)).trans ((congrArg X (all_eq _ _)).trans hX)

/-- Every run of the kernel ends with the negative log likelihood of the data in the result, and the arguments as they were. -/
theorem value (D : Dev nD → Data) (G : ∀ c : Dev nD, Good (D c) (m ((c.tc : Thread nD τ).loc main_arg0)) (m ((c.tc : Thread nD τ).loc main_arg1))
      (m ((c.tc : Thread nD τ).loc main_arg2)) (m ((c.tc : Thread nD τ).loc main_arg3))) :
    θ_run defs (onTc (τ := τ) (main (F := Ideal))) ⟨m, fun _ => 0, ρ⟩ (fun r => ∀ c : Dev nD,
      r.2.mem ((c.tc : Thread nD τ).loc main_v8) = (fun _ => (((D c).nll 255 : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨result m (fun c => PipeInv (D c)) D c _ ((h.1 c).1 3), args_kept m _ _ h.1 c⟩)
    (run_main m ρ (fun c => PipeInv (D c)) (fun c => OutIs (D c)) fun c => tracks_of (G c))

end Cert.KernelIdeal.Hand

end
-- ==== Proof.Ref.Forward.lean ====
module

public import proofs.«01_k».proof.Proof.Ref.StepRun
public import proofs.«01_k».proof.Proof.KI.Blocks
public import Idealize.ShloMosaic.Lib.DynamicIndex

@[expose] public section

/-!
The reference's steps at an index: the scores of every step, the log of a sum of exponentials with its greatest term taken out, and
one step of the forward algorithm.
-/

set_option maxRecDepth 16384

noncomputable section

namespace Cert.ReferenceIdeal.Hand

open Idealize.ShloMosaic Cert.ReferenceIdeal Cert.ReferenceIdeal.Gen Cert.ReferenceIdeal.Step
open Cert.KernelIdeal.Hand (Data Good)

variable {x0 : S128x256x50.Idx → EReal} {x1 x2 : S128x256.Idx → BitVec 32} {x3 : S50x50.Idx → EReal}

theorem scores_apply (n : Fin 256) (b : Fin 128) (i j : Fin 50) :
    A_main_v5 (F := Ideal) x0 x1 x3 (ix4 n b i j) = x0 (ix3 b n j) + x3 (ix2 i j) := by
  unfold A_main_v5 A_main_v4 A_main_v3 A_main_v2 A_main_v1 A_main_v0
  pointwise

theorem first_apply (b : Fin 128) (j : Fin 50) : A_main_v13 (F := Ideal) x0 x1 x3 (ix2 b j) = x0 (ix3 b 0 j) + x3 (ix2 48 j) := by
  unfold A_main_v13 A_main_v12 A_main_v11 A_main_v10
  pointwise [scores_apply]

theorem succ_eq (k : Fin 255) (h : 1 + k.val < 256) : (⟨1 + k.val, h⟩ : Fin 256) = k.succ := Fin.ext (Nat.add_comm 1 _)

theorem rest_apply (k : Fin 255) (b : Fin 128) (i j : Fin 50) :
    A_main_v14 (F := Ideal) x0 x1 x3 (ix4 k b i j) = x0 (ix3 b k.succ j) + x3 (ix2 i j) := by
  unfold A_main_v14
  pointwise [scores_apply]
  rw [succ_eq]

theorem mask_apply (k : Fin 255) (b : Fin 128) (h : ∀ n : Fin 256, x1 (ix2 b n) = 1#32) :
    A_main_v15 (F := Ideal) x0 x1 x3 (ix2 k b) = 1#1 := by
  unfold A_main_v15 A_main_v9 A_main_v8 A_main_v6 K_main_v7 K_main_c
  pointwise
  unfold id
  pointwise
  rw [h]
  decide

/-- The step's number as a start of a slice. -/
theorem start_eq (k : Fin 255) : (BitVec.ofNat 32 k.val).toInt = (k.val : Int) := toInt_ofNat_of_lt (by omega)

theorem slice_apply (s : State Ideal) (k : Fin 255) (b : Fin 128) (i j : Fin 50) :
    b4 k.val s (ix3 b i j) = s.main_v16_0 (ix4 k b i j) := by
  have hs : S255x128x50x50.Slices ![k.val, 0, 0, 0] S1x128x50x50 := ⟨rfl, fun a => by
    fin_cases a
    · show k.val + 1 ≤ 255; omega
    · show 0 + 128 ≤ 128; omega
    · show 0 + 50 ≤ 50; omega
    · show 0 + 50 ≤ 50; omega⟩
  unfold b4 b3 b2 b1 b0
  rw [Host.dynamicSlice_eq_extractStridedSlice S1x128x50x50 s.main_v16_0 _ ![k.val, 0, 0, 0] _ hs (fun a => by
    fin_cases a
    · exact start_eq k
    · rfl
    · rfl
    · rfl)]
  pointwise

theorem slice_mask_apply (s : State Ideal) (k : Fin 255) (b : Fin 128) : b7 k.val s (ix1 b) = s.main_v16_1 (ix2 k b) := by
  have hs : S255x128.Slices ![k.val, 0] S1x128 := ⟨rfl, fun a => by
    fin_cases a
    · show k.val + 1 ≤ 255; omega
    · show 0 + 128 ≤ 128; omega⟩
  unfold b7 b6 b5
  rw [Host.dynamicSlice_eq_extractStridedSlice S1x128 s.main_v16_1 _ ![k.val, 0] _ hs (fun a => by
    fin_cases a
    · exact start_eq k
    · rfl)]
  pointwise

theorem ofBits_negInf : Ideal.ofBits .f32 0xFF800000#32 = (⊥ : EReal) := by simp [Ideal.ofBits, Ideal.ieee]

/-- The log of a sum of exponentials, the greatest term taken out first. -/
theorem lse (u : Fin 50 → ℝ) (v : Fin 50 → EReal) (hv : ∀ i, v i = ((u i : ℝ) : EReal)) :
    Ideal.log (∑ i, Ideal.exp (v i - Finset.fold max (Ideal.ofBits .f32 0xFF800000#32) (fun i => v i) Finset.univ))
      + Finset.fold max (Ideal.ofBits .f32 0xFF800000#32) (fun i => v i) Finset.univ = ((Real.log (∑ i, Real.exp (u i)) : ℝ) : EReal) := by
  obtain rfl : v = fun i => ((u i : ℝ) : EReal) := funext hv
  have hM : ∃ M : ℝ, Finset.fold max (Ideal.ofBits .f32 0xFF800000#32) (fun i => ((u i : ℝ) : EReal)) Finset.univ = (M : EReal) := by
    rw [ofBits_negInf]
    refine ⟨EReal.toReal _, (EReal.coe_toReal ?_ ?_).symm⟩
    · exact ((Finset.fold_max_lt _).2 ⟨bot_lt_top, fun i _ => EReal.coe_lt_top _⟩).ne
    · exact (lt_of_lt_of_le (EReal.bot_lt_coe (u 0)) ((Finset.le_fold_max _).2 (Or.inr ⟨0, Finset.mem_univ _, le_rfl⟩))).ne'
  obtain ⟨M, hM⟩ := hM
  have hp : 0 < ∑ i, Real.exp (u i - M) := Finset.sum_pos (fun i _ => Real.exp_pos _) ⟨0, Finset.mem_univ _⟩
  rw [hM]
  simp only [← EReal.coe_sub, Ideal.exp_coe]
  rw [Cert.KernelIdeal.Hand.coe_sum, Ideal.log_coe, if_neg (not_le.2 hp), ← EReal.coe_add]
  congr 1
  rw [show (∑ i, Real.exp (u i)) = (∑ i, Real.exp (u i - M)) * Real.exp M by
    rw [Finset.sum_mul]; exact Finset.sum_congr rfl fun i _ => by rw [← Real.exp_add]; congr 1; ring,
    Real.log_mul hp.ne' (Real.exp_pos _).ne', Real.log_exp]

theorem b10_apply (s : State Ideal) (k : ℕ) (b : Fin 128) (i j : Fin 50) :
    b10 k s (ix3 b i j) = b4 k s (ix3 b i j) + s.main_v16_3 (ix2 b i) := by
  unfold b10 b9 b8
  pointwise

theorem b12_apply (s : State Ideal) (k : ℕ) (b : Fin 128) (j : Fin 50) :
    b12 k s (ix2 b j) = Finset.fold max (Ideal.ofBits .f32 0xFF800000#32) (fun x => b10 k s (ix3 b x j)) Finset.univ := by
  unfold b12 b11
  pointwise

theorem b20_apply (s : State Ideal) (k : ℕ) (b : Fin 128) (j : Fin 50) (u : Fin 50 → ℝ) (hu : ∀ i, b10 k s (ix3 b i j) = ((u i : ℝ) : EReal)) :
    b20 k s (ix2 b j) = ((Real.log (∑ i, Real.exp (u i)) : ℝ) : EReal) := by
  rw [← lse u (fun i => b10 k s (ix3 b i j)) hu]
  unfold b20 b19 b18 b17 b16 b15 b14 b13
  pointwise [b12_apply]

theorem b23_apply (s : State Ideal) (k : ℕ) (b : Fin 128) (j : Fin 50) (h : b7 k s (ix1 b) = 1#1) :
    b23 k s (ix2 b j) = b20 k s (ix2 b j) := by
  unfold b23 b22 b21
  pointwise
  rw [h]
  rfl

/-- What a state of the reference's loop holds after step `n`: the forward scores, the later steps' scores, the mask. -/
structure Is (D : Data) (n : ℕ) (s : State Ideal) : Prop where
  part : ∀ b j, s.main_v16_3 (ix2 b j) = ((Real.log (D.P n b j) : ℝ) : EReal)
  score : ∀ (k : Fin 255) b i j, s.main_v16_0 (ix4 k b i j) = ((D.f (k.val + 1) b j + D.t i j : ℝ) : EReal)
  mask : ∀ (k : Fin 255) b, s.main_v16_1 (ix2 k b) = 1#1

theorem Is.init {D : Data} (G : Good D x0 x1 x2 x3) : Is D 0 (init x0 x1 x3) where
  part b j := by
    refine (first_apply b j).trans ?_
    rw [G.feat, G.tran, ← EReal.coe_add]
    show _ = ((Real.log (Real.exp _) : ℝ) : EReal)
    rw [Real.log_exp]; rfl
  score k b i j := by
    refine (rest_apply k b i j).trans ?_
    rw [G.feat, G.tran, ← EReal.coe_add]; rfl
  mask k b := mask_apply k b (G.mask b)

theorem Is.step {D : Data} {n : ℕ} {s : State Ideal} (H : Is D n s) (hn : n < 255) : Is D (n + 1) (step n s) where
  part b j := by
    have h10 (i : Fin 50) : b10 n s (ix3 b i j) = ((D.f (n + 1) b j + D.t i j + Real.log (D.P n b i) : ℝ) : EReal) := by
      rw [b10_apply, slice_apply s ⟨n, hn⟩ b i j, H.score, H.part, ← EReal.coe_add]
    refine (b23_apply s n b j ((slice_mask_apply s ⟨n, hn⟩ b).trans (H.mask _ b))).trans ((b20_apply s n b j _ h10).trans ?_)
    congr 2
    show _ = (∑ i, D.P n b i * Real.exp (D.t i j)) * Real.exp (D.f (n + 1) b j)
    rw [Finset.sum_mul]
    refine Finset.sum_congr rfl fun i _ => ?_
    rw [Real.exp_add, Real.exp_add, Real.exp_log (D.P_pos n b i)]
    ring
  score := H.score
  mask := H.mask

end Cert.ReferenceIdeal.Hand

end
-- ==== Proof.Ref.Tags.lean ====
module

public import proofs.«01_k».proof.Proof.Ref.Forward

@[expose] public section

/-!
The reference's reads at the tags: a gather at an index is the operand at the index read there, and the index read for the score of
step `n` is `50 · (tag before) + tag`.
-/

set_option maxRecDepth 16384

noncomputable section

namespace Cert.ReferenceIdeal.Hand

open Idealize.ShloMosaic Cert.ReferenceIdeal Cert.ReferenceIdeal.Gen Cert.ReferenceIdeal.Step
open Cert.KernelIdeal.Hand (Data Good)

variable {α : Type}

/-- One score per step and row of the batch, at the position read there. -/
theorem gather_scores (x : S256x128x2500.Idx → α) (ix : S256x128x1x1.Idx → BitVec 32) (n : Fin 256) (b : Fin 128) :
    Host.gather gather_S256x128x2500_S256x128x1x1_S256x128x1_n_2_01_01_2_3_111 x ix (ix3 n b 0)
      = x (ix3 n b ⟨min (ix (ix4 n b 0 0)).toInt.toNat 2499, by omega⟩) := by
  unfold Host.gather
  refine congrArg x (funext fun a => Fin.ext ?_)
  show GatherDims.start _ _ ix a + GatherDims.batchCoord _ _ a + GatherDims.offCoord _ _ a = _
  fin_cases a
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hi (k) : GatherDims.siIdx gather_S256x128x2500_S256x128x1x1_S256x128x1_n_2_01_01_2_3_111 (ix3 n b 0) k = ix4 n b 0 0 := by
      funext c
      refine Fin.ext ?_
      fin_cases c
      · rfl
      · rfl
      · rfl
      · exact Nat.lt_one_iff.1 (Fin.isLt _)
    rw [hi]
    rfl

/-- One tag per row of the batch. -/
theorem gather_tags (x : S128x256.Idx → α) (ix : S128x1x1.Idx → BitVec 32) (b : Fin 128) :
    Host.gather gather_S128x256_S128x1x1_S128x1_n_1_0_0_1_2_11 x ix (ix2 b 0)
      = x (ix2 b ⟨min (ix (ix3 b 0 0)).toInt.toNat 255, by omega⟩) := by
  unfold Host.gather
  refine congrArg x (funext fun a => Fin.ext ?_)
  show GatherDims.start _ _ ix a + GatherDims.batchCoord _ _ a + GatherDims.offCoord _ _ a = _
  fin_cases a
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hi (k) : GatherDims.siIdx gather_S128x256_S128x1x1_S128x1_n_1_0_0_1_2_11 (ix2 b 0) k = ix3 b 0 0 := by
      funext c
      refine Fin.ext ?_
      fin_cases c
      · rfl
      · rfl
      · exact Nat.lt_one_iff.1 (Fin.isLt _)
    rw [hi]
    rfl

/-- One closing score per row of the batch. -/
theorem gather_stop (x : S50.Idx → α) (ix : S128x1.Idx → BitVec 32) (b : Fin 128) :
    Host.gather gather_S50_S128x1_S128_n_0_n_n_0_1_1 x ix (ix1 b) = x (ix1 ⟨min (ix (ix2 b 0)).toInt.toNat 49, by omega⟩) := by
  unfold Host.gather
  refine congrArg x (funext fun a => Fin.ext ?_)
  show GatherDims.start _ _ ix a + GatherDims.batchCoord _ _ a + GatherDims.offCoord _ _ a = _
  fin_cases a
  rw [GatherDims.batchCoord_eq_zero _ _ _ (by decide), GatherDims.offCoord_eq_zero _ _ _ (by decide)]
  simp only [Nat.add_zero]
  unfold GatherDims.start
  rw [dif_pos (by decide)]
  have hi (k) : GatherDims.siIdx gather_S50_S128x1_S128_n_0_n_n_0_1_1 (ix1 b) k = ix2 b 0 := by
    funext c
    refine Fin.ext ?_
    fin_cases c
    · rfl
    · exact Nat.lt_one_iff.1 (Fin.isLt _)
  rw [hi]
  rfl

variable {x0 : S128x256x50.Idx → EReal} {x1 x2 : S128x256.Idx → BitVec 32} {x3 : S50x50.Idx → EReal} {D : Data}

/-- An index that is not negative is taken as it is. -/
theorem select_nonneg (n : ℕ) (h : n < 2 ^ 31) (y : BitVec 32) :
    Scalar.select (IntOp.cmpi .slt (BitVec.ofNat 32 n) 0#32) y (BitVec.ofNat 32 n) = BitVec.ofNat 32 n := by
  have : (BitVec.ofNat 32 n).slt 0#32 = false := by
    simp only [BitVec.slt, BitVec.toInt_zero, decide_eq_false_iff_not, Int.not_lt]
    rw [toInt_ofNat_of_lt h]; omega
  show Scalar.select (BitVec.ofBool ((BitVec.ofNat 32 n).slt 0#32)) _ _ = _
  rw [this]; rfl

/-- The positions of the path's scores among a step's scores. -/
def places (x2 : S128x256.Idx → BitVec 32) : S256x128.Idx → BitVec 32 :=
  transpose S256x128 [1, 0] (concatenate S128x256 1 [⟨S128x1, (addi (broadcastInDim S128x1 ![] bcast_S_S128x1 (constantI S_ 32 2400#32)) (extractStridedSlice S128x1 ![0, 0] x2 slices_S128x256_S128x1_0_0))⟩, ⟨S128x255, (addi (muli (extractStridedSlice S128x255 ![0, 0] x2 slices_S128x256_S128x255_0_0) (broadcastInDim S128x255 ![] bcast_S_S128x255 (constantI S_ 32 50#32))) (extractStridedSlice S128x255 ![0, 1] x2 slices_S128x256_S128x255_0_1))⟩] concatenates_S128x1_S128x255_S128x256_d1) transposes_S128x256_S256x128_1_0

theorem places_start (b : Fin 128) : places x2 (ix2 0 b) = 2400#32 + x2 (ix2 b 0) := by
  unfold places
  pointwise
  rfl

theorem places_rest (n : ℕ) (h : n + 1 < 256) (b : Fin 128) :
    places x2 (ix2 ⟨n + 1, h⟩ b) = x2 (ix2 b ⟨n, by omega⟩) * 50#32 + x2 (ix2 b ⟨n + 1, h⟩) := by
  unfold places
  pointwise
  rw [dif_neg (by omega), show (⟨1 + (n + 1 - 1), by omega⟩ : Fin 256) = ⟨n + 1, h⟩ from Fin.ext (by show 1 + (n + 1 - 1) = n + 1; omega)]
  rfl

theorem places_apply (G : Good D x0 x1 x2 x3) (n : Fin 256) (b : Fin 128) :
    places x2 (ix2 n b) = BitVec.ofNat 32 ((D.prev n.val b).val * 50 + (D.cur n.val b).val) := by
  obtain ⟨n, h⟩ := n
  obtain _ | n := n
  · refine (places_start b).trans ?_
    rw [G.tag, G.prev_zero]
    show _ = BitVec.ofNat 32 (2400 + _)
    rw [BitVec.ofNat_add]
    rfl
  · rw [places_rest, G.tag, G.tag, G.prev_succ, BitVec.ofNat_add, BitVec.ofNat_mul]

/-- The number of positions that count. -/
def lengths (x1 : S128x256.Idx → BitVec 32) : S128.Idx → BitVec 32 :=
  Host.reduce IntOp.addi x1 (constantI S_ 32 0#32) reducesTo_S128x256_S128_d1 h_S_

theorem fold_ones (A : Finset (Fin 256)) : Finset.fold IntOp.addi 0#32 (fun _ => 1#32) A = BitVec.ofNat 32 A.card := by
  classical
  induction A using Finset.induction_on with
  | empty => rfl
  | insert a A ha ih =>
    rw [Finset.fold_insert ha, ih, Finset.card_insert_of_notMem ha, Nat.add_comm, BitVec.ofNat_add]
    rfl

theorem lengths_apply (h : ∀ b (n : Fin 256), x1 (ix2 b n) = 1#32) (b : Fin 128) : lengths x1 (ix1 b) = 256#32 := by
  unfold lengths
  pointwise
  simp only [h]
  exact fold_ones _

end Cert.ReferenceIdeal.Hand

end
-- ==== Proof.Ref.Result.lean ====
module

public import proofs.«01_k».proof.Proof.Ref.Tags
public import proofs.«01_k».proof.Proof.KI.Result

@[expose] public section

/-!
What the reference computes: the negative log likelihood of the data its arguments hold.
-/

set_option maxRecDepth 16384

noncomputable section

namespace Cert.ReferenceIdeal.Hand

open Idealize.ShloMosaic Cert.ReferenceIdeal Cert.ReferenceIdeal.Gen Cert.ReferenceIdeal.Step
open Cert.KernelIdeal.Hand (Data Good)

variable (x0 : FVec Ideal S128x256x50 .f32) (x1 x2 : IVec S128x256 32) (x3 : FVec Ideal S50x50 .f32) (p : FVec Ideal S128x50 .f32)

/-! The result's parts. -/

/-- The last forward scores plus the transition scores. -/
def closing : FVec Ideal S128x50x50 .f32 :=
  addf (broadcastInDim S128x50x50 ![0, 1, 2] bcast_S1x50x50_S128x50x50_0_1_2 (broadcastInDim S1x50x50 ![1, 2] bcast_S50x50_S1x50x50_1_2 x3)) (broadcastInDim S128x50x50 ![0, 1, 2] bcast_S128x50x1_S128x50x50_0_1_2 (broadcastInDim S128x50x1 ![0, 1] bcast_S128x50_S128x50x1_0_1 p))

/-- The log of the sum of their exponentials over the last tag. -/
def closed : FVec Ideal S128x50 .f32 :=
  addf (Host.log (Host.reduceAdd (Host.exp (subf (closing x3 p) (broadcastInDim S128x50x50 ![0, 1, 2] bcast_S128x1x50_S128x50x50_0_1_2 (broadcastInDim S128x1x50 ![0, 2] bcast_S128x50_S128x1x50_0_2 (Host.reduce FloatOps.maximumf (closing x3 p) (constant S_ .f32 0xFF800000#32) reducesTo_S128x50x50_S128x50_d1 h_S_))))) (constant S_ .f32 0x00000000#32) reducesTo_S128x50x50_S128x50_d1 h_S_)) (Host.reduce FloatOps.maximumf (closing x3 p) (constant S_ .f32 0xFF800000#32) reducesTo_S128x50x50_S128x50_d1 h_S_)

/-- The position the score of a step is read at. -/
def scoreIndex : IVec S256x128x1x1 32 :=
  shapeCast S256x128x1x1 (select (cmpi .slt (broadcastInDim S256x128x1 ![0, 1] bcast_S256x128_S256x128x1_0_1 (places x2)) (broadcastInDim S256x128x1 ![] bcast_S_S256x128x1 (constantI S_ 32 0#32))) (addi (broadcastInDim S256x128x1 ![0, 1] bcast_S256x128_S256x128x1_0_1 (places x2)) (broadcastInDim S256x128x1 ![] bcast_S_S256x128x1 (constantI S_ 32 2500#32))) (broadcastInDim S256x128x1 ![0, 1] bcast_S256x128_S256x128x1_0_1 (places x2))) shapeCasts_S256x128x1_S256x128x1x1

/-- The scores of the path's steps. -/
def pathScores : FVec Ideal S256x128 .f32 :=
  mulf (shapeCast S256x128 (Host.gather gather_S256x128x2500_S256x128x1x1_S256x128x1_n_2_01_01_2_3_111 (shapeCast S256x128x2500 (A_main_v5 (F := Ideal) x0 x1 x3) shapeCasts_S256x128x50x50_S256x128x2500) (scoreIndex x2)) shapeCasts_S256x128x1_S256x128) (uitofp .f32 (id (cmpi .ne (transpose S256x128 [1, 0] x1 transposes_S128x256_S256x128_1_0) (broadcastInDim S256x128 ![] bcast_S_S256x128 (constantI S_ 32 0#32)))))

/-- The last position that counts. -/
def endIndex : IVec S128x1x1 32 :=
  shapeCast S128x1x1 (select (cmpi .slt (broadcastInDim S128x1 ![0] bcast_S128_S128x1_0 (subi (lengths x1) (broadcastInDim S128 ![] bcast_S_S128 (constantI S_ 32 1#32)))) (broadcastInDim S128x1 ![] bcast_S_S128x1 (constantI S_ 32 0#32))) (addi (broadcastInDim S128x1 ![0] bcast_S128_S128x1_0 (subi (lengths x1) (broadcastInDim S128 ![] bcast_S_S128 (constantI S_ 32 1#32)))) (broadcastInDim S128x1 ![] bcast_S_S128x1 (constantI S_ 32 256#32))) (broadcastInDim S128x1 ![0] bcast_S128_S128x1_0 (subi (lengths x1) (broadcastInDim S128 ![] bcast_S_S128 (constantI S_ 32 1#32))))) shapeCasts_S128x1_S128x1x1

/-- The tag there. -/
def endTags : IVec S128 32 :=
  shapeCast S128 (Host.gather gather_S128x256_S128x1x1_S128x1_n_1_0_0_1_2_11 x2 (endIndex x1)) shapeCasts_S128x1_S128

/-- The position the closing score is read at. -/
def stopIndex : IVec S128x1 32 :=
  shapeCast S128x1 (select (cmpi .slt (endTags x1 x2) (broadcastInDim S128 ![] bcast_S_S128 (constantI S_ 32 0#32))) (addi (endTags x1 x2) (broadcastInDim S128 ![] bcast_S_S128 (constantI S_ 32 50#32))) (endTags x1 x2)) shapeCasts_S128_S128x1

/-- The closing scores of the paths. -/
def stopScores : FVec Ideal S128 .f32 :=
  Host.gather gather_S50_S128x1_S128_n_0_n_n_0_1_1 (shapeCast S50 (extractStridedSlice S50x1 ![0, 49] x3 slices_S50x50_S50x1_0_49) shapeCasts_S50x1_S50) (stopIndex x1 x2)

theorem result_eq (s : State Ideal) : R_main_v72 s x0 x1 x2 x3 = shapeCast S1x1 (subf (Host.reduceAdd (shapeCast S128 (extractStridedSlice S128x1 ![0, 49] (closed x3 s.main_v16_3) slices_S128x50_S128x1_0_49) shapeCasts_S128x1_S128) (constant S_ .f32 0x00000000#32) reducesTo_S128_S_d0 h_S_)
    (addf (Host.reduceAdd (pathScores x0 x1 x2 x3) (constant S_ .f32 0x00000000#32) reducesTo_S256x128_S_d0_1 h_S_)
      (Host.reduceAdd (stopScores x1 x2 x3) (constant S_ .f32 0x00000000#32) reducesTo_S128_S_d0 h_S_))) shapeCasts_S_S1x1 := by
  unfold R_main_v72 stopScores stopIndex endTags endIndex pathScores scoreIndex closed closing places lengths
    A_main_v5 A_main_v4 A_main_v3 A_main_v2 A_main_v1 A_main_v0
  rfl

variable {x0 x1 x2 x3 p} {D : Data}

theorem closing_apply (b : Fin 128) (i j : Fin 50) : closing x3 p (ix3 b i j) = x3 (ix2 i j) + p (ix2 b i) := by
  unfold closing
  pointwise

theorem closed_apply (G : Good D x0 x1 x2 x3) (n : ℕ) (hp : ∀ b j, p (ix2 b j) = ((Real.log (D.P n b j) : ℝ) : EReal)) (b : Fin 128) (j : Fin 50) :
    closed x3 p (ix2 b j) = ((Real.log (∑ i, D.P n b i * Real.exp (D.t i j)) : ℝ) : EReal) := by
  have hu (i : Fin 50) : closing x3 p (ix3 b i j) = ((D.t i j + Real.log (D.P n b i) : ℝ) : EReal) := by
    rw [closing_apply, G.tran, hp, EReal.coe_add]
  have h := lse _ (fun i => closing x3 p (ix3 b i j)) hu
  rw [show (∑ i, D.P n b i * Real.exp (D.t i j)) = ∑ i, Real.exp (D.t i j + Real.log (D.P n b i)) from
    Finset.sum_congr rfl fun i _ => by rw [Real.exp_add, Real.exp_log (D.P_pos n b i), mul_comm], ← h]
  unfold closed
  pointwise

theorem scoreIndex_apply (G : Good D x0 x1 x2 x3) (n : Fin 256) (b : Fin 128) :
    scoreIndex x2 (ix4 n b 0 0) = BitVec.ofNat 32 ((D.prev n.val b).val * 50 + (D.cur n.val b).val) := by
  unfold scoreIndex
  pointwise [places_apply G]
  exact select_nonneg _ (by omega) _

theorem flat_apply (G : Good D x0 x1 x2 x3) (n : Fin 256) (b : Fin 128) (i j : Fin 50) (h : i.val * 50 + j.val < 2500) :
    shapeCast S256x128x2500 (A_main_v5 (F := Ideal) x0 x1 x3) shapeCasts_S256x128x50x50_S256x128x2500 (ix3 n b ⟨i.val * 50 + j.val, h⟩)
      = ((D.f n.val b j + D.t i j : ℝ) : EReal) := by
  rw [EReal.coe_add, ← G.feat, ← G.tran, ← scores_apply (x1 := x1)]
  pointwise

theorem score_read (G : Good D x0 x1 x2 x3) (n : Fin 256) (b : Fin 128) :
    Host.gather gather_S256x128x2500_S256x128x1x1_S256x128x1_n_2_01_01_2_3_111
      (shapeCast S256x128x2500 (A_main_v5 (F := Ideal) x0 x1 x3) shapeCasts_S256x128x50x50_S256x128x2500) (scoreIndex x2) (ix3 n b 0)
      = ((D.f n.val b (D.cur n.val b) + D.t (D.prev n.val b) (D.cur n.val b) : ℝ) : EReal) := by
  rw [gather_scores, ← flat_apply G n b (D.prev n.val b) (D.cur n.val b) (by omega)]
  refine congrArg _ (congrArg (ix3 n b) (Fin.ext ?_))
  show min (scoreIndex x2 (ix4 n b 0 0)).toInt.toNat 2499 = _
  rw [scoreIndex_apply G, toInt_ofNat_of_lt (by omega)]
  show min ((((D.prev n.val b).val * 50 + (D.cur n.val b).val : ℕ) : ℤ).toNat) 2499 = (D.prev n.val b).val * 50 + (D.cur n.val b).val
  omega

theorem pathScores_apply (G : Good D x0 x1 x2 x3) (n : Fin 256) (b : Fin 128) :
    pathScores x0 x1 x2 x3 (ix2 n b) = ((D.f n.val b (D.cur n.val b) + D.t (D.prev n.val b) (D.cur n.val b) : ℝ) : EReal) := by
  unfold pathScores
  unfold id
  pointwise [score_read G, G.mask]
  rw [show (FloatOps.uitofp (F := Ideal) .f32 (IntOp.cmpi .ne 1#32 0#32) : EReal) = 1 from by
    show (((IntOp.cmpi .ne 1#32 0#32).toNat : ℝ) : EReal) = 1
    rw [show (IntOp.cmpi .ne 1#32 0#32).toNat = 1 from rfl]
    simp]
  exact mul_one _

theorem endIndex_apply (G : Good D x0 x1 x2 x3) (b : Fin 128) : endIndex x1 (ix3 b 0 0) = BitVec.ofNat 32 255 := by
  unfold endIndex
  pointwise [lengths_apply G.mask]
  rfl

theorem endTags_apply (G : Good D x0 x1 x2 x3) (b : Fin 128) : endTags x1 x2 (ix1 b) = BitVec.ofNat 32 (D.cur 255 b).val := by
  have h : Host.gather gather_S128x256_S128x1x1_S128x1_n_1_0_0_1_2_11 x2 (endIndex x1) (ix2 b 0) = BitVec.ofNat 32 (D.cur 255 b).val := by
    rw [gather_tags]
    refine Eq.trans ?_ (G.tag b (255 : Fin 256))
    refine congrArg x2 (congrArg (ix2 b) (Fin.ext ?_))
    show min (endIndex x1 (ix3 b 0 0)).toInt.toNat 255 = 255
    rw [endIndex_apply G]
    rfl
  unfold endTags
  pointwise [h]

theorem stopIndex_apply (G : Good D x0 x1 x2 x3) (b : Fin 128) : stopIndex x1 x2 (ix2 b 0) = BitVec.ofNat 32 (D.cur 255 b).val := by
  unfold stopIndex
  pointwise [endTags_apply G]
  exact select_nonneg _ (by omega) _

theorem stopScores_apply (G : Good D x0 x1 x2 x3) (b : Fin 128) : stopScores x1 x2 x3 (ix1 b) = ((D.t (D.cur 255 b) 49 : ℝ) : EReal) := by
  unfold stopScores
  have h : (⟨min (stopIndex x1 x2 (ix2 b 0)).toInt.toNat 49, by omega⟩ : Fin 50) = D.cur 255 b := by
    refine Fin.ext ?_
    show min (stopIndex x1 x2 (ix2 b 0)).toInt.toNat 49 = _
    rw [stopIndex_apply G, toInt_ofNat_of_lt (by omega)]
    omega
  rw [gather_stop, h, ← G.tran]
  pointwise

theorem gold_sum (D : Data) (n : ℕ) (b : Fin 128) :
    D.gold n b = ∑ k ∈ Finset.range (n + 1), (D.f k b (D.cur k b) + D.t (D.prev k b) (D.cur k b)) := by
  induction n with
  | zero => simp [Data.gold]
  | succ n ih => rw [Finset.sum_range_succ, ← ih]; rfl

/-- The reference's result, at a state that holds the last forward scores. -/
theorem result_apply (G : Good D x0 x1 x2 x3) {s : State Ideal} (H : Is D 255 s) :
    R_main_v72 s x0 x1 x2 x3 = fun _ => ((D.nll 255 : ℝ) : EReal) := by
  rw [result_eq]
  funext y
  rw [show y = ix2 0 0 from Cert.KernelIdeal.Hand.all_eq _ _]
  pointwise [closed_apply G 255 H.part, pathScores_apply G, stopScores_apply G]
  have hg : ∑ n : Fin 256, ∑ b : Fin 128, (D.f n.val b (D.cur n.val b) + D.t (D.prev n.val b) (D.cur n.val b)) = ∑ b, D.gold 255 b := by
    rw [Finset.sum_comm]
    refine Finset.sum_congr rfl fun b _ => ?_
    rw [gold_sum, Finset.sum_range]
  rw [show (D.nll 255 : ℝ) = _ from rfl, Data.nll, ← hg]
  simp only [Cert.KernelIdeal.Hand.coe_sum]
  rw [EReal.coe_sub, EReal.coe_add]

end Cert.ReferenceIdeal.Hand

end
-- ==== Proof.Value.lean ====
module

public import proofs.«01_k».proof.Defs
public import proofs.«01_k».proof.Proof.Frames
public import proofs.«01_k».proof.Proof.Pre
public import proofs.«01_k».proof.Proof.KI.Result
public import proofs.«01_k».proof.Proof.Ref.Result

@[expose] public section

/-!
The equation: from arguments that satisfy the precondition, the kernel and the reference both end with the negative log
likelihood of the data the arguments hold.
-/

set_option maxRecDepth 16384

noncomputable section

namespace Cert.Proof

open Idealize.ShloMosaic Idealize.SL.Sem
open Cert.KernelIdeal.Hand (Data Good)

/-- The reference's states are the forward algorithm's. -/
theorem states_is (m : (ℓ : Loc Cert.ReferenceIdeal.nD Cert.ReferenceIdeal.τ Cert.ReferenceIdeal.sig) → Buf (Elt Ideal) ℓ) (c : Dev Cert.ReferenceIdeal.nD)
    {D : Data} (G : Good D (m ((c.tc : Thread _ _).loc Cert.ReferenceIdeal.main_arg0)) (m ((c.tc : Thread _ _).loc Cert.ReferenceIdeal.main_arg1))
      (m ((c.tc : Thread _ _).loc Cert.ReferenceIdeal.main_arg2)) (m ((c.tc : Thread _ _).loc Cert.ReferenceIdeal.main_arg3))) (n : ℕ) (h : n ≤ 255) :
    Cert.ReferenceIdeal.Hand.Is D n (states m c n) := by
  induction n with
  | zero => exact Cert.ReferenceIdeal.Hand.Is.init G
  | succ n ih => exact (ih (by omega)).step (by omega)

theorem algebraic : Cert.algebraic_KernelIdeal_ReferenceIdeal_pre_finite_and_in_range (hPre_finite_and_in_range := preFacts) := by
  haveI := preFacts
  intro m g m' g' hpre hargs
  let D (c : Dev Cert.KernelIdeal.nD) : Data := dataOf (m ((c.tc : Thread _ _).loc Cert.KernelIdeal.main_arg0))
    (m ((c.tc : Thread _ _).loc Cert.KernelIdeal.main_arg2)) (m ((c.tc : Thread _ _).loc Cert.KernelIdeal.main_arg3))
  have G (c : Dev Cert.KernelIdeal.nD) : Good (D c) (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) := good_of_pre _ _ _ _ (hpre c)
  have G' (c : Dev Cert.ReferenceIdeal.nD) : Good (D c) (m' ((c.tc : Thread _ _).loc Cert.ReferenceIdeal.main_arg0))
      (m' ((c.tc : Thread _ _).loc Cert.ReferenceIdeal.main_arg1)) (m' ((c.tc : Thread _ _).loc Cert.ReferenceIdeal.main_arg2))
      (m' ((c.tc : Thread _ _).loc Cert.ReferenceIdeal.main_arg3)) := by
    obtain ⟨h0, h1, h2, h3⟩ := hargs c
    rw [h0, h1, h2, h3]
    exact G c
  refine ⟨fun c => fun _ => (((D c).nll 255 : ℝ) : EReal), Cert.KernelIdeal.Hand.value m g D G, ?_⟩
  refine (θ_run Cert.ReferenceIdeal.defs _ _).mono (fun r h c => ⟨(h c).1.trans ?_, (h c).2⟩)
    (Cert.ReferenceIdeal.StepRun.run_iter m' g' (states m') (fun _ => rfl) (fun _ _ => rfl))
  exact Cert.ReferenceIdeal.Hand.result_apply (G' c) (states_is m' c (G' c) 255 le_rfl)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Step
public import proofs.«01_k».proof.Proof.Frames
public import proofs.«01_k».proof.Proof.Pre
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, preFacts,
  frame_Kernel, frame_KernelIdeal, fun m g _ => Cert.KernelIdeal.Hand.frame m g,
  frame_ReferenceIdeal, fun m g _ => frame_ReferenceIdeal m g trivial, trivial, algebraic⟩

end Cert.Proof

end
